-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fin [hPre_fin : Cert.Pre_fin.Facts] (m : (ℓ : Loc Cert.KernelIdeal.nD Cert.KernelIdeal.τ Cert.KernelIdeal.sig) → Buf (Elt Ideal) ℓ) : Prop :=
  ∀ c : Dev Cert.KernelIdeal.nD,
    (Cert.Pre_fin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fin [hPre_fin : Cert.Pre_fin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_fin2 [hPre_fin2 : Cert.Pre_fin2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_fin2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_fin2 [hPre_fin2 : Cert.Pre_fin2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_fin2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_fin3 [hPre_fin3 : Cert.Pre_fin3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_fin3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_fin3 [hPre_fin3 : Cert.Pre_fin3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_fin3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_fin4 [hPre_fin4 : Cert.Pre_fin4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_fin4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_fin4 [hPre_fin4 : Cert.Pre_fin4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_fin4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_fin5 [hPre_fin5 : Cert.Pre_fin5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_fin5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_fin5 [hPre_fin5 : Cert.Pre_fin5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_fin5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_fin [hKernelIdeal : Cert.KernelIdeal.Facts] [hPre_fin : Cert.Pre_fin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fin m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_fin [hReferenceIdeal : Cert.ReferenceIdeal.Facts] [hPre_fin : Cert.Pre_fin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_fin2 [hKernel2Ideal : Cert.Kernel2Ideal.Facts] [hPre_fin2 : Cert.Pre_fin2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_fin2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_fin2 [hReference2Ideal : Cert.Reference2Ideal.Facts] [hPre_fin2 : Cert.Pre_fin2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_fin2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_fin3 [hKernel3Ideal : Cert.Kernel3Ideal.Facts] [hPre_fin3 : Cert.Pre_fin3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_fin3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_fin3 [hReference3Ideal : Cert.Reference3Ideal.Facts] [hPre_fin3 : Cert.Pre_fin3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_fin3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_fin4 [hKernel4Ideal : Cert.Kernel4Ideal.Facts] [hPre_fin4 : Cert.Pre_fin4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_fin4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_fin4 [hReference4Ideal : Cert.Reference4Ideal.Facts] [hPre_fin4 : Cert.Pre_fin4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_fin4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_fin5 [hKernel5Ideal : Cert.Kernel5Ideal.Facts] [hPre_fin5 : Cert.Pre_fin5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_fin5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_fin5 [hReference5Ideal : Cert.Reference5Ideal.Facts] [hPre_fin5 : Cert.Pre_fin5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_fin5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def preserves_Kernel_KernelIdeal : Prop :=
  True

def algebraic_KernelIdeal_ReferenceIdeal_pre_fin [hKernelIdeal : Cert.KernelIdeal.Facts] [hReferenceIdeal : Cert.ReferenceIdeal.Facts] [hPre_fin : Cert.Pre_fin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "scale" .f32 0x3DB504F3#32 (((Real.sqrt 128)⁻¹ : ℝ) : EReal)
  ∧ IdealRules.named_const.Statement Cert.Kernel2Ideal.κ "ln2" .f32 0x3F317218#32 ((Real.log 2 : ℝ) : EReal)

def algebraic_Kernel2Ideal_Reference2Ideal_pre_fin2 [hKernel2Ideal : Cert.Kernel2Ideal.Facts] [hReference2Ideal : Cert.Reference2Ideal.Facts] [hPre_fin2 : Cert.Pre_fin2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_fin2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "scale" .f32 0x3DD105EC#32 (((Real.sqrt 96)⁻¹ : ℝ) : EReal)
  ∧ IdealRules.named_const.Statement Cert.Kernel3Ideal.κ "ln2" .f32 0x3F317218#32 ((Real.log 2 : ℝ) : EReal)

def algebraic_Kernel3Ideal_Reference3Ideal_pre_fin3 [hKernel3Ideal : Cert.Kernel3Ideal.Facts] [hReference3Ideal : Cert.Reference3Ideal.Facts] [hPre_fin3 : Cert.Pre_fin3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_fin3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal_pre_fin4 [hKernel4Ideal : Cert.Kernel4Ideal.Facts] [hReference4Ideal : Cert.Reference4Ideal.Facts] [hPre_fin4 : Cert.Pre_fin4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_fin4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "log2e" .f32 0x3FB8AA3B#32 (((Real.log 2)⁻¹ : ℝ) : EReal)

def algebraic_Kernel5Ideal_Reference5Ideal_pre_fin5 [hKernel5Ideal : Cert.Kernel5Ideal.Facts] [hReference5Ideal : Cert.Reference5Ideal.Facts] [hPre_fin5 : Cert.Pre_fin5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_fin5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v62_0)) (v1 : (c : Dev Cert.Kernel6Ideal.nD) → Buf (Elt Ideal) ((c.tc : Thread Cert.Kernel6Ideal.nD Cert.Kernel6Ideal.τ).loc Cert.Kernel6Ideal.main_v62_1)) (v2 : (c : Dev Cert.Kernel6Ideal.nD) → Buf (Elt Ideal) ((c.tc : Thread Cert.Kernel6Ideal.nD Cert.Kernel6Ideal.τ).loc Cert.Kernel6Ideal.main_v62_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v62_0) = v0 c
          ∧ r.2.mem ((c.tc : Thread Cert.Kernel6Ideal.nD Cert.Kernel6Ideal.τ).loc Cert.Kernel6Ideal.main_v62_1) = v1 c
          ∧ r.2.mem ((c.tc : Thread Cert.Kernel6Ideal.nD Cert.Kernel6Ideal.τ).loc Cert.Kernel6Ideal.main_v62_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v108) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v107) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)) (v3 : (c : Dev Cert.Kernel8Ideal.nD) → Buf (Elt Ideal) ((c.tc : Thread Cert.Kernel8Ideal.nD Cert.Kernel8Ideal.τ).loc Cert.Kernel8Ideal.main_v9_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_v9_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v27) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_v31) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "ln2" .f32 0x3F317218#32 ((Real.log 2 : ℝ) : EReal)

def preserves_Kernel10_Kernel10Ideal : Prop :=
  IdealRules.named_const.Statement Cert.Kernel10Ideal.κ "log2e" .f32 0x3FB8AA3B#32 (((Real.log 2)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hPre_fin : Cert.Pre_fin.Facts) (hPre_fin2 : Cert.Pre_fin2.Facts) (hPre_fin3 : Cert.Pre_fin3.Facts) (hPre_fin4 : Cert.Pre_fin4.Facts) (hPre_fin5 : Cert.Pre_fin5.Facts),
    quiescent_Kernel (hKernel := hKernel)
    ∧ quiescent_KernelIdeal (hKernelIdeal := hKernelIdeal)
    ∧ quiescent_KernelIdeal_pre_fin (hKernelIdeal := hKernelIdeal) (hPre_fin := hPre_fin)
    ∧ quiescent_ReferenceIdeal (hReferenceIdeal := hReferenceIdeal)
    ∧ quiescent_ReferenceIdeal_pre_fin (hReferenceIdeal := hReferenceIdeal) (hPre_fin := hPre_fin)
    ∧ quiescent_Kernel2 (hKernel2 := hKernel2)
    ∧ quiescent_Kernel2Ideal (hKernel2Ideal := hKernel2Ideal)
    ∧ quiescent_Kernel2Ideal_pre_fin2 (hKernel2Ideal := hKernel2Ideal) (hPre_fin2 := hPre_fin2)
    ∧ quiescent_Reference2Ideal (hReference2Ideal := hReference2Ideal)
    ∧ quiescent_Reference2Ideal_pre_fin2 (hReference2Ideal := hReference2Ideal) (hPre_fin2 := hPre_fin2)
    ∧ quiescent_Kernel3 (hKernel3 := hKernel3)
    ∧ quiescent_Kernel3Ideal (hKernel3Ideal := hKernel3Ideal)
    ∧ quiescent_Kernel3Ideal_pre_fin3 (hKernel3Ideal := hKernel3Ideal) (hPre_fin3 := hPre_fin3)
    ∧ quiescent_Reference3Ideal (hReference3Ideal := hReference3Ideal)
    ∧ quiescent_Reference3Ideal_pre_fin3 (hReference3Ideal := hReference3Ideal) (hPre_fin3 := hPre_fin3)
    ∧ quiescent_Kernel4 (hKernel4 := hKernel4)
    ∧ quiescent_Kernel4Ideal (hKernel4Ideal := hKernel4Ideal)
    ∧ quiescent_Kernel4Ideal_pre_fin4 (hKernel4Ideal := hKernel4Ideal) (hPre_fin4 := hPre_fin4)
    ∧ quiescent_Reference4Ideal (hReference4Ideal := hReference4Ideal)
    ∧ quiescent_Reference4Ideal_pre_fin4 (hReference4Ideal := hReference4Ideal) (hPre_fin4 := hPre_fin4)
    ∧ quiescent_Kernel5 (hKernel5 := hKernel5)
    ∧ quiescent_Kernel5Ideal (hKernel5Ideal := hKernel5Ideal)
    ∧ quiescent_Kernel5Ideal_pre_fin5 (hKernel5Ideal := hKernel5Ideal) (hPre_fin5 := hPre_fin5)
    ∧ quiescent_Reference5Ideal (hReference5Ideal := hReference5Ideal)
    ∧ quiescent_Reference5Ideal_pre_fin5 (hReference5Ideal := hReference5Ideal) (hPre_fin5 := hPre_fin5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal_pre_fin (hKernelIdeal := hKernelIdeal) (hReferenceIdeal := hReferenceIdeal) (hPre_fin := hPre_fin)
    ∧ preserves_Kernel2_Kernel2Ideal
    ∧ algebraic_Kernel2Ideal_Reference2Ideal_pre_fin2 (hKernel2Ideal := hKernel2Ideal) (hReference2Ideal := hReference2Ideal) (hPre_fin2 := hPre_fin2)
    ∧ preserves_Kernel3_Kernel3Ideal
    ∧ algebraic_Kernel3Ideal_Reference3Ideal_pre_fin3 (hKernel3Ideal := hKernel3Ideal) (hReference3Ideal := hReference3Ideal) (hPre_fin3 := hPre_fin3)
    ∧ preserves_Kernel4_Kernel4Ideal
    ∧ algebraic_Kernel4Ideal_Reference4Ideal_pre_fin4 (hKernel4Ideal := hKernel4Ideal) (hReference4Ideal := hReference4Ideal) (hPre_fin4 := hPre_fin4)
    ∧ preserves_Kernel5_Kernel5Ideal
    ∧ algebraic_Kernel5Ideal_Reference5Ideal_pre_fin5 (hKernel5Ideal := hKernel5Ideal) (hReference5Ideal := hReference5Ideal) (hPre_fin5 := hPre_fin5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
-- ==== Pre_fin.lean ====
abbrev S2x2048x1024 : Shape := ⟨3, ![2, 2048, 1024]⟩
abbrev S1024 : Shape := ⟨1, ![1024]⟩
abbrev S1024x6048 : Shape := ⟨2, ![1024, 6048]⟩
abbrev S2x2048x6048 : Shape := ⟨3, ![2, 2048, 6048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x6048 : S_.BroadcastsInDim S1024x6048 (![] : Fin 0 → Fin S1024x6048.rank)
  reducesTo_S1024x6048_S_d0_1 : S1024x6048.ReducesTo [0, 1] S_
  bcast_S_S2x2048x6048 : S_.BroadcastsInDim S2x2048x6048 (![] : Fin 0 → Fin S2x2048x6048.rank)
  reducesTo_S2x2048x6048_S_d0_1_2 : S2x2048x6048.ReducesTo [0, 1, 2] S_

variable [Facts]

def fn_part1 {F : FTy → Type} [FloatOps F] (main_arg5 : FVec F S2x2048x1024 .f32) (main_v13 : IVec S_ 1) (main_v16 : IVec S2x2048x6048 1) : IVec S_ 1 :=
  let main_c_5 : IVec S_ 1 := constantI S_ 1 1#1
  let main_v17 : IVec S_ 1 := (fun x v => Host.reduce IntOp.andi x v reducesTo_S2x2048x6048_S_d0_1_2 h_S_) main_v16 main_c_5
  let main_v18 : IVec S_ 1 := andi main_v13 main_v17
  let main_v19 : FVec F S2x2048x1024 .f32 := Host.absf main_arg5
  let main_cst_6 : FVec F S_ .f32 := constant S_ .f32 0x7F800000#32
  let main_v20 : FVec F S2x2048x1024 .f32 := broadcastInDim S2x2048x1024 ![] bcast_S_S2x2048x1024 main_cst_6
  let main_v21 : IVec S2x2048x1024 1 := cmpf .olt main_v19 main_v20
  let main_c_7 : IVec S_ 1 := constantI S_ 1 1#1
  let main_v22 : IVec S_ 1 := (fun x v => Host.reduce IntOp.andi x v reducesTo_S2x2048x1024_S_d0_1_2 h_S_) main_v21 main_c_7
  let main_v23 : IVec S_ 1 := andi main_v18 main_v22
  main_v23

def fn {F : FTy → Type} [FloatOps F] (main_arg0 : FVec F S2x2048x1024 .f32) (main_arg1 : FVec F S1024 .f32) (main_arg2 : FVec F S1024 .f32) (main_arg3 : FVec F S1024x6048 .f32) (main_arg4 : FVec F S2x2048x6048 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6048 .f32 := Host.absf main_arg3
  let main_cst_2 : FVec F S_ .f32 := constant S_ .f32 0x7F800000#32
  let main_v10 : FVec F S1024x6048 .f32 := broadcastInDim S1024x6048 ![] bcast_S_S1024x6048 main_cst_2
  let main_v11 : IVec S1024x6048 1 := cmpf .olt main_v9 main_v10
  let main_c_3 : IVec S_ 1 := constantI S_ 1 1#1
  let main_v12 : IVec S_ 1 := (fun x v => Host.reduce IntOp.andi x v reducesTo_S1024x6048_S_d0_1 h_S_) main_v11 main_c_3
  let main_v13 : IVec S_ 1 := andi main_v8 main_v12
  let main_v14 : FVec F S2x2048x6048 .f32 := Host.absf main_arg4
  let main_cst_4 : FVec F S_ .f32 := constant S_ .f32 0x7F800000#32
  let main_v15 : FVec F S2x2048x6048 .f32 := broadcastInDim S2x2048x6048 ![] bcast_S_S2x2048x6048 main_cst_4
  let main_v16 : IVec S2x2048x6048 1 := cmpf .olt main_v14 main_v15
  fn_part1 (F := F) main_arg5 main_v13 main_v16
-- ==== Pre_fin2.lean ====
abbrev S2x2048x512 : Shape := ⟨3, ![2, 2048, 512]⟩
abbrev S2x256x1024 : Shape := ⟨3, ![2, 256, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn {F : FTy → Type} [FloatOps F] (main_arg0 : FVec F S2x2048x512 .f32) (main_arg1 : FVec F S2x256x1024 .f32) (main_arg2 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x256x1024 .f32 := Host.absf main_arg1
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_c_1 : IVec S_ 1 := constantI S_ 1 1#1
  let main_v7 : IVec S_ 1 := (fun x v => Host.reduce IntOp.andi x v reducesTo_S2x256x1024_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  main_v13
-- ==== Pre_fin3.lean ====
abbrev S2x2048x8x64 : Shape := ⟨4, ![2, 2048, 8, 64]⟩
abbrev S2x2048x8x32 : Shape := ⟨4, ![2, 2048, 8, 32]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8x32 : S_.BroadcastsInDim S2x2048x8x32 (![] : Fin 0 → Fin S2x2048x8x32.rank)
  reducesTo_S2x2048x8x32_S_d0_1_2_3 : S2x2048x8x32.ReducesTo [0, 1, 2, 3] S_

variable [Facts]

def fn_part1 {F : FTy → Type} [FloatOps F] (main_arg4 : FVec F S2x2048x8x64 .f32) (main_arg5 : FVec F S2x2048x8x64 .f32) (main_v13 : IVec S_ 1) (main_v16 : IVec S2x2048x8x32 1) : IVec S_ 1 :=
  let main_c_5 : IVec S_ 1 := constantI S_ 1 1#1
  let main_v17 : IVec S_ 1 := (fun x v => Host.reduce IntOp.andi x v reducesTo_S2x2048x8x32_S_d0_1_2_3 h_S_) main_v16 main_c_5
  let main_v18 : IVec S_ 1 := andi main_v13 main_v17
  let main_v19 : FVec F S2x2048x8x64 .f32 := Host.absf main_arg4
  let main_cst_6 : FVec F S_ .f32 := constant S_ .f32 0x7F800000#32
  let main_v20 : FVec F S2x2048x8x64 .f32 := broadcastInDim S2x2048x8x64 ![] bcast_S_S2x2048x8x64 main_cst_6
  let main_v21 : IVec S2x2048x8x64 1 := cmpf .olt main_v19 main_v20
  let main_c_7 : IVec S_ 1 := constantI S_ 1 1#1
  let main_v22 : IVec S_ 1 := (fun x v => Host.reduce IntOp.andi x v reducesTo_S2x2048x8x64_S_d0_1_2_3 h_S_) main_v21 main_c_7
  let main_v23 : IVec S_ 1 := andi main_v18 main_v22
  let main_v24 : FVec F S2x2048x8x64 .f32 := Host.absf main_arg5
  let main_cst_8 : FVec F S_ .f32 := constant S_ .f32 0x7F800000#32
  let main_v25 : FVec F S2x2048x8x64 .f32 := broadcastInDim S2x2048x8x64 ![] bcast_S_S2x2048x8x64 main_cst_8
  let main_v26 : IVec S2x2048x8x64 1 := cmpf .olt main_v24 main_v25
  let main_c_9 : IVec S_ 1 := constantI S_ 1 1#1
  let main_v27 : IVec S_ 1 := (fun x v => Host.reduce IntOp.andi x v reducesTo_S2x2048x8x64_S_d0_1_2_3 h_S_) main_v26 main_c_9
  let main_v28 : IVec S_ 1 := andi main_v23 main_v27
  main_v28

def fn {F : FTy → Type} [FloatOps F] (main_arg0 : FVec F S2x2048x8x64 .f32) (main_arg1 : FVec F S2x2048x8x32 .f32) (main_arg2 : FVec F S2x2048x8x64 .f32) (main_arg3 : FVec F S2x2048x8x32 .f32) (main_arg4 : FVec F S2x2048x8x64 .f32) (main_arg5 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x32 .f32 := Host.absf main_arg1
  let main_cst_0 : FVec F S_ .f32 := constant S_ .f32 0x7F800000#32
  let main_v5 : FVec F S2x2048x8x32 .f32 := broadcastInDim S2x2048x8x32 ![] bcast_S_S2x2048x8x32 main_cst_0
  let main_v6 : IVec S2x2048x8x32 1 := cmpf .olt main_v4 main_v5
  let main_c_1 : IVec S_ 1 := constantI S_ 1 1#1
  let main_v7 : IVec S_ 1 := (fun x v => Host.reduce IntOp.andi x v reducesTo_S2x2048x8x32_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x8x32 .f32 := Host.absf main_arg3
  let main_cst_4 : FVec F S_ .f32 := constant S_ .f32 0x7F800000#32
  let main_v15 : FVec F S2x2048x8x32 .f32 := broadcastInDim S2x2048x8x32 ![] bcast_S_S2x2048x8x32 main_cst_4
  let main_v16 : IVec S2x2048x8x32 1 := cmpf .olt main_v14 main_v15
  fn_part1 (F := F) main_arg4 main_arg5 main_v13 main_v16
-- ==== Pre_fin4.lean ====
abbrev S2x2048x8x64 : Shape := ⟨4, ![2, 2048, 8, 64]⟩
abbrev S2x2048x8x32 : Shape := ⟨4, ![2, 2048, 8, 32]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel
  bcast_S_S2x2048x8x32 : S_.BroadcastsInDim S2x2048x8x32 (![] : Fin 0 → Fin S2x2048x8x32.rank)
  reducesTo_S2x2048x8x32_S_d0_1_2_3 : S2x2048x8x32.ReducesTo [0, 1, 2, 3] S_

variable [Facts]

def fn_part1 {F : FTy → Type} [FloatOps F] (main_arg4 : FVec F S2x2048x8x64 .f32) (main_v13 : IVec S_ 1) (main_v16 : IVec S2x2048x8x32 1) : IVec S_ 1 :=
  let main_c_5 : IVec S_ 1 := constantI S_ 1 1#1
  let main_v17 : IVec S_ 1 := (fun x v => Host.reduce IntOp.andi x v reducesTo_S2x2048x8x32_S_d0_1_2_3 h_S_) main_v16 main_c_5
  let main_v18 : IVec S_ 1 := andi main_v13 main_v17
  let main_v19 : FVec F S2x2048x8x64 .f32 := Host.absf main_arg4
  let main_cst_6 : FVec F S_ .f32 := constant S_ .f32 0x7F800000#32
  let main_v20 : FVec F S2x2048x8x64 .f32 := broadcastInDim S2x2048x8x64 ![] bcast_S_S2x2048x8x64 main_cst_6
  let main_v21 : IVec S2x2048x8x64 1 := cmpf .olt main_v19 main_v20
  let main_c_7 : IVec S_ 1 := constantI S_ 1 1#1
  let main_v22 : IVec S_ 1 := (fun x v => Host.reduce IntOp.andi x v reducesTo_S2x2048x8x64_S_d0_1_2_3 h_S_) main_v21 main_c_7
  let main_v23 : IVec S_ 1 := andi main_v18 main_v22
  main_v23

def fn {F : FTy → Type} [FloatOps F] (main_arg0 : FVec F S2x2048x8x64 .f32) (main_arg1 : FVec F S2x2048x8x32 .f32) (main_arg2 : FVec F S2x2048x8x64 .f32) (main_arg3 : FVec F S2x2048x8x32 .f32) (main_arg4 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x32 .f32 := Host.absf main_arg1
  let main_cst_0 : FVec F S_ .f32 := constant S_ .f32 0x7F800000#32
  let main_v5 : FVec F S2x2048x8x32 .f32 := broadcastInDim S2x2048x8x32 ![] bcast_S_S2x2048x8x32 main_cst_0
  let main_v6 : IVec S2x2048x8x32 1 := cmpf .olt main_v4 main_v5
  let main_c_1 : IVec S_ 1 := constantI S_ 1 1#1
  let main_v7 : IVec S_ 1 := (fun x v => Host.reduce IntOp.andi x v reducesTo_S2x2048x8x32_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  let main_v14 : FVec F S2x2048x8x32 .f32 := Host.absf main_arg3
  let main_cst_4 : FVec F S_ .f32 := constant S_ .f32 0x7F800000#32
  let main_v15 : FVec F S2x2048x8x32 .f32 := broadcastInDim S2x2048x8x32 ![] bcast_S_S2x2048x8x32 main_cst_4
  let main_v16 : IVec S2x2048x8x32 1 := cmpf .olt main_v14 main_v15
  fn_part1 (F := F) main_arg4 main_v13 main_v16
-- ==== Pre_fin5.lean ====
abbrev S2x2048x512 : Shape := ⟨3, ![2, 2048, 512]⟩
abbrev S2x256x1024 : Shape := ⟨3, ![2, 256, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x256x1024 : S_.BroadcastsInDim S2x256x1024 (![] : Fin 0 → Fin S2x256x1024.rank)
  reducesTo_S2x256x1024_S_d0_1_2 : S2x256x1024.ReducesTo [0, 1, 2] S_

variable [Facts]

def fn {F : FTy → Type} [FloatOps F] (main_arg0 : FVec F S2x2048x512 .f32) (main_arg1 : FVec F S2x256x1024 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x256x1024 .f32 := Host.absf main_arg1
  let main_cst_0 : FVec F S_ .f32 := constant S_ .f32 0x7F800000#32
  let main_v5 : FVec F S2x256x1024 .f32 := broadcastInDim S2x256x1024 ![] bcast_S_S2x256x1024 main_cst_0
  let main_v6 : IVec S2x256x1024 1 := cmpf .olt main_v4 main_v5
  let main_c_1 : IVec S_ 1 := constantI S_ 1 1#1
  let main_v7 : IVec S_ 1 := (fun x v => Host.reduce IntOp.andi x v reducesTo_S2x256x1024_S_d0_1_2 h_S_) main_v6 main_c_1
  let main_v8 : IVec S_ 1 := andi main_v3 main_v7
  main_v8
-- ==== Kernel.lean ====
abbrev S2x2048x1024 : Shape := ⟨3, ![2, 2048, 1024]⟩
abbrev S1024 : Shape := ⟨1, ![1024]⟩
abbrev S1024x6048 : Shape := ⟨2, ![1024, 6048]⟩
abbrev S2x2048x6048 : Shape := ⟨3, ![2, 2048, 6048]⟩
abbrev S6048x1024 : Shape := ⟨2, ![6048, 1024]⟩
abbrev S4x1512x1024 : Shape := ⟨3, ![4, 1512, 1024]⟩
abbrev S_ : Shape := ⟨0, ![]⟩
abbrev S4x1536x1024 : Shape := ⟨3, ![4, 1536, 1024]⟩
abbrev S4096x6048 : Shape := ⟨2, ![4096, 6048]⟩
abbrev S4096x4480 : Shape := ⟨2, ![4096, 4480]⟩
abbrev S4096x64 : Shape := ⟨2, ![4096, 64]⟩
abbrev S4096x32 : Shape := ⟨2, ![4096, 32]⟩
abbrev S4096x1536 : Shape := ⟨2, ![4096, 1536]⟩
abbrev S4096x6144 : Shape := ⟨2, ![4096, 6144]⟩
abbrev S1x1512x1024 : Shape := ⟨3, ![1, 1512, 1024]⟩
abbrev S1512x1024 : Shape := ⟨2, ![1512, 1024]⟩
abbrev S1x1456x1024 : Shape := ⟨3, ![1, 1456, 1024]⟩
abbrev S1456x1024 : Shape := ⟨2, ![1456, 1024]⟩
abbrev S64x1024 : Shape := ⟨2, ![64, 1024]⟩
abbrev S1x32x1024 : Shape := ⟨3, ![1, 32, 1024]⟩
abbrev S32x1024 : Shape := ⟨2, ![32, 1024]⟩
abbrev S1x24x1024 : Shape := ⟨3, ![1, 24, 1024]⟩
abbrev S24x1024 : Shape := ⟨2, ![24, 1024]⟩
abbrev S6144x1024 : Shape := ⟨2, ![6144, 1024]⟩
abbrev S4096x1024 : Shape := ⟨2, ![4096, 1024]⟩
abbrev S1x1024 : Shape := ⟨2, ![1, 1024]⟩
abbrev S512x3072 : Shape := ⟨2, ![512, 3072]⟩
abbrev S3072x1024 : Shape := ⟨2, ![3072, 1024]⟩
abbrev S512x1024 : Shape := ⟨2, ![512, 1024]⟩
abbrev S512 : Shape := ⟨1, ![512]⟩
abbrev S512x1 : Shape := ⟨2, ![512, 1]⟩

abbrev nBuf : Space → Nat
  | .hbm => 44
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x6048, .f32⟩
  | .hbm, ⟨4, _⟩ => ⟨S2x2048x6048, .f32⟩
  | .hbm, ⟨5, _⟩ => ⟨S2x2048x1024, .f32⟩
  | .hbm, ⟨6, _⟩ => ⟨S6048x1024, .f32⟩
  | .hbm, ⟨7, _⟩ => ⟨S4x1512x1024, .f32⟩
  | .hbm, ⟨8, _⟩ => ⟨S_, .f32⟩
  | .hbm, ⟨9, _⟩ => ⟨S4x1536x1024, .f32⟩
  | .hbm, ⟨10, _⟩ => ⟨S4x1536x1024, .bf16⟩
  | .hbm, ⟨11, _⟩ => ⟨S4096x6048, .f32⟩
  | .hbm, ⟨12, _⟩ => ⟨S4096x4480, .f32⟩
  | .hbm, ⟨13, _⟩ => ⟨S_, .f32⟩
  | .hbm, ⟨14, _⟩ => ⟨S4096x64, .f32⟩
  | .hbm, ⟨15, _⟩ => ⟨S4096x32, .f32⟩
  | .hbm, ⟨16, _⟩ => ⟨S_, .f32⟩
  | .hbm, ⟨17, _⟩ => ⟨S4096x32, .f32⟩
  | .hbm, ⟨18, _⟩ => ⟨S4096x1536, .f32⟩
  | .hbm, ⟨19, _⟩ => ⟨S4096x6144, .f32⟩
  | .hbm, ⟨20, _⟩ => ⟨S4096x6144, .bf16⟩
  | .hbm, ⟨21, _⟩ => ⟨S1x1512x1024, .bf16⟩
  | .hbm, ⟨22, _⟩ => ⟨S1512x1024, .bf16⟩
  | .hbm, ⟨23, _⟩ => ⟨S1x1512x1024, .bf16⟩
  | .hbm, ⟨24, _⟩ => ⟨S1512x1024, .bf16⟩
  | .hbm, ⟨25, _⟩ => ⟨S1x1456x1024, .bf16⟩
  | .hbm, ⟨26, _⟩ => ⟨S1456x1024, .bf16⟩
  | .hbm, ⟨27, _⟩ => ⟨S_, .bf16⟩
  | .hbm, ⟨28, _⟩ => ⟨S64x1024, .bf16⟩
  | .hbm, ⟨29, _⟩ => ⟨S1x32x1024, .bf16⟩
  | .hbm, ⟨30, _⟩ => ⟨S32x1024, .bf16⟩
  | .hbm, ⟨31, _⟩ => ⟨S_, .bf16⟩
  | .hbm, ⟨32, _⟩ => ⟨S32x1024, .bf16⟩
  | .hbm, ⟨33, _⟩ => ⟨S1x24x1024, .bf16⟩
  | .hbm, ⟨34, _⟩ => ⟨S24x1024, .bf16⟩
  | .hbm, ⟨35, _⟩ => ⟨S1x1512x1024, .bf16⟩
  | .hbm, ⟨36, _⟩ => ⟨S1512x1024, .bf16⟩
  | .hbm, ⟨37, _⟩ => ⟨S6144x1024, .bf16⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S1x1024, .f32⟩
  | .hbm, ⟨43, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S3072x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 2], ![false, false]⟩

def k0_cond4 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_8 : BitVec 32 := 0#32
  let v18 : BitVec 1 := Scalar.cmpi .ne v17 c0_i32_8
  v18

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S2x2048x1024 : Shape := ⟨3, ![2, 2048, 1024]⟩
abbrev S1024 : Shape := ⟨1, ![1024]⟩
abbrev S1024x6048 : Shape := ⟨2, ![1024, 6048]⟩
abbrev S2x2048x6048 : Shape := ⟨3, ![2, 2048, 6048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S1024x6048, .f32⟩
  | .hbm, ⟨4, _⟩ => ⟨S2x2048x6048, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | .hbm, ⟨42, _⟩ => ⟨S2x2048x6048, .f32⟩
  | .hbm, ⟨43, _⟩ => ⟨S_, .f32⟩
  | .hbm, ⟨44, _⟩ => ⟨S2x2048x1024, .f32⟩
  | .hbm, ⟨45, _⟩ => ⟨S2x2048x1024, .f32⟩
  | .hbm, ⟨46, _⟩ => ⟨S_, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S2x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S1024, .f32⟩
  | .hbm, ⟨64, _⟩ => ⟨S2x2048x1024, .f32⟩
  | .hbm, ⟨65, _⟩ => ⟨S_, .f32⟩
  | .hbm, ⟨66, _⟩ => ⟨S2x2048, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S2x2048x1, .f32⟩
  | .hbm, ⟨71, _⟩ => ⟨S2x2048x1024, .f32⟩
  | .hbm, ⟨72, _⟩ => ⟨S_, .f32⟩
  | .hbm, ⟨73, _⟩ => ⟨S2x2048, .f32⟩
  | .hbm, ⟨74, _⟩ => ⟨S2x2048x1, .f32⟩
  | .hbm, ⟨75, _⟩ => ⟨S_, .f32⟩
  | .hbm, ⟨76, _⟩ => ⟨S2x2048x1, .f32⟩
  | .hbm, ⟨77, _⟩ => ⟨S2x2048x1, .f32⟩
  | .hbm, ⟨78, _⟩ => ⟨S_, .f32⟩
  | .hbm, ⟨79, _⟩ => ⟨S2x2048, .f32⟩
  | .hbm, ⟨80, _⟩ => ⟨S2x2048x1024, .f32⟩
  | .hbm, ⟨81, _⟩ => ⟨S2x2048x1024, .f32⟩
  | .hbm, ⟨82, _⟩ => ⟨S2x2048x1024, .f32⟩
  | .hbm, ⟨83, _⟩ => ⟨S_, .f32⟩
  | .hbm, ⟨84, _⟩ => ⟨S2x2048, .f32⟩
  | .hbm, ⟨85, _⟩ => ⟨S2x2048x1, .f32⟩
  | .hbm, ⟨86, _⟩ => ⟨S2x2048x1024, .f32⟩
  | .hbm, ⟨87, _⟩ => ⟨S2x2048x1, .f32⟩
  | .hbm, ⟨88, _⟩ => ⟨S_, .f32⟩
  | .hbm, ⟨89, _⟩ => ⟨S2x2048x1, .f32⟩
  | .hbm, ⟨90, _⟩ => ⟨S2x2048x1, .f32⟩
  | .hbm, ⟨91, _⟩ => ⟨S_, .f32⟩
  | .hbm, ⟨92, _⟩ => ⟨S2x2048, .f32⟩
  | .hbm, ⟨93, _⟩ => ⟨S2x2048x1024, .f32⟩
  | .hbm, ⟨94, _⟩ => ⟨S2x2048x1024, .f32⟩
  | .hbm, ⟨95, _⟩ => ⟨S4096x1024, .f32⟩
  | .hbm, ⟨96, _⟩ => ⟨S1x1024, .f32⟩
  | .hbm, ⟨97, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel2.lean ====
abbrev S2x2048x512 : Shape := ⟨3, ![2, 2048, 512]⟩
abbrev S2x256x1024 : Shape := ⟨3, ![2, 256, 1024]⟩
abbrev S4096x512 : Shape := ⟨2, ![4096, 512]⟩
abbrev S_ : Shape := ⟨0, ![]⟩
abbrev S512x1024 : Shape := ⟨2, ![512, 1024]⟩
abbrev S2x2048x4x128 : Shape := ⟨4, ![2, 2048, 4, 128]⟩
abbrev S512x512 : Shape := ⟨2, ![512, 512]⟩
abbrev S2x256x4x128 : Shape := ⟨4, ![2, 256, 4, 128]⟩
abbrev S2x4x256x2048 : Shape := ⟨4, ![2, 4, 256, 2048]⟩
abbrev S2x2048x4x256 : Shape := ⟨4, ![2, 2048, 4, 256]⟩
abbrev S2x2048x4 : Shape := ⟨3, ![2, 2048, 4]⟩
abbrev S2x2048x4x1 : Shape := ⟨4, ![2, 2048, 4, 1]⟩
abbrev S2x4x128x2048 : Shape := ⟨4, ![2, 4, 128, 2048]⟩
abbrev S1024x256 : Shape := ⟨2, ![1024, 256]⟩
abbrev S256x256 : Shape := ⟨2, ![256, 256]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩

abbrev nBuf : Space → Nat
  | .hbm => 59
  | .vmem => 20
  | .smem => 0
  | _ => 0

abbrev bufTy : (tb : Table) → Fin (tcTables nBuf tb) → BufTy
  | .hbm, ⟨0, _⟩ => ⟨S2x2048x512, .f32⟩
  | .hbm, ⟨1, _⟩ => ⟨S2x256x1024, .f32⟩
  | .hbm, ⟨2, _⟩ => ⟨S2x2048x512, .f32⟩
  | .hbm, ⟨3, _⟩ => ⟨S4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S512x1024, .f32⟩
  | .hbm, ⟨15, _⟩ => ⟨S512x1024, .bf16⟩
  | .hbm, ⟨16, _⟩ => ⟨S4096x512, .f32⟩
  | .hbm, ⟨17, _⟩ => ⟨S4096x512, .bf16⟩
  | .hbm, ⟨18, _⟩ => ⟨S4096x512, .f32⟩
  | .hbm, ⟨19, _⟩ => ⟨S2x2048x4x128, .f32⟩
  | .hbm, ⟨20, _⟩ => ⟨S512x512, .bf16⟩
  | .hbm, ⟨21, _⟩ => ⟨S512x512, .f32⟩
  | .hbm, ⟨22, _⟩ => ⟨S2x256x4x128, .f32⟩
  | .hbm, ⟨23, _⟩ => ⟨S512x512, .bf16⟩
  | .hbm, ⟨24, _⟩ => ⟨S512x512, .f32⟩
  | .hbm, ⟨25, _⟩ => ⟨S2x256x4x128, .f32⟩
  | .hbm, ⟨26, _⟩ => ⟨S2x4x256x2048, .f32⟩
  | .hbm, ⟨27, _⟩ => ⟨S2x2048x4x256, .f32⟩
  | .hbm, ⟨28, _⟩ => ⟨S_, .f32⟩
  | .hbm, ⟨29, _⟩ => ⟨S2x2048x4, .f32⟩
  | .hbm, ⟨30, _⟩ => ⟨S2x2048x4x1, .f32⟩
  | .hbm, ⟨31, _⟩ => ⟨S2x2048x4x256, .f32⟩
  | .hbm, ⟨32, _⟩ => ⟨S2x2048x4x256, .f32⟩
  | .hbm, ⟨33, _⟩ => ⟨S_, .f32⟩
  | .hbm, ⟨34, _⟩ => ⟨S_, .f32⟩
  | .hbm, ⟨35, _⟩ => ⟨S2x2048x4x256, .f32⟩
  | .hbm, ⟨36, _⟩ => ⟨S2x2048x4x256, .f32⟩
  | .hbm, ⟨37, _⟩ => ⟨S2x2048x4x256, .f32⟩
  | .hbm, ⟨38, _⟩ => ⟨S_, .f32⟩
  | .hbm, ⟨39, _⟩ => ⟨S2x2048x4, .f32⟩
  | .hbm, ⟨40, _⟩ => ⟨S2x2048x4x1, .f32⟩
  | .hbm, ⟨41, _⟩ => ⟨S2x2048x4x256, .bf16⟩
  | .hbm, ⟨42, _⟩ => ⟨S2x2048x4x256, .f32⟩
  | .hbm, ⟨43, _⟩ => ⟨S2x4x128x2048, .f32⟩
  | .hbm, ⟨44, _⟩ => ⟨S2x2048x4x128, .f32⟩
  | .hbm, ⟨45, _⟩ => ⟨S2x2048x4x128, .f32⟩
  | .hbm, ⟨46, _⟩ => ⟨S2x2048x4x128, .f32⟩
  | .hbm, ⟨47, _⟩ => ⟨S2x2048x4x1, .f32⟩
  | .hbm, ⟨48, _⟩ => ⟨S_, .f32⟩
  | .hbm, ⟨49, _⟩ => ⟨S_, .f32⟩
  | .hbm, ⟨50, _⟩ => ⟨S2x2048x4x1, .f32⟩
  | .hbm, ⟨51, _⟩ => ⟨S2x2048x4x1, .f32⟩
  | .hbm, ⟨52, _⟩ => ⟨S2x2048x4x1, .f32⟩
  | .hbm, ⟨53, _⟩ => ⟨S2x2048x4x128, .f32⟩
  | .hbm, ⟨54, _⟩ => ⟨S4096x512, .f32⟩
  | .hbm, ⟨55, _⟩ => ⟨S4096x512, .f32⟩
  | .hbm, ⟨56, _⟩ => ⟨S4096x512, .bf16⟩
  | .hbm, ⟨57, _⟩ => ⟨S512x512, .bf16⟩
  | .hbm, ⟨58, _⟩ => ⟨S512x512, .bf16⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .f32⟩
  | .local _ .vmem, ⟨19, _⟩ => ⟨S256x256, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46_0 : Ref sig .tc := ⟨.hbm, 56, rfl⟩
abbrev main_v46_1 : Ref sig .tc := ⟨.hbm, 57, rfl⟩
abbrev main_v46_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v89 : BitVec 1 := Scalar.cmpi .eq arg2 c1_i32
  let v90 : BitVec 32 := Scalar.extui v89
  let c0_i32_56 : BitVec 32 := 0#32
  let v91 : BitVec 1 := Scalar.cmpi .ne v90 c0_i32_56
  v91

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel2Ideal.lean ====
variable {F : FTy → Type} [FloatOps F] [Named F]
def κ : String → Option EReal := fun
  | "ln2" => some ((Real.log 2 : ℝ) : EReal)
  | "scale" => some (((Real.sqrt 128)⁻¹ : ℝ) : EReal)
  | _ => none
-- ==== Reference2Ideal.lean ====
abbrev S2x2048x512 : Shape := ⟨3, ![2, 2048, 512]⟩
abbrev S2x256x1024 : Shape := ⟨3, ![2, 256, 1024]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩
abbrev S4096x512 : Shape := ⟨2, ![4096, 512]⟩
abbrev S512x512 : Shape := ⟨2, ![512, 512]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x256x1024, .f32⟩
  | .hbm, ⟨2, _⟩ => ⟨S2x2048x512, .f32⟩
  | .hbm, ⟨3, _⟩ => ⟨S2x256x512, .f32⟩
  | .hbm, ⟨4, _⟩ => ⟨S2x256x512, .f32⟩
  | .hbm, ⟨5, _⟩ => ⟨S2x2048x4x128, .f32⟩
  | .hbm, ⟨6, _⟩ => ⟨S2x256x4x128, .f32⟩
  | .hbm, ⟨7, _⟩ => ⟨S2x256x4x128, .f32⟩
  | .hbm, ⟨8, _⟩ => ⟨S2x4x2048x256, .f32⟩
  | .hbm, ⟨9, _⟩ => ⟨S_, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S2x4x2048x1, .f32⟩
  | .hbm, ⟨16, _⟩ => ⟨S2x4x2048x256, .f32⟩
  | .hbm, ⟨17, _⟩ => ⟨S2x4x2048x256, .i1⟩
  | .hbm, ⟨18, _⟩ => ⟨S2x4x2048x256, .f32⟩
  | .hbm, ⟨19, _⟩ => ⟨S_, .f32⟩
  | .hbm, ⟨20, _⟩ => ⟨S2x4x2048, .f32⟩
  | .hbm, ⟨21, _⟩ => ⟨S_, .f32⟩
  | .hbm, ⟨22, _⟩ => ⟨S2x4x2048, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .i1⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S2x4x2048, .f32⟩
  | .hbm, ⟨37, _⟩ => ⟨S2x4x2048, .f32⟩
  | .hbm, ⟨38, _⟩ => ⟨S2x4x2048x1, .f32⟩
  | .hbm, ⟨39, _⟩ => ⟨S2x4x2048x256, .f32⟩
  | .hbm, ⟨40, _⟩ => ⟨S2x4x2048x256, .f32⟩
  | .hbm, ⟨41, _⟩ => ⟨S2x4x2048x256, .f32⟩
  | .hbm, ⟨42, _⟩ => ⟨S_, .f32⟩
  | .hbm, ⟨43, _⟩ => ⟨S2x4x2048, .f32⟩
  | .hbm, ⟨44, _⟩ => ⟨S2x4x2048x1, .f32⟩
  | .hbm, ⟨45, _⟩ => ⟨S2x4x2048x256, .f32⟩
  | .hbm, ⟨46, _⟩ => ⟨S2x4x2048x256, .f32⟩
  | .hbm, ⟨47, _⟩ => ⟨S2x4x2048x1, .f32⟩
  | .hbm, ⟨48, _⟩ => ⟨S_, .f32⟩
  | .hbm, ⟨49, _⟩ => ⟨S2x4x2048x1, .f32⟩
  | .hbm, ⟨50, _⟩ => ⟨S2x4x2048x1, .f32⟩
  | .hbm, ⟨51, _⟩ => ⟨S2x4x128x2048, .f32⟩
  | .hbm, ⟨52, _⟩ => ⟨S2x2048x4x128, .f32⟩
  | .hbm, ⟨53, _⟩ => ⟨S2x2048x512, .f32⟩
  | .hbm, ⟨54, _⟩ => ⟨S2x2048x4x128, .f32⟩
  | .hbm, ⟨55, _⟩ => ⟨S2x4x128x2048, .f32⟩
  | .hbm, ⟨56, _⟩ => ⟨S2x4x2048x256, .f32⟩
  | .hbm, ⟨57, _⟩ => ⟨S2x4x128x256, .f32⟩
  | .hbm, ⟨58, _⟩ => ⟨S2x256x4x128, .f32⟩
  | .hbm, ⟨59, _⟩ => ⟨S2x4x2048x256, .f32⟩
  | .hbm, ⟨60, _⟩ => ⟨S2x4x2048x256, .f32⟩
  | .hbm, ⟨61, _⟩ => ⟨S2x4x2048x256, .f32⟩
  | .hbm, ⟨62, _⟩ => ⟨S_, .f32⟩
  | .hbm, ⟨63, _⟩ => ⟨S2x4x2048, .f32⟩
  | .hbm, ⟨64, _⟩ => ⟨S2x4x2048x1, .f32⟩
  | .hbm, ⟨65, _⟩ => ⟨S2x4x2048x1, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x256, .f32⟩
  | .hbm, ⟨71, _⟩ => ⟨S2x4x2048x256, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S2x4x256x128, .f32⟩
  | .hbm, ⟨76, _⟩ => ⟨S2x256x4x128, .f32⟩
  | .hbm, ⟨77, _⟩ => ⟨S2x4x2048x128, .f32⟩
  | .hbm, ⟨78, _⟩ => ⟨S2x2048x4x128, .f32⟩
  | .hbm, ⟨79, _⟩ => ⟨S2x256x512, .f32⟩
  | .hbm, ⟨80, _⟩ => ⟨S2x256x512, .f32⟩
  | .hbm, ⟨81, _⟩ => ⟨S2x2048x512, .f32⟩
  | .hbm, ⟨82, _⟩ => ⟨S4096x512, .f32⟩
  | .hbm, ⟨83, _⟩ => ⟨S4096x512, .bf16⟩
  | .hbm, ⟨84, _⟩ => ⟨S512x512, .f32⟩
  | .hbm, ⟨85, _⟩ => ⟨S512x512, .bf16⟩
  | .hbm, ⟨86, _⟩ => ⟨S512x512, .f32⟩
  | .hbm, ⟨87, _⟩ => ⟨S512x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩

abbrev nD : Nat := 1
abbrev τ : Topo := Topo.v7x

variable {F : FTy → Type} [FloatOps F]
-- ==== Kernel3.lean ====
abbrev S2x2048x8x64 : Shape := ⟨4, ![2, 2048, 8, 64]⟩
abbrev S2x2048x8x32 : Shape := ⟨4, ![2, 2048, 8, 32]⟩
abbrev S_ : Shape := ⟨0, ![]⟩
abbrev S2x2048x8x128 : Shape := ⟨4, ![2, 2048, 8, 128]⟩
abbrev S2x8x2048x2048 : Shape := ⟨4, ![2, 8, 2048, 2048]⟩
abbrev S2x2048x8x2048 : Shape := ⟨4, ![2, 2048, 8, 2048]⟩
abbrev S2x2048x8 : Shape := ⟨3, ![2, 2048, 8]⟩
abbrev S2x2048x8x1 : Shape := ⟨4, ![2, 2048, 8, 1]⟩
abbrev S2x8x128x2048 : Shape := ⟨4, ![2, 8, 128, 2048]⟩
abbrev S4096x1024 : Shape := ⟨2, ![4096, 1024]⟩
abbrev S256x512 : Shape := ⟨2, ![256, 512]⟩
abbrev S2048x512 : Shape := ⟨2, ![2048, 512]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩
abbrev S256x2048 : Shape := ⟨2, ![256, 2048]⟩

abbrev nBuf : Space → Nat
  | .hbm => 67
  | .vmem => 20
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x8x32, .f32⟩
  | .hbm, ⟨4, _⟩ => ⟨S2x2048x8x64, .f32⟩
  | .hbm, ⟨5, _⟩ => ⟨S2x2048x8x64, .f32⟩
  | .hbm, ⟨6, _⟩ => ⟨S_, .f32⟩
  | .hbm, ⟨7, _⟩ => ⟨S2x2048x8x64, .f32⟩
  | .hbm, ⟨8, _⟩ => ⟨S_, .f32⟩
  | .hbm, ⟨9, _⟩ => ⟨S2x2048x8x32, .f32⟩
  | .hbm, ⟨10, _⟩ => ⟨S2x2048x8x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x2048x8x128, .f32⟩
  | .hbm, ⟨19, _⟩ => ⟨S2x2048x8x128, .f32⟩
  | .hbm, ⟨20, _⟩ => ⟨S2x2048x8x128, .bf16⟩
  | .hbm, ⟨21, _⟩ => ⟨S2x2048x8x128, .f32⟩
  | .hbm, ⟨22, _⟩ => ⟨S2x2048x8x128, .bf16⟩
  | .hbm, ⟨23, _⟩ => ⟨S2x2048x8x128, .f32⟩
  | .hbm, ⟨24, _⟩ => ⟨S2x2048x8x128, .bf16⟩
  | .hbm, ⟨25, _⟩ => ⟨S2x2048x8x128, .f32⟩
  | .hbm, ⟨26, _⟩ => ⟨S2x2048x8x128, .bf16⟩
  | .hbm, ⟨27, _⟩ => ⟨S2x2048x8x128, .f32⟩
  | .hbm, ⟨28, _⟩ => ⟨S2x2048x8x128, .f32⟩
  | .hbm, ⟨29, _⟩ => ⟨S2x2048x8x128, .f32⟩
  | .hbm, ⟨30, _⟩ => ⟨S2x8x2048x2048, .f32⟩
  | .hbm, ⟨31, _⟩ => ⟨S2x2048x8x2048, .f32⟩
  | .hbm, ⟨32, _⟩ => ⟨S_, .f32⟩
  | .hbm, ⟨33, _⟩ => ⟨S2x2048x8, .f32⟩
  | .hbm, ⟨34, _⟩ => ⟨S2x2048x8x1, .f32⟩
  | .hbm, ⟨35, _⟩ => ⟨S2x2048x8x2048, .f32⟩
  | .hbm, ⟨36, _⟩ => ⟨S2x2048x8x2048, .f32⟩
  | .hbm, ⟨37, _⟩ => ⟨S_, .f32⟩
  | .hbm, ⟨38, _⟩ => ⟨S_, .f32⟩
  | .hbm, ⟨39, _⟩ => ⟨S2x2048x8x2048, .f32⟩
  | .hbm, ⟨40, _⟩ => ⟨S2x2048x8x2048, .f32⟩
  | .hbm, ⟨41, _⟩ => ⟨S2x2048x8x2048, .f32⟩
  | .hbm, ⟨42, _⟩ => ⟨S_, .f32⟩
  | .hbm, ⟨43, _⟩ => ⟨S2x2048x8, .f32⟩
  | .hbm, ⟨44, _⟩ => ⟨S2x2048x8x1, .f32⟩
  | .hbm, ⟨45, _⟩ => ⟨S2x2048x8x2048, .bf16⟩
  | .hbm, ⟨46, _⟩ => ⟨S2x2048x8x2048, .f32⟩
  | .hbm, ⟨47, _⟩ => ⟨S2x8x128x2048, .f32⟩
  | .hbm, ⟨48, _⟩ => ⟨S2x2048x8x128, .f32⟩
  | .hbm, ⟨49, _⟩ => ⟨S2x2048x8x128, .f32⟩
  | .hbm, ⟨50, _⟩ => ⟨S2x2048x8x128, .f32⟩
  | .hbm, ⟨51, _⟩ => ⟨S2x2048x8x1, .f32⟩
  | .hbm, ⟨52, _⟩ => ⟨S_, .f32⟩
  | .hbm, ⟨53, _⟩ => ⟨S_, .f32⟩
  | .hbm, ⟨54, _⟩ => ⟨S2x2048x8x1, .f32⟩
  | .hbm, ⟨55, _⟩ => ⟨S2x2048x8x1, .f32⟩
  | .hbm, ⟨56, _⟩ => ⟨S2x2048x8x1, .f32⟩
  | .hbm, ⟨57, _⟩ => ⟨S2x2048x8x128, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S4096x1024, .bf16⟩
  | .hbm, ⟨66, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .f32⟩
  | .local _ .vmem, ⟨19, _⟩ => ⟨S2048x512, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49_0 : Ref sig .tc := ⟨.hbm, 64, rfl⟩
abbrev main_v49_1 : Ref sig .tc := ⟨.hbm, 65, rfl⟩
abbrev main_v49_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v175 : BitVec 1 := Scalar.cmpi .eq arg2 c7_i32
  let v176 : BitVec 32 := Scalar.extui v175
  let c0_i32_112 : BitVec 32 := 0#32
  let v177 : BitVec 1 := Scalar.cmpi .ne v176 c0_i32_112
  v177

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel3Ideal.lean ====
variable {F : FTy → Type} [FloatOps F] [Named F]
def κ : String → Option EReal := fun
  | "ln2" => some ((Real.log 2 : ℝ) : EReal)
  | "scale" => some (((Real.sqrt 96)⁻¹ : ℝ) : EReal)
  | _ => none
-- ==== Reference3Ideal.lean ====
abbrev S2x2048x8x64 : Shape := ⟨4, ![2, 2048, 8, 64]⟩
abbrev S2x2048x8x32 : Shape := ⟨4, ![2, 2048, 8, 32]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x8x2048x32 : Shape := ⟨4, ![2, 8, 2048, 32]⟩
abbrev S2x8x2048x64 : Shape := ⟨4, ![2, 8, 2048, 64]⟩
abbrev S2x2048x8x128 : Shape := ⟨4, ![2, 2048, 8, 128]⟩
abbrev S4096x1024 : Shape := ⟨2, ![4096, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x8x32, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S2x8x2048x2048, .f32⟩
  | .hbm, ⟨8, _⟩ => ⟨S2x8x2048x2048, .f32⟩
  | .hbm, ⟨9, _⟩ => ⟨S_, .f32⟩
  | .hbm, ⟨10, _⟩ => ⟨S_, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .i1⟩
  | .hbm, ⟨18, _⟩ => ⟨S2x8x2048x2048, .f32⟩
  | .hbm, ⟨19, _⟩ => ⟨S_, .f32⟩
  | .hbm, ⟨20, _⟩ => ⟨S2x8x2048, .f32⟩
  | .hbm, ⟨21, _⟩ => ⟨S_, .f32⟩
  | .hbm, ⟨22, _⟩ => ⟨S2x8x2048, .f32⟩
  | .hbm, ⟨23, _⟩ => ⟨S2x8x2048, .f32⟩
  | .hbm, ⟨24, _⟩ => ⟨S_, .f32⟩
  | .hbm, ⟨25, _⟩ => ⟨S2x8x2048, .f32⟩
  | .hbm, ⟨26, _⟩ => ⟨S2x8x2048, .i1⟩
  | .hbm, ⟨27, _⟩ => ⟨S_, .f32⟩
  | .hbm, ⟨28, _⟩ => ⟨S2x8x2048, .f32⟩
  | .hbm, ⟨29, _⟩ => ⟨S2x8x2048, .i1⟩
  | .hbm, ⟨30, _⟩ => ⟨S_, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S_, .f32⟩
  | .hbm, ⟨35, _⟩ => ⟨S2x8x2048, .f32⟩
  | .hbm, ⟨36, _⟩ => ⟨S2x8x2048, .f32⟩
  | .hbm, ⟨37, _⟩ => ⟨S2x8x2048, .f32⟩
  | .hbm, ⟨38, _⟩ => ⟨S2x8x2048x1, .f32⟩
  | .hbm, ⟨39, _⟩ => ⟨S2x8x2048x2048, .f32⟩
  | .hbm, ⟨40, _⟩ => ⟨S2x8x2048x2048, .f32⟩
  | .hbm, ⟨41, _⟩ => ⟨S2x8x2048x2048, .f32⟩
  | .hbm, ⟨42, _⟩ => ⟨S_, .f32⟩
  | .hbm, ⟨43, _⟩ => ⟨S2x8x2048, .f32⟩
  | .hbm, ⟨44, _⟩ => ⟨S2x8x2048x1, .f32⟩
  | .hbm, ⟨45, _⟩ => ⟨S2x8x2048x2048, .f32⟩
  | .hbm, ⟨46, _⟩ => ⟨S2x8x2048x2048, .f32⟩
  | .hbm, ⟨47, _⟩ => ⟨S2x8x2048x1, .f32⟩
  | .hbm, ⟨48, _⟩ => ⟨S_, .f32⟩
  | .hbm, ⟨49, _⟩ => ⟨S2x8x2048x1, .f32⟩
  | .hbm, ⟨50, _⟩ => ⟨S2x8x2048x1, .f32⟩
  | .hbm, ⟨51, _⟩ => ⟨S2x8x64x2048, .f32⟩
  | .hbm, ⟨52, _⟩ => ⟨S2x2048x8x64, .f32⟩
  | .hbm, ⟨53, _⟩ => ⟨S2x8x64x2048, .f32⟩
  | .hbm, ⟨54, _⟩ => ⟨S2x8x2048x2048, .f32⟩
  | .hbm, ⟨55, _⟩ => ⟨S2x8x64x2048, .f32⟩
  | .hbm, ⟨56, _⟩ => ⟨S2x2048x8x64, .f32⟩
  | .hbm, ⟨57, _⟩ => ⟨S2x8x2048x2048, .f32⟩
  | .hbm, ⟨58, _⟩ => ⟨S2x8x2048x2048, .f32⟩
  | .hbm, ⟨59, _⟩ => ⟨S2x8x2048x2048, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048x1, .f32⟩
  | .hbm, ⟨64, _⟩ => ⟨S2x8x2048x2048, .f32⟩
  | .hbm, ⟨65, _⟩ => ⟨S2x8x2048x2048, .f32⟩
  | .hbm, ⟨66, _⟩ => ⟨S_, .f32⟩
  | .hbm, ⟨67, _⟩ => ⟨S2x8x2048, .f32⟩
  | .hbm, ⟨68, _⟩ => ⟨S2x8x2048x2048, .f32⟩
  | .hbm, ⟨69, _⟩ => ⟨S2x8x2048x2048, .f32⟩
  | .hbm, ⟨70, _⟩ => ⟨S2x8x2048x2048, .f32⟩
  | .hbm, ⟨71, _⟩ => ⟨S2x8x2048x2048, .f32⟩
  | .hbm, ⟨72, _⟩ => ⟨S2x8x2048x2048, .f32⟩
  | .hbm, ⟨73, _⟩ => ⟨S2x8x2048x32, .f32⟩
  | .hbm, ⟨74, _⟩ => ⟨S2x2048x8x32, .f32⟩
  | .hbm, ⟨75, _⟩ => ⟨S2x8x2048x32, .f32⟩
  | .hbm, ⟨76, _⟩ => ⟨S2x2048x8x32, .f32⟩
  | .hbm, ⟨77, _⟩ => ⟨S2x8x2048x64, .f32⟩
  | .hbm, ⟨78, _⟩ => ⟨S2x2048x8x64, .f32⟩
  | .hbm, ⟨79, _⟩ => ⟨S2x8x2048x64, .f32⟩
  | .hbm, ⟨80, _⟩ => ⟨S2x2048x8x64, .f32⟩
  | .hbm, ⟨81, _⟩ => ⟨S_, .f32⟩
  | .hbm, ⟨82, _⟩ => ⟨S2x2048x8x64, .f32⟩
  | .hbm, ⟨83, _⟩ => ⟨S_, .f32⟩
  | .hbm, ⟨84, _⟩ => ⟨S2x2048x8x32, .f32⟩
  | .hbm, ⟨85, _⟩ => ⟨S2x2048x8x128, .f32⟩
  | .hbm, ⟨86, _⟩ => ⟨S4096x1024, .f32⟩
  | .hbm, ⟨87, _⟩ => ⟨S4096x1024, .bf16⟩
  | .hbm, ⟨88, _⟩ => ⟨S2x2048x8x128, .f32⟩
  | .hbm, ⟨89, _⟩ => ⟨S4096x1024, .f32⟩
  | .hbm, ⟨90, _⟩ => ⟨S4096x1024, .bf16⟩
  | .hbm, ⟨91, _⟩ => ⟨S2x2048x8x128, .f32⟩
  | .hbm, ⟨92, _⟩ => ⟨S4096x1024, .f32⟩
  | .hbm, ⟨93, _⟩ => ⟨S4096x1024, .bf16⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]
-- ==== Kernel4.lean ====
abbrev S2x2048x8x64 : Shape := ⟨4, ![2, 2048, 8, 64]⟩
abbrev S2x2048x8x32 : Shape := ⟨4, ![2, 2048, 8, 32]⟩
abbrev S_ : Shape := ⟨0, ![]⟩
abbrev S2x2048x8x128 : Shape := ⟨4, ![2, 2048, 8, 128]⟩
abbrev S4096x1024 : Shape := ⟨2, ![4096, 1024]⟩
abbrev S256x512 : Shape := ⟨2, ![256, 512]⟩
abbrev S2048x512 : Shape := ⟨2, ![2048, 512]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 10
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x8x32, .f32⟩
  | .hbm, ⟨4, _⟩ => ⟨S2x2048x8x64, .f32⟩
  | .hbm, ⟨5, _⟩ => ⟨S_, .f32⟩
  | .hbm, ⟨6, _⟩ => ⟨S2x2048x8x64, .f32⟩
  | .hbm, ⟨7, _⟩ => ⟨S_, .f32⟩
  | .hbm, ⟨8, _⟩ => ⟨S2x2048x8x32, .f32⟩
  | .hbm, ⟨9, _⟩ => ⟨S2x2048x8x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x2048x8x128, .f32⟩
  | .hbm, ⟨18, _⟩ => ⟨S2x2048x8x128, .f32⟩
  | .hbm, ⟨19, _⟩ => ⟨S2x2048x8x128, .bf16⟩
  | .hbm, ⟨20, _⟩ => ⟨S2x2048x8x128, .f32⟩
  | .hbm, ⟨21, _⟩ => ⟨S2x2048x8x128, .bf16⟩
  | .hbm, ⟨22, _⟩ => ⟨S2x2048x8x128, .f32⟩
  | .hbm, ⟨23, _⟩ => ⟨S2x2048x8x128, .bf16⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S4096x1024, .f32⟩
  | .hbm, ⟨28, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | _, _ => ⟨S2x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S2x2048x8x64 : Shape := ⟨4, ![2, 2048, 8, 64]⟩
abbrev S2x2048x8x32 : Shape := ⟨4, ![2, 2048, 8, 32]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩
abbrev S2x2048x8 : Shape := ⟨3, ![2, 2048, 8]⟩
abbrev S2x2048x8x128 : Shape := ⟨4, ![2, 2048, 8, 128]⟩
abbrev S4096x1024 : Shape := ⟨2, ![4096, 1024]⟩
abbrev S2x2048x8x1 : Shape := ⟨4, ![2, 2048, 8, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x32, .f32⟩
  | .hbm, ⟨2, _⟩ => ⟨S2x2048x8x64, .f32⟩
  | .hbm, ⟨3, _⟩ => ⟨S2x2048x8x32, .f32⟩
  | .hbm, ⟨4, _⟩ => ⟨S2x2048x8x64, .f32⟩
  | .hbm, ⟨5, _⟩ => ⟨S2x8x2048x2048, .f32⟩
  | .hbm, ⟨6, _⟩ => ⟨S2x8x2048x2048, .f32⟩
  | .hbm, ⟨7, _⟩ => ⟨S2x8x2048x2048, .f32⟩
  | .hbm, ⟨8, _⟩ => ⟨S_, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S_, .f32⟩
  | .hbm, ⟨13, _⟩ => ⟨S2x8x2048, .f32⟩
  | .hbm, ⟨14, _⟩ => ⟨S_, .f32⟩
  | .hbm, ⟨15, _⟩ => ⟨S2x8x2048, .f32⟩
  | .hbm, ⟨16, _⟩ => ⟨S2x8x2048, .f32⟩
  | .hbm, ⟨17, _⟩ => ⟨S2x8x2048x1, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .f32⟩
  | .hbm, ⟨26, _⟩ => ⟨S2x8x64x2048, .f32⟩
  | .hbm, ⟨27, _⟩ => ⟨S2x2048x8x64, .f32⟩
  | .hbm, ⟨28, _⟩ => ⟨S2x8x2048x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S2x2048x8, .f32⟩
  | .hbm, ⟨33, _⟩ => ⟨S_, .f32⟩
  | .hbm, ⟨34, _⟩ => ⟨S_, .f32⟩
  | .hbm, ⟨35, _⟩ => ⟨S2x2048x8, .f32⟩
  | .hbm, ⟨36, _⟩ => ⟨S2x2048x8, .f32⟩
  | .hbm, ⟨37, _⟩ => ⟨S_, .f32⟩
  | .hbm, ⟨38, _⟩ => ⟨S2x2048x8x64, .f32⟩
  | .hbm, ⟨39, _⟩ => ⟨S2x2048x8x128, .f32⟩
  | .hbm, ⟨40, _⟩ => ⟨S4096x1024, .f32⟩
  | .hbm, ⟨41, _⟩ => ⟨S2x2048x8x1, .f32⟩
  | .hbm, ⟨42, _⟩ => ⟨S2x2048x8x128, .f32⟩
  | .hbm, ⟨43, _⟩ => ⟨S4096x1024, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel5.lean ====
abbrev S2x2048x512 : Shape := ⟨3, ![2, 2048, 512]⟩
abbrev S2x256x1024 : Shape := ⟨3, ![2, 256, 1024]⟩
abbrev S4096x512 : Shape := ⟨2, ![4096, 512]⟩
abbrev S_ : Shape := ⟨0, ![]⟩
abbrev S512x1024 : Shape := ⟨2, ![512, 1024]⟩
abbrev S1024x256 : Shape := ⟨2, ![1024, 256]⟩
abbrev S256x256 : Shape := ⟨2, ![256, 256]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x256x1024, .f32⟩
  | .hbm, ⟨2, _⟩ => ⟨S4096x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .bf16⟩
  | .hbm, ⟨13, _⟩ => ⟨S512x1024, .f32⟩
  | .hbm, ⟨14, _⟩ => ⟨S512x1024, .bf16⟩
  | .hbm, ⟨15, _⟩ => ⟨S4096x512, .f32⟩
  | .hbm, ⟨16, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel5Ideal.lean ====
variable {F : FTy → Type} [FloatOps F] [Named F]
def κ : String → Option EReal := fun
  | "log2e" => some (((Real.log 2)⁻¹ : ℝ) : EReal)
  | _ => none
-- ==== Reference5Ideal.lean ====
abbrev S2x2048x512 : Shape := ⟨3, ![2, 2048, 512]⟩
abbrev S2x256x1024 : Shape := ⟨3, ![2, 256, 1024]⟩
abbrev S2x2048x4x128 : Shape := ⟨4, ![2, 2048, 4, 128]⟩
abbrev S2x256x512 : Shape := ⟨3, ![2, 256, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x4 : Shape := ⟨3, ![2, 2048, 4]⟩
abbrev S4096x512 : Shape := ⟨2, ![4096, 512]⟩
abbrev S2x2048x4x1 : Shape := ⟨4, ![2, 2048, 4, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x256x1024, .f32⟩
  | .hbm, ⟨2, _⟩ => ⟨S2x2048x4x128, .f32⟩
  | .hbm, ⟨3, _⟩ => ⟨S2x256x512, .f32⟩
  | .hbm, ⟨4, _⟩ => ⟨S2x256x4x128, .f32⟩
  | .hbm, ⟨5, _⟩ => ⟨S2x256x512, .f32⟩
  | .hbm, ⟨6, _⟩ => ⟨S2x256x4x128, .f32⟩
  | .hbm, ⟨7, _⟩ => ⟨S2x4x2048x256, .f32⟩
  | .hbm, ⟨8, _⟩ => ⟨S_, .f32⟩
  | .hbm, ⟨9, _⟩ => ⟨S_, .f32⟩
  | .hbm, ⟨10, _⟩ => ⟨S2x4x2048x256, .f32⟩
  | .hbm, ⟨11, _⟩ => ⟨S2x4x2048x256, .f32⟩
  | .hbm, ⟨12, _⟩ => ⟨S_, .f32⟩
  | .hbm, ⟨13, _⟩ => ⟨S2x4x2048, .f32⟩
  | .hbm, ⟨14, _⟩ => ⟨S_, .f32⟩
  | .hbm, ⟨15, _⟩ => ⟨S2x4x2048, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .f32⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S2x4x2048x1, .f32⟩
  | .hbm, ⟨24, _⟩ => ⟨S2x4x2048x256, .f32⟩
  | .hbm, ⟨25, _⟩ => ⟨S2x4x2048x256, .f32⟩
  | .hbm, ⟨26, _⟩ => ⟨S2x4x128x2048, .f32⟩
  | .hbm, ⟨27, _⟩ => ⟨S2x2048x4x128, .f32⟩
  | .hbm, ⟨28, _⟩ => ⟨S2x4x2048x256, .f32⟩
  | .hbm, ⟨29, _⟩ => ⟨S_, .f32⟩
  | .hbm, ⟨30, _⟩ => ⟨S2x4x2048, .f32⟩
  | .hbm, ⟨31, _⟩ => ⟨S2x4x2048, .f32⟩
  | .hbm, ⟨32, _⟩ => ⟨S2x2048x4, .f32⟩
  | .hbm, ⟨33, _⟩ => ⟨S_, .f32⟩
  | .hbm, ⟨34, _⟩ => ⟨S_, .f32⟩
  | .hbm, ⟨35, _⟩ => ⟨S2x2048x4, .f32⟩
  | .hbm, ⟨36, _⟩ => ⟨S2x2048x4, .f32⟩
  | .hbm, ⟨37, _⟩ => ⟨S4096x512, .f32⟩
  | .hbm, ⟨38, _⟩ => ⟨S2x2048x4x1, .f32⟩
  | .hbm, ⟨39, _⟩ => ⟨S2x2048x4x128, .f32⟩
  | .hbm, ⟨40, _⟩ => ⟨S4096x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel6.lean ====
abbrev S2x2048x1024 : Shape := ⟨3, ![2, 2048, 1024]⟩
abbrev S1024 : Shape := ⟨1, ![1024]⟩
abbrev S2x2048 : Shape := ⟨2, ![2, 2048]⟩
abbrev S4096x1024 : Shape := ⟨2, ![4096, 1024]⟩
abbrev S1x1024 : Shape := ⟨2, ![1, 1024]⟩
abbrev S4096x1 : Shape := ⟨2, ![4096, 1]⟩
abbrev S8 : Shape := ⟨1, ![8]⟩
abbrev S_ : Shape := ⟨0, ![]⟩
abbrev S0 : Shape := ⟨1, ![0]⟩
abbrev S48 : Shape := ⟨1, ![48]⟩
abbrev S64 : Shape := ⟨1, ![64]⟩
abbrev S128 : Shape := ⟨1, ![128]⟩
abbrev S1x128 : Shape := ⟨2, ![1, 128]⟩
abbrev S5x128 : Shape := ⟨2, ![5, 128]⟩
abbrev S8x128 : Shape := ⟨2, ![8, 128]⟩
abbrev S16 : Shape := ⟨1, ![16]⟩
abbrev S32 : Shape := ⟨1, ![32]⟩
abbrev S4096x512 : Shape := ⟨2, ![4096, 512]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩
abbrev S512x128 : Shape := ⟨2, ![512, 128]⟩

abbrev nBuf : Space → Nat
  | .hbm => 97
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S2x2048, .i32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1, .i32⟩
  | .hbm, ⟨8, _⟩ => ⟨S4096x1, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S0, .f32⟩
  | .hbm, ⟨27, _⟩ => ⟨S_, .f32⟩
  | .hbm, ⟨28, _⟩ => ⟨S48, .f32⟩
  | .hbm, ⟨29, _⟩ => ⟨S64, .f32⟩
  | .hbm, ⟨30, _⟩ => ⟨S128, .f32⟩
  | .hbm, ⟨31, _⟩ => ⟨S1x128, .f32⟩
  | .hbm, ⟨32, _⟩ => ⟨S_, .f32⟩
  | .hbm, ⟨33, _⟩ => ⟨S8, .f32⟩
  | .hbm, ⟨34, _⟩ => ⟨S_, .f32⟩
  | .hbm, ⟨35, _⟩ => ⟨S0, .f32⟩
  | .hbm, ⟨36, _⟩ => ⟨S_, .f32⟩
  | .hbm, ⟨37, _⟩ => ⟨S48, .f32⟩
  | .hbm, ⟨38, _⟩ => ⟨S64, .f32⟩
  | .hbm, ⟨39, _⟩ => ⟨S128, .f32⟩
  | .hbm, ⟨40, _⟩ => ⟨S1x128, .f32⟩
  | .hbm, ⟨41, _⟩ => ⟨S_, .f32⟩
  | .hbm, ⟨42, _⟩ => ⟨S8, .f32⟩
  | .hbm, ⟨43, _⟩ => ⟨S_, .f32⟩
  | .hbm, ⟨44, _⟩ => ⟨S0, .f32⟩
  | .hbm, ⟨45, _⟩ => ⟨S_, .f32⟩
  | .hbm, ⟨46, _⟩ => ⟨S48, .f32⟩
  | .hbm, ⟨47, _⟩ => ⟨S64, .f32⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S5x128, .f32⟩
  | .hbm, ⟨52, _⟩ => ⟨S8x128, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S32, .f32⟩
  | .hbm, ⟨73, _⟩ => ⟨S128, .f32⟩
  | .hbm, ⟨74, _⟩ => ⟨S1x128, .f32⟩
  | .hbm, ⟨75, _⟩ => ⟨S_, .f32⟩
  | .hbm, ⟨76, _⟩ => ⟨S16, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S32, .f32⟩
  | .hbm, ⟨81, _⟩ => ⟨S128, .f32⟩
  | .hbm, ⟨82, _⟩ => ⟨S1x128, .f32⟩
  | .hbm, ⟨83, _⟩ => ⟨S_, .f32⟩
  | .hbm, ⟨84, _⟩ => ⟨S16, .f32⟩
  | .hbm, ⟨85, _⟩ => ⟨S_, .f32⟩
  | .hbm, ⟨86, _⟩ => ⟨S64, .f32⟩
  | .hbm, ⟨87, _⟩ => ⟨S_, .f32⟩
  | .hbm, ⟨88, _⟩ => ⟨S32, .f32⟩
  | .hbm, ⟨89, _⟩ => ⟨S128, .f32⟩
  | .hbm, ⟨90, _⟩ => ⟨S1x128, .f32⟩
  | .hbm, ⟨91, _⟩ => ⟨S_, .f32⟩
  | .hbm, ⟨92, _⟩ => ⟨S5x128, .f32⟩
  | .hbm, ⟨93, _⟩ => ⟨S8x128, .f32⟩
  | .hbm, ⟨94, _⟩ => ⟨S4096x1024, .bf16⟩
  | .hbm, ⟨95, _⟩ => ⟨S4096x1024, .f32⟩
  | .hbm, ⟨96, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1, .f32⟩
  | .local _ .vmem, ⟨5, _⟩ => ⟨S512x1, .f32⟩
  | .local _ .vmem, ⟨6, _⟩ => ⟨S8x128, .f32⟩
  | .local _ .vmem, ⟨7, _⟩ => ⟨S8x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_12 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_13 : Ref sig .tc := ⟨.hbm, 54, rfl⟩
abbrev main_v36 : Ref sig .tc := ⟨.hbm, 55, rfl⟩
abbrev main_v37 : Ref sig .tc := ⟨.hbm, 56, rfl⟩
abbrev main_cst_14 : Ref sig .tc := ⟨.hbm, 57, rfl⟩
abbrev main_v38 : Ref sig .tc := ⟨.hbm, 58, rfl⟩
abbrev main_v39 : Ref sig .tc := ⟨.hbm, 59, rfl⟩
abbrev main_cst_15 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_16 : Ref sig .tc := ⟨.hbm, 64, rfl⟩
abbrev main_v43 : Ref sig .tc := ⟨.hbm, 65, rfl⟩
abbrev main_v44 : Ref sig .tc := ⟨.hbm, 66, rfl⟩
abbrev main_cst_17 : Ref sig .tc := ⟨.hbm, 67, rfl⟩
abbrev main_v45 : Ref sig .tc := ⟨.hbm, 68, rfl⟩
abbrev main_cst_18 : Ref sig .tc := ⟨.hbm, 69, rfl⟩
abbrev main_v46 : Ref sig .tc := ⟨.hbm, 70, rfl⟩
abbrev main_cst_19 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_20 : Ref sig .tc := ⟨.hbm, 75, rfl⟩
abbrev main_v50 : Ref sig .tc := ⟨.hbm, 76, rfl⟩
abbrev main_cst_21 : Ref sig .tc := ⟨.hbm, 77, rfl⟩
abbrev main_v51 : Ref sig .tc := ⟨.hbm, 78, rfl⟩
abbrev main_cst_22 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_23 : Ref sig .tc := ⟨.hbm, 83, rfl⟩
abbrev main_v55 : Ref sig .tc := ⟨.hbm, 84, rfl⟩
abbrev main_cst_24 : Ref sig .tc := ⟨.hbm, 85, rfl⟩
abbrev main_v56 : Ref sig .tc := ⟨.hbm, 86, rfl⟩
abbrev main_cst_25 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_26 : Ref sig .tc := ⟨.hbm, 91, rfl⟩
abbrev main_v60 : Ref sig .tc := ⟨.hbm, 92, rfl⟩
abbrev main_v61 : Ref sig .tc := ⟨.hbm, 93, rfl⟩
abbrev main_v62_0 : Ref sig .tc := ⟨.hbm, 94, rfl⟩
abbrev main_v62_1 : Ref sig .tc := ⟨.hbm, 95, rfl⟩
abbrev main_v62_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2x2048x1024 : Shape := ⟨3, ![2, 2048, 1024]⟩
abbrev S1024 : Shape := ⟨1, ![1024]⟩
abbrev S2x2048 : Shape := ⟨2, ![2, 2048]⟩
abbrev S_ : Shape := ⟨0, ![]⟩
abbrev S2x2048x1 : Shape := ⟨3, ![2, 2048, 1]⟩
abbrev S1x1x1024 : Shape := ⟨3, ![1, 1, 1024]⟩
abbrev S4096x1024 : Shape := ⟨2, ![4096, 1024]⟩
abbrev S8 : Shape := ⟨1, ![8]⟩
abbrev S1x1x8 : Shape := ⟨3, ![1, 1, 8]⟩
abbrev S2x2048x8 : Shape := ⟨3, ![2, 2048, 8]⟩
abbrev S4096x8 : Shape := ⟨2, ![4096, 8]⟩
abbrev S16 : Shape := ⟨1, ![16]⟩
abbrev S1x1x16 : Shape := ⟨3, ![1, 1, 16]⟩
abbrev S2x2048x16 : Shape := ⟨3, ![2, 2048, 16]⟩
abbrev S4096x16 : Shape := ⟨2, ![4096, 16]⟩
abbrev S4096x48 : Shape := ⟨2, ![4096, 48]⟩
abbrev S4096x64 : Shape := ⟨2, ![4096, 64]⟩
abbrev S4096x32 : Shape := ⟨2, ![4096, 32]⟩
abbrev S4096x384 : Shape := ⟨2, ![4096, 384]⟩
abbrev S4096x128 : Shape := ⟨2, ![4096, 128]⟩
abbrev S4096x512 : Shape := ⟨2, ![4096, 512]⟩

abbrev nBuf : Space → Nat
  | .hbm => 142
  | .vmem => 0
  | .smem => 0
  | _ => 0

abbrev hbmTy0_0 (i : Nat) : BufTy := match i % 128 with
  | 0 => ⟨S2x2048x1024, .f32⟩
  | 1 => ⟨S1024, .f32⟩
  | 2 => ⟨S1024, .f32⟩
  | 3 => ⟨S2x2048, .i32⟩
  | 4 => ⟨S_, .f32⟩
  | 5 => ⟨S2x2048, .f32⟩
  | 6 => ⟨S2x2048x1, .f32⟩
  | 7 => ⟨S_, .f32⟩
  | 8 => ⟨S2x2048x1, .f32⟩
  | 9 => ⟨S2x2048x1, .f32⟩
  | 10 => ⟨S2x2048x1024, .f32⟩
  | 11 => ⟨S2x2048x1024, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S2x2048x1024, .f32⟩
  | 20 => ⟨S2x2048x1024, .f32⟩
  | 21 => ⟨S_, .f32⟩
  | 22 => ⟨S2x2048x1, .f32⟩
  | 23 => ⟨S2x2048x1, .f32⟩
  | 24 => ⟨S2x2048x1, .f32⟩
  | 25 => ⟨S2x2048x1024, .f32⟩
  | 26 => ⟨S2x2048x1024, .f32⟩
  | 27 => ⟨S1x1x1024, .f32⟩
  | 28 => ⟨S2x2048x1024, .f32⟩
  | 29 => ⟨S2x2048x1024, .f32⟩
  | 30 => ⟨S1x1x1024, .f32⟩
  | 31 => ⟨S2x2048x1024, .f32⟩
  | 32 => ⟨S2x2048x1024, .f32⟩
  | 33 => ⟨S4096x1024, .f32⟩
  | 34 => ⟨S2x2048, .f32⟩
  | 35 => ⟨S2x2048x1, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S8, .f32⟩
  | 49 => ⟨S8, .f32⟩
  | 50 => ⟨S1x1x8, .f32⟩
  | 51 => ⟨S2x2048x8, .f32⟩
  | 52 => ⟨S2x2048x8, .f32⟩
  | 53 => ⟨S2x2048x8, .f32⟩
  | 54 => ⟨S4096x8, .f32⟩
  | 55 => ⟨S4096x8, .f32⟩
  | 56 => ⟨S2x2048, .f32⟩
  | 57 => ⟨S2x2048x1, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8, .f32⟩
  | 69 => ⟨S_, .f32⟩
  | 70 => ⟨S8, .f32⟩
  | 71 => ⟨S8, .f32⟩
  | 72 => ⟨S1x1x8, .f32⟩
  | 73 => ⟨S2x2048x8, .f32⟩
  | 74 => ⟨S2x2048x8, .f32⟩
  | 75 => ⟨S2x2048x8, .f32⟩
  | 76 => ⟨S4096x8, .f32⟩
  | 77 => ⟨S4096x8, .f32⟩
  | 78 => ⟨S2x2048, .f32⟩
  | 79 => ⟨S2x2048x1, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S16, .f32⟩
  | 91 => ⟨S_, .f32⟩
  | 92 => ⟨S16, .f32⟩
  | 93 => ⟨S16, .f32⟩
  | 94 => ⟨S1x1x16, .f32⟩
  | 95 => ⟨S2x2048x16, .f32⟩
  | 96 => ⟨S2x2048x16, .f32⟩
  | 97 => ⟨S2x2048x16, .f32⟩
  | 98 => ⟨S4096x16, .f32⟩
  | 99 => ⟨S4096x16, .f32⟩
  | 100 => ⟨S2x2048, .f32⟩
  | 101 => ⟨S2x2048x1, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S16, .f32⟩
  | 113 => ⟨S_, .f32⟩
  | 114 => ⟨S16, .f32⟩
  | 115 => ⟨S16, .f32⟩
  | 116 => ⟨S1x1x16, .f32⟩
  | 117 => ⟨S2x2048x16, .f32⟩
  | 118 => ⟨S2x2048x16, .f32⟩
  | 119 => ⟨S2x2048x16, .f32⟩
  | 120 => ⟨S4096x16, .f32⟩
  | 121 => ⟨S4096x16, .f32⟩
  | 122 => ⟨S_, .f32⟩
  | 123 => ⟨S4096x48, .f32⟩
  | 124 => ⟨S_, .f32⟩
  | 125 => ⟨S4096x48, .f32⟩
  | 126 => ⟨S_, .f32⟩
  | 127 => ⟨S4096x48, .f32⟩
  | _ => ⟨S2x2048x1024, .f32⟩

abbrev hbmTy0_1 (i : Nat) : BufTy := match i % 128 with
  | 0 => ⟨S_, .f32⟩
  | 1 => ⟨S4096x48, .f32⟩
  | 2 => ⟨S_, .f32⟩
  | 3 => ⟨S4096x64, .f32⟩
  | 4 => ⟨S_, .f32⟩
  | 5 => ⟨S4096x32, .f32⟩
  | 6 => ⟨S_, .f32⟩
  | 7 => ⟨S4096x64, .f32⟩
  | 8 => ⟨S_, .f32⟩
  | 9 => ⟨S4096x32, .f32⟩
  | 10 => ⟨S4096x384, .f32⟩
  | 11 => ⟨S4096x128, .f32⟩
  | 12 => ⟨S4096x512, .f32⟩
  | 13 => ⟨S4096x1024, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_cst_17 : Ref sig .tc := ⟨.hbm, 106, rfl⟩
abbrev main_v84 : Ref sig .tc := ⟨.hbm, 107, rfl⟩
abbrev main_v85 : Ref sig .tc := ⟨.hbm, 108, rfl⟩
abbrev main_cst_18 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_20 : Ref sig .tc := ⟨.hbm, 122, rfl⟩
abbrev main_v97 : Ref sig .tc := ⟨.hbm, 123, rfl⟩
abbrev main_cst_21 : Ref sig .tc := ⟨.hbm, 124, rfl⟩
abbrev main_v98 : Ref sig .tc := ⟨.hbm, 125, rfl⟩
abbrev main_cst_22 : Ref sig .tc := ⟨.hbm, 126, rfl⟩
abbrev main_v99 : Ref sig .tc := ⟨.hbm, 127, rfl⟩
abbrev main_cst_23 : Ref sig .tc := ⟨.hbm, 128, rfl⟩
abbrev main_v100 : Ref sig .tc := ⟨.hbm, 129, rfl⟩
abbrev main_cst_24 : Ref sig .tc := ⟨.hbm, 130, rfl⟩
abbrev main_v101 : Ref sig .tc := ⟨.hbm, 131, rfl⟩
abbrev main_cst_25 : Ref sig .tc := ⟨.hbm, 132, rfl⟩
abbrev main_v102 : Ref sig .tc := ⟨.hbm, 133, rfl⟩
abbrev main_cst_26 : Ref sig .tc := ⟨.hbm, 134, rfl⟩
abbrev main_v103 : Ref sig .tc := ⟨.hbm, 135, rfl⟩
abbrev main_cst_27 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== Kernel7.lean ====
abbrev S2x2048x1024 : Shape := ⟨3, ![2, 2048, 1024]⟩
abbrev S1024x6048 : Shape := ⟨2, ![1024, 6048]⟩
abbrev S6048x1024 : Shape := ⟨2, ![6048, 1024]⟩
abbrev S4x1512x1024 : Shape := ⟨3, ![4, 1512, 1024]⟩
abbrev S_ : Shape := ⟨0, ![]⟩
abbrev S4x1536x1024 : Shape := ⟨3, ![4, 1536, 1024]⟩
abbrev S4096x1024 : Shape := ⟨2, ![4096, 1024]⟩
abbrev S1x1512x1024 : Shape := ⟨3, ![1, 1512, 1024]⟩
abbrev S1512x1024 : Shape := ⟨2, ![1512, 1024]⟩
abbrev S1x1456x1024 : Shape := ⟨3, ![1, 1456, 1024]⟩
abbrev S1456x1024 : Shape := ⟨2, ![1456, 1024]⟩
abbrev S64x1024 : Shape := ⟨2, ![64, 1024]⟩
abbrev S1x32x1024 : Shape := ⟨3, ![1, 32, 1024]⟩
abbrev S32x1024 : Shape := ⟨2, ![32, 1024]⟩
abbrev S1x24x1024 : Shape := ⟨3, ![1, 24, 1024]⟩
abbrev S24x1024 : Shape := ⟨2, ![24, 1024]⟩
abbrev S6144x1024 : Shape := ⟨2, ![6144, 1024]⟩
abbrev S4096x6144 : Shape := ⟨2, ![4096, 6144]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 27
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x6048, .f32⟩
  | .hbm, ⟨2, _⟩ => ⟨S6048x1024, .f32⟩
  | .hbm, ⟨3, _⟩ => ⟨S4x1512x1024, .f32⟩
  | .hbm, ⟨4, _⟩ => ⟨S_, .f32⟩
  | .hbm, ⟨5, _⟩ => ⟨S4x1536x1024, .f32⟩
  | .hbm, ⟨6, _⟩ => ⟨S4x1536x1024, .bf16⟩
  | .hbm, ⟨7, _⟩ => ⟨S4096x1024, .f32⟩
  | .hbm, ⟨8, _⟩ => ⟨S4096x1024, .bf16⟩
  | .hbm, ⟨9, _⟩ => ⟨S1x1512x1024, .bf16⟩
  | .hbm, ⟨10, _⟩ => ⟨S1512x1024, .bf16⟩
  | .hbm, ⟨11, _⟩ => ⟨S1x1512x1024, .bf16⟩
  | .hbm, ⟨12, _⟩ => ⟨S1512x1024, .bf16⟩
  | .hbm, ⟨13, _⟩ => ⟨S1x1456x1024, .bf16⟩
  | .hbm, ⟨14, _⟩ => ⟨S1456x1024, .bf16⟩
  | .hbm, ⟨15, _⟩ => ⟨S_, .bf16⟩
  | .hbm, ⟨16, _⟩ => ⟨S64x1024, .bf16⟩
  | .hbm, ⟨17, _⟩ => ⟨S1x32x1024, .bf16⟩
  | .hbm, ⟨18, _⟩ => ⟨S32x1024, .bf16⟩
  | .hbm, ⟨19, _⟩ => ⟨S_, .bf16⟩
  | .hbm, ⟨20, _⟩ => ⟨S32x1024, .bf16⟩
  | .hbm, ⟨21, _⟩ => ⟨S1x24x1024, .bf16⟩
  | .hbm, ⟨22, _⟩ => ⟨S24x1024, .bf16⟩
  | .hbm, ⟨23, _⟩ => ⟨S1x1512x1024, .bf16⟩
  | .hbm, ⟨24, _⟩ => ⟨S1512x1024, .bf16⟩
  | .hbm, ⟨25, _⟩ => ⟨S6144x1024, .bf16⟩
  | .hbm, ⟨26, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x2048x1024 : Shape := ⟨3, ![2, 2048, 1024]⟩
abbrev S1024x6048 : Shape := ⟨2, ![1024, 6048]⟩
abbrev S2x2048x6048 : Shape := ⟨3, ![2, 2048, 6048]⟩
abbrev S4096x6048 : Shape := ⟨2, ![4096, 6048]⟩
abbrev S4096x4480 : Shape := ⟨2, ![4096, 4480]⟩
abbrev S_ : Shape := ⟨0, ![]⟩
abbrev S4096x64 : Shape := ⟨2, ![4096, 64]⟩
abbrev S4096x32 : Shape := ⟨2, ![4096, 32]⟩
abbrev S4096x1536 : Shape := ⟨2, ![4096, 1536]⟩
abbrev S4096x6144 : Shape := ⟨2, ![4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x6048, .f32⟩
  | .hbm, ⟨2, _⟩ => ⟨S2x2048x6048, .f32⟩
  | .hbm, ⟨3, _⟩ => ⟨S4096x6048, .f32⟩
  | .hbm, ⟨4, _⟩ => ⟨S4096x4480, .f32⟩
  | .hbm, ⟨5, _⟩ => ⟨S_, .f32⟩
  | .hbm, ⟨6, _⟩ => ⟨S4096x64, .f32⟩
  | .hbm, ⟨7, _⟩ => ⟨S4096x32, .f32⟩
  | .hbm, ⟨8, _⟩ => ⟨S_, .f32⟩
  | .hbm, ⟨9, _⟩ => ⟨S4096x32, .f32⟩
  | .hbm, ⟨10, _⟩ => ⟨S4096x1536, .f32⟩
  | .hbm, ⟨11, _⟩ => ⟨S4096x6144, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S1x1024x1512 : Shape := ⟨3, ![1, 1024, 1512]⟩
abbrev S1024x1512 : Shape := ⟨2, ![1024, 1512]⟩
abbrev S1512x1024 : Shape := ⟨2, ![1512, 1024]⟩
abbrev S_ : Shape := ⟨0, ![]⟩
abbrev S1536x1024 : Shape := ⟨2, ![1536, 1024]⟩
abbrev S504x1024 : Shape := ⟨2, ![504, 1024]⟩

abbrev nBuf : Space → Nat
  | .hbm => 18
  | .vmem => 16
  | .smem => 0
  | _ => 0

abbrev bufTy : (tb : Table) → Fin (tcTables nBuf tb) → BufTy
  | .hbm, ⟨0, _⟩ => ⟨S1x1024x1512, .f32⟩
  | .hbm, ⟨1, _⟩ => ⟨S1x1024x1512, .f32⟩
  | .hbm, ⟨2, _⟩ => ⟨S1x1024x1512, .f32⟩
  | .hbm, ⟨3, _⟩ => ⟨S1x1024x1512, .f32⟩
  | .hbm, ⟨4, _⟩ => ⟨S1024x1512, .f32⟩
  | .hbm, ⟨5, _⟩ => ⟨S1512x1024, .f32⟩
  | .hbm, ⟨6, _⟩ => ⟨S_, .f32⟩
  | .hbm, ⟨7, _⟩ => ⟨S1536x1024, .f32⟩
  | .hbm, ⟨8, _⟩ => ⟨S1024x1512, .f32⟩
  | .hbm, ⟨9, _⟩ => ⟨S1512x1024, .f32⟩
  | .hbm, ⟨10, _⟩ => ⟨S1024x1512, .f32⟩
  | .hbm, ⟨11, _⟩ => ⟨S1512x1024, .f32⟩
  | .hbm, ⟨12, _⟩ => ⟨S1024x1512, .f32⟩
  | .hbm, ⟨13, _⟩ => ⟨S1512x1024, .f32⟩
  | .hbm, ⟨14, _⟩ => ⟨S1512x1024, .f32⟩
  | .hbm, ⟨15, _⟩ => ⟨S1512x1024, .f32⟩
  | .hbm, ⟨16, _⟩ => ⟨S1512x1024, .f32⟩
  | .hbm, ⟨17, _⟩ => ⟨S1512x1024, .f32⟩
  | .local _ .vmem, ⟨0, _⟩ => ⟨S504x1024, .f32⟩
  | .local _ .vmem, ⟨1, _⟩ => ⟨S504x1024, .f32⟩
  | .local _ .vmem, ⟨2, _⟩ => ⟨S504x1024, .f32⟩
  | .local _ .vmem, ⟨3, _⟩ => ⟨S504x1024, .f32⟩
  | .local _ .vmem, ⟨4, _⟩ => ⟨S504x1024, .f32⟩
  | .local _ .vmem, ⟨5, _⟩ => ⟨S504x1024, .f32⟩
  | .local _ .vmem, ⟨6, _⟩ => ⟨S504x1024, .f32⟩
  | .local _ .vmem, ⟨7, _⟩ => ⟨S504x1024, .f32⟩
  | .local _ .vmem, ⟨8, _⟩ => ⟨S504x1024, .f32⟩
  | .local _ .vmem, ⟨9, _⟩ => ⟨S504x1024, .f32⟩
  | .local _ .vmem, ⟨10, _⟩ => ⟨S504x1024, .f32⟩
  | .local _ .vmem, ⟨11, _⟩ => ⟨S504x1024, .f32⟩
  | .local _ .vmem, ⟨12, _⟩ => ⟨S504x1024, .f32⟩
  | .local _ .vmem, ⟨13, _⟩ => ⟨S504x1024, .f32⟩
  | .local _ .vmem, ⟨14, _⟩ => ⟨S504x1024, .f32⟩
  | .local _ .vmem, ⟨15, _⟩ => ⟨S504x1024, .f32⟩
  | _, _ => ⟨S1x1024x1512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S504x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S504x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S504x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S504x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S504x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S504x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S504x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S504x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1x1024x1512 : Shape := ⟨3, ![1, 1024, 1512]⟩
abbrev S_ : Shape := ⟨0, ![]⟩
abbrev S1024x1512 : Shape := ⟨2, ![1024, 1512]⟩
abbrev S1512x1024 : Shape := ⟨2, ![1512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x1512, .f32⟩
  | .hbm, ⟨1, _⟩ => ⟨S1x1024x1512, .f32⟩
  | .hbm, ⟨2, _⟩ => ⟨S1x1024x1512, .f32⟩
  | .hbm, ⟨3, _⟩ => ⟨S1x1024x1512, .f32⟩
  | .hbm, ⟨4, _⟩ => ⟨S_, .f32⟩
  | .hbm, ⟨5, _⟩ => ⟨S1x1024x1512, .f32⟩
  | .hbm, ⟨6, _⟩ => ⟨S1x1024x1512, .f32⟩
  | .hbm, ⟨7, _⟩ => ⟨S_, .f32⟩
  | .hbm, ⟨8, _⟩ => ⟨S1x1024x1512, .f32⟩
  | .hbm, ⟨9, _⟩ => ⟨S1x1024x1512, .f32⟩
  | .hbm, ⟨10, _⟩ => ⟨S1x1024x1512, .f32⟩
  | .hbm, ⟨11, _⟩ => ⟨S_, .f32⟩
  | .hbm, ⟨12, _⟩ => ⟨S1x1024x1512, .f32⟩
  | .hbm, ⟨13, _⟩ => ⟨S1x1024x1512, .f32⟩
  | .hbm, ⟨14, _⟩ => ⟨S1x1024x1512, .f32⟩
  | .hbm, ⟨15, _⟩ => ⟨S_, .f32⟩
  | .hbm, ⟨16, _⟩ => ⟨S1x1024x1512, .f32⟩
  | .hbm, ⟨17, _⟩ => ⟨S1x1024x1512, .f32⟩
  | .hbm, ⟨18, _⟩ => ⟨S1x1024x1512, .f32⟩
  | .hbm, ⟨19, _⟩ => ⟨S_, .f32⟩
  | .hbm, ⟨20, _⟩ => ⟨S1x1024x1512, .f32⟩
  | .hbm, ⟨21, _⟩ => ⟨S1x1024x1512, .f32⟩
  | .hbm, ⟨22, _⟩ => ⟨S_, .f32⟩
  | .hbm, ⟨23, _⟩ => ⟨S1x1024x1512, .f32⟩
  | .hbm, ⟨24, _⟩ => ⟨S1x1024x1512, .f32⟩
  | .hbm, ⟨25, _⟩ => ⟨S1x1024x1512, .f32⟩
  | .hbm, ⟨26, _⟩ => ⟨S_, .f32⟩
  | .hbm, ⟨27, _⟩ => ⟨S1x1024x1512, .f32⟩
  | .hbm, ⟨28, _⟩ => ⟨S1x1024x1512, .f32⟩
  | .hbm, ⟨29, _⟩ => ⟨S1x1024x1512, .f32⟩
  | .hbm, ⟨30, _⟩ => ⟨S_, .f32⟩
  | .hbm, ⟨31, _⟩ => ⟨S1x1024x1512, .f32⟩
  | .hbm, ⟨32, _⟩ => ⟨S1x1024x1512, .f32⟩
  | .hbm, ⟨33, _⟩ => ⟨S1x1024x1512, .f32⟩
  | .hbm, ⟨34, _⟩ => ⟨S_, .f32⟩
  | .hbm, ⟨35, _⟩ => ⟨S1x1024x1512, .f32⟩
  | .hbm, ⟨36, _⟩ => ⟨S1x1024x1512, .f32⟩
  | .hbm, ⟨37, _⟩ => ⟨S1024x1512, .f32⟩
  | .hbm, ⟨38, _⟩ => ⟨S1512x1024, .f32⟩
  | .hbm, ⟨39, _⟩ => ⟨S1024x1512, .f32⟩
  | .hbm, ⟨40, _⟩ => ⟨S1512x1024, .f32⟩
  | .hbm, ⟨41, _⟩ => ⟨S1024x1512, .f32⟩
  | .hbm, ⟨42, _⟩ => ⟨S1512x1024, .f32⟩
  | .hbm, ⟨43, _⟩ => ⟨S1024x1512, .f32⟩
  | .hbm, ⟨44, _⟩ => ⟨S1512x1024, .f32⟩
  | _, _ => ⟨S1x1024x1512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel9.lean ====
abbrev S2x2048x16x64 : Shape := ⟨4, ![2, 2048, 16, 64]⟩
abbrev S8 : Shape := ⟨1, ![8]⟩
abbrev S8x1x1 : Shape := ⟨3, ![8, 1, 1]⟩
abbrev S8x128x256 : Shape := ⟨3, ![8, 128, 256]⟩
abbrev S_ : Shape := ⟨0, ![]⟩
abbrev S4096x1024 : Shape := ⟨2, ![4096, 1024]⟩
abbrev S2048x2048 : Shape := ⟨2, ![2048, 2048]⟩
abbrev S2x16x2048x2048 : Shape := ⟨4, ![2, 16, 2048, 2048]⟩
abbrev S2x2048x16x2048 : Shape := ⟨4, ![2, 2048, 16, 2048]⟩
abbrev S1x2048x1x2048 : Shape := ⟨4, ![1, 2048, 1, 2048]⟩
abbrev S2x2048x16 : Shape := ⟨3, ![2, 2048, 16]⟩
abbrev S2x2048x16x1 : Shape := ⟨4, ![2, 2048, 16, 1]⟩
abbrev S2x16x64x2048 : Shape := ⟨4, ![2, 16, 64, 2048]⟩
abbrev S2x512x4x16x64 : Shape := ⟨5, ![2, 512, 4, 16, 64]⟩
abbrev S2x4x512x16x64 : Shape := ⟨5, ![2, 4, 512, 16, 64]⟩
abbrev S8x512x16x64 : Shape := ⟨4, ![8, 512, 16, 64]⟩
abbrev S512x512 : Shape := ⟨2, ![512, 512]⟩
abbrev S8x16x512x512 : Shape := ⟨4, ![8, 16, 512, 512]⟩
abbrev S8x512x16x512 : Shape := ⟨4, ![8, 512, 16, 512]⟩
abbrev S1x512x1x512 : Shape := ⟨4, ![1, 512, 1, 512]⟩
abbrev S8x512x16 : Shape := ⟨3, ![8, 512, 16]⟩
abbrev S8x512x16x1 : Shape := ⟨4, ![8, 512, 16, 1]⟩
abbrev S8x16x64x512 : Shape := ⟨4, ![8, 16, 64, 512]⟩
abbrev S2x4x512x16 : Shape := ⟨4, ![2, 4, 512, 16]⟩
abbrev S2x512x4x16 : Shape := ⟨4, ![2, 512, 4, 16]⟩
abbrev S2x128x16x16x64 : Shape := ⟨5, ![2, 128, 16, 16, 64]⟩
abbrev S2x16x128x16x64 : Shape := ⟨5, ![2, 16, 128, 16, 64]⟩
abbrev S32x128x16x64 : Shape := ⟨4, ![32, 128, 16, 64]⟩
abbrev S128x128 : Shape := ⟨2, ![128, 128]⟩
abbrev S32x16x128x128 : Shape := ⟨4, ![32, 16, 128, 128]⟩
abbrev S32x128x16x128 : Shape := ⟨4, ![32, 128, 16, 128]⟩
abbrev S1x128x1x128 : Shape := ⟨4, ![1, 128, 1, 128]⟩
abbrev S32x128x16 : Shape := ⟨3, ![32, 128, 16]⟩
abbrev S32x128x16x1 : Shape := ⟨4, ![32, 128, 16, 1]⟩
abbrev S32x16x64x128 : Shape := ⟨4, ![32, 16, 64, 128]⟩
abbrev S2x16x128x16 : Shape := ⟨4, ![2, 16, 128, 16]⟩
abbrev S2x128x16x16 : Shape := ⟨4, ![2, 128, 16, 16]⟩
abbrev S2x512x4x1024 : Shape := ⟨4, ![2, 512, 4, 1024]⟩
abbrev S2x4x512x1024 : Shape := ⟨4, ![2, 4, 512, 1024]⟩
abbrev S2x128x16x1024 : Shape := ⟨4, ![2, 128, 16, 1024]⟩
abbrev S2x16x128x1024 : Shape := ⟨4, ![2, 16, 128, 1024]⟩
abbrev S2048x128 : Shape := ⟨2, ![2048, 128]⟩
abbrev S2x3x2048x128 : Shape := ⟨4, ![2, 3, 2048, 128]⟩
abbrev S1x128 : Shape := ⟨2, ![1, 128]⟩
abbrev S2048 : Shape := ⟨1, ![2048]⟩
abbrev S2048x1 : Shape := ⟨2, ![2048, 1]⟩
abbrev S256x128 : Shape := ⟨2, ![256, 128]⟩
abbrev S256x256 : Shape := ⟨2, ![256, 256]⟩
abbrev S1x128x256 : Shape := ⟨3, ![1, 128, 256]⟩
abbrev S128x256 : Shape := ⟨2, ![128, 256]⟩
abbrev S128x1 : Shape := ⟨2, ![128, 1]⟩
abbrev S512x128 : Shape := ⟨2, ![512, 128]⟩
abbrev S1x1x2048x128 : Shape := ⟨4, ![1, 1, 2048, 128]⟩

abbrev nBuf : Space → Nat
  | .hbm => 232
  | .vmem => 42
  | .smem => 0
  | _ => 0

abbrev hbmTy0_0 (i : Nat) : BufTy := match i % 128 with
  | 0 => ⟨S2x2048x16x64, .f32⟩
  | 1 => ⟨S2x2048x16x64, .f32⟩
  | 2 => ⟨S2x2048x16x64, .f32⟩
  | 3 => ⟨S2x2048x16x64, .f32⟩
  | 4 => ⟨S8, .i32⟩
  | 5 => ⟨S8, .i32⟩
  | 6 => ⟨S8, .i32⟩
  | 7 => ⟨S8x1x1, .i32⟩
  | 8 => ⟨S8x128x256, .i32⟩
  | 9 => ⟨S8x1x1, .i32⟩
  | 10 => ⟨S8x128x256, .i32⟩
  | 11 => ⟨S8x1x1, .i32⟩
  | 12 => ⟨S8x128x256, .i32⟩
  | 13 => ⟨S8x128x256, .i32⟩
  | 14 => ⟨S8x128x256, .i32⟩
  | 15 => ⟨S8x128x256, .i32⟩
  | 16 => ⟨S8x128x256, .i32⟩
  | 17 => ⟨S8x128x256, .i32⟩
  | 18 => ⟨S8x128x256, .i32⟩
  | 19 => ⟨S8x128x256, .i1⟩
  | 20 => ⟨S8x128x256, .i32⟩
  | 21 => ⟨S8x128x256, .i32⟩
  | 22 => ⟨S_, .i32⟩
  | 23 => ⟨S8x128x256, .i32⟩
  | 24 => ⟨S8x128x256, .i1⟩
  | 25 => ⟨S8x128x256, .i1⟩
  | 26 => ⟨S_, .f32⟩
  | 27 => ⟨S_, .f32⟩
  | 28 => ⟨S8x128x256, .f32⟩
  | 29 => ⟨S8x128x256, .f32⟩
  | 30 => ⟨S8x128x256, .f32⟩
  | 31 => ⟨S_, .f32⟩
  | 32 => ⟨S_, .f32⟩
  | 33 => ⟨S_, .f32⟩
  | 34 => ⟨S_, .f32⟩
  | 35 => ⟨S2x2048x16x64, .f32⟩
  | 36 => ⟨S2x2048x16x64, .f32⟩
  | 37 => ⟨S4096x1024, .f32⟩
  | 38 => ⟨S4096x1024, .bf16⟩
  | 39 => ⟨S4096x1024, .f32⟩
  | 40 => ⟨S4096x1024, .bf16⟩
  | 41 => ⟨S4096x1024, .f32⟩
  | 42 => ⟨S4096x1024, .bf16⟩
  | 43 => ⟨S2048x2048, .i32⟩
  | 44 => ⟨S2048x2048, .i32⟩
  | 45 => ⟨S2048x2048, .i32⟩
  | 46 => ⟨S2x16x2048x2048, .f32⟩
  | 47 => ⟨S2x2048x16x2048, .f32⟩
  | 48 => ⟨S_, .f32⟩
  | 49 => ⟨S2x2048x16x2048, .f32⟩
  | 50 => ⟨S2x2048x16x2048, .f32⟩
  | 51 => ⟨S2048x2048, .i32⟩
  | 52 => ⟨S_, .i32⟩
  | 53 => ⟨S2048x2048, .i32⟩
  | 54 => ⟨S2048x2048, .i1⟩
  | 55 => ⟨S1x2048x1x2048, .i1⟩
  | 56 => ⟨S_, .f32⟩
  | 57 => ⟨S_, .f32⟩
  | 58 => ⟨S2x2048x16x2048, .i1⟩
  | 59 => ⟨S2x2048x16x2048, .f32⟩
  | 60 => ⟨S2x2048x16x2048, .f32⟩
  | 61 => ⟨S_, .f32⟩
  | 62 => ⟨S2x2048x16, .f32⟩
  | 63 => ⟨S2x2048x16x1, .f32⟩
  | 64 => ⟨S2x2048x16x2048, .f32⟩
  | 65 => ⟨S2x2048x16x2048, .f32⟩
  | 66 => ⟨S2x2048x16x2048, .f32⟩
  | 67 => ⟨S_, .f32⟩
  | 68 => ⟨S2x2048x16, .f32⟩
  | 69 => ⟨S2x2048x16x1, .f32⟩
  | 70 => ⟨S2x2048x16x2048, .f32⟩
  | 71 => ⟨S2x2048x16x2048, .f32⟩
  | 72 => ⟨S2x16x64x2048, .f32⟩
  | 73 => ⟨S2x2048x16x64, .f32⟩
  | 74 => ⟨S2x2048x16x1, .f32⟩
  | 75 => ⟨S2x2048x16x1, .f32⟩
  | 76 => ⟨S2x2048x16, .f32⟩
  | 77 => ⟨S2x512x4x16x64, .f32⟩
  | 78 => ⟨S2x4x512x16x64, .f32⟩
  | 79 => ⟨S8x512x16x64, .f32⟩
  | 80 => ⟨S2x512x4x16x64, .f32⟩
  | 81 => ⟨S2x4x512x16x64, .f32⟩
  | 82 => ⟨S8x512x16x64, .f32⟩
  | 83 => ⟨S2x512x4x16x64, .f32⟩
  | 84 => ⟨S2x4x512x16x64, .f32⟩
  | 85 => ⟨S8x512x16x64, .f32⟩
  | 86 => ⟨S512x512, .i32⟩
  | 87 => ⟨S512x512, .i32⟩
  | 88 => ⟨S512x512, .i32⟩
  | 89 => ⟨S8x16x512x512, .f32⟩
  | 90 => ⟨S8x512x16x512, .f32⟩
  | 91 => ⟨S_, .f32⟩
  | 92 => ⟨S8x512x16x512, .f32⟩
  | 93 => ⟨S8x512x16x512, .f32⟩
  | 94 => ⟨S512x512, .i32⟩
  | 95 => ⟨S_, .i32⟩
  | 96 => ⟨S512x512, .i32⟩
  | 97 => ⟨S512x512, .i1⟩
  | 98 => ⟨S1x512x1x512, .i1⟩
  | 99 => ⟨S_, .f32⟩
  | 100 => ⟨S_, .f32⟩
  | 101 => ⟨S8x512x16x512, .i1⟩
  | 102 => ⟨S8x512x16x512, .f32⟩
  | 103 => ⟨S8x512x16x512, .f32⟩
  | 104 => ⟨S_, .f32⟩
  | 105 => ⟨S8x512x16, .f32⟩
  | 106 => ⟨S8x512x16x1, .f32⟩
  | 107 => ⟨S8x512x16x512, .f32⟩
  | 108 => ⟨S8x512x16x512, .f32⟩
  | 109 => ⟨S8x512x16x512, .f32⟩
  | 110 => ⟨S_, .f32⟩
  | 111 => ⟨S8x512x16, .f32⟩
  | 112 => ⟨S8x512x16x1, .f32⟩
  | 113 => ⟨S8x512x16x512, .f32⟩
  | 114 => ⟨S8x512x16x512, .f32⟩
  | 115 => ⟨S8x16x64x512, .f32⟩
  | 116 => ⟨S8x512x16x64, .f32⟩
  | 117 => ⟨S8x512x16x1, .f32⟩
  | 118 => ⟨S8x512x16x1, .f32⟩
  | 119 => ⟨S8x512x16, .f32⟩
  | 120 => ⟨S2x4x512x16x64, .f32⟩
  | 121 => ⟨S2x512x4x16x64, .f32⟩
  | 122 => ⟨S2x2048x16x64, .f32⟩
  | 123 => ⟨S2x4x512x16, .f32⟩
  | 124 => ⟨S2x512x4x16, .f32⟩
  | 125 => ⟨S2x2048x16, .f32⟩
  | 126 => ⟨S2x128x16x16x64, .f32⟩
  | 127 => ⟨S2x16x128x16x64, .f32⟩
  | _ => ⟨S2x2048x16x64, .f32⟩

abbrev hbmTy0_1 (i : Nat) : BufTy := match i % 128 with
  | 0 => ⟨S32x128x16x64, .f32⟩
  | 1 => ⟨S2x128x16x16x64, .f32⟩
  | 2 => ⟨S2x16x128x16x64, .f32⟩
  | 3 => ⟨S32x128x16x64, .f32⟩
  | 4 => ⟨S2x128x16x16x64, .f32⟩
  | 5 => ⟨S2x16x128x16x64, .f32⟩
  | 6 => ⟨S32x128x16x64, .f32⟩
  | 7 => ⟨S128x128, .i32⟩
  | 8 => ⟨S128x128, .i32⟩
  | 9 => ⟨S128x128, .i32⟩
  | 10 => ⟨S32x16x128x128, .f32⟩
  | 11 => ⟨S32x128x16x128, .f32⟩
  | 12 => ⟨S_, .f32⟩
  | 13 => ⟨S32x128x16x128, .f32⟩
  | 14 => ⟨S32x128x16x128, .f32⟩
  | 15 => ⟨S128x128, .i32⟩
  | 16 => ⟨S_, .i32⟩
  | 17 => ⟨S128x128, .i32⟩
  | 18 => ⟨S128x128, .i1⟩
  | 19 => ⟨S1x128x1x128, .i1⟩
  | 20 => ⟨S_, .f32⟩
  | 21 => ⟨S_, .f32⟩
  | 22 => ⟨S32x128x16x128, .i1⟩
  | 23 => ⟨S32x128x16x128, .f32⟩
  | 24 => ⟨S32x128x16x128, .f32⟩
  | 25 => ⟨S_, .f32⟩
  | 26 => ⟨S32x128x16, .f32⟩
  | 27 => ⟨S32x128x16x1, .f32⟩
  | 28 => ⟨S32x128x16x128, .f32⟩
  | 29 => ⟨S32x128x16x128, .f32⟩
  | 30 => ⟨S32x128x16x128, .f32⟩
  | 31 => ⟨S_, .f32⟩
  | 32 => ⟨S32x128x16, .f32⟩
  | 33 => ⟨S32x128x16x1, .f32⟩
  | 34 => ⟨S32x128x16x128, .f32⟩
  | 35 => ⟨S32x128x16x128, .f32⟩
  | 36 => ⟨S32x16x64x128, .f32⟩
  | 37 => ⟨S32x128x16x64, .f32⟩
  | 38 => ⟨S32x128x16x1, .f32⟩
  | 39 => ⟨S32x128x16x1, .f32⟩
  | 40 => ⟨S32x128x16, .f32⟩
  | 41 => ⟨S2x16x128x16x64, .f32⟩
  | 42 => ⟨S2x128x16x16x64, .f32⟩
  | 43 => ⟨S2x2048x16x64, .f32⟩
  | 44 => ⟨S2x16x128x16, .f32⟩
  | 45 => ⟨S2x128x16x16, .f32⟩
  | 46 => ⟨S2x2048x16, .f32⟩
  | 47 => ⟨S2x2048x16, .f32⟩
  | 48 => ⟨S2x2048x16, .f32⟩
  | 49 => ⟨S2x2048x16, .f32⟩
  | 50 => ⟨S2x2048x16, .f32⟩
  | 51 => ⟨S2x2048x16, .f32⟩
  | 52 => ⟨S2x2048x16, .f32⟩
  | 53 => ⟨S2x2048x16, .f32⟩
  | 54 => ⟨S2x2048x16, .f32⟩
  | 55 => ⟨S2x2048x16, .f32⟩
  | 56 => ⟨S2x2048x16, .f32⟩
  | 57 => ⟨S2x2048x16x1, .f32⟩
  | 58 => ⟨S2x2048x16x64, .f32⟩
  | 59 => ⟨S2x2048x16x64, .f32⟩
  | 60 => ⟨S2x2048x16x1, .f32⟩
  | 61 => ⟨S2x2048x16x64, .f32⟩
  | 62 => ⟨S2x2048x16x64, .f32⟩
  | 63 => ⟨S2x2048x16x1, .f32⟩
  | 64 => ⟨S2x2048x16x64, .f32⟩
  | 65 => ⟨S2x2048x16x64, .f32⟩
  | 66 => ⟨S2x2048x16x64, .f32⟩
  | 67 => ⟨S2x2048x16x64, .f32⟩
  | 68 => ⟨S2x2048x16x1, .f32⟩
  | 69 => ⟨S2x2048x16x64, .f32⟩
  | 70 => ⟨S2x2048x16x64, .f32⟩
  | 71 => ⟨S2x2048x16, .f32⟩
  | 72 => ⟨S2x2048x16, .f32⟩
  | 73 => ⟨S_, .f32⟩
  | 74 => ⟨S_, .f32⟩
  | 75 => ⟨S2x2048x16, .f32⟩
  | 76 => ⟨S2x2048x16, .f32⟩
  | 77 => ⟨S2x512x4x1024, .bf16⟩
  | 78 => ⟨S2x4x512x1024, .bf16⟩
  | 79 => ⟨S4096x1024, .bf16⟩
  | 80 => ⟨S2x512x4x1024, .bf16⟩
  | 81 => ⟨S2x4x512x1024, .bf16⟩
  | 82 => ⟨S4096x1024, .bf16⟩
  | 83 => ⟨S2x512x4x1024, .bf16⟩
  | 84 => ⟨S2x4x512x1024, .bf16⟩
  | 85 => ⟨S4096x1024, .bf16⟩
  | 86 => ⟨S2x128x16x1024, .bf16⟩
  | 87 => ⟨S2x16x128x1024, .bf16⟩
  | 88 => ⟨S4096x1024, .bf16⟩
  | 89 => ⟨S2x128x16x1024, .bf16⟩
  | 90 => ⟨S2x16x128x1024, .bf16⟩
  | 91 => ⟨S4096x1024, .bf16⟩
  | 92 => ⟨S2x128x16x1024, .bf16⟩
  | 93 => ⟨S2x16x128x1024, .bf16⟩
  | 94 => ⟨S4096x1024, .bf16⟩
  | 95 => ⟨S4096x1024, .f32⟩
  | 96 => ⟨S4096x1024, .f32⟩
  | 97 => ⟨S4096x1024, .bf16⟩
  | 98 => ⟨S2x2048x16x1, .f32⟩
  | 99 => ⟨S2x2048x16x64, .f32⟩
  | 100 => ⟨S4096x1024, .f32⟩
  | 101 => ⟨S4096x1024, .bf16⟩
  | 102 => ⟨S4096x1024, .bf16⟩
  | 103 => ⟨S4096x1024, .bf16⟩
  | _ => ⟨S2x2048x16x64, .f32⟩

abbrev hbmTy (i : Nat) : BufTy := match i / 128 with
  | 0 => hbmTy0_0 i
  | 1 => hbmTy0_1 i
  | _ => ⟨S2x2048x16x64, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S8x128x256, .f32⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .f32⟩
  | .local _ .vmem, ⟨32, _⟩ => ⟨S2048x128, .f32⟩
  | .local _ .vmem, ⟨33, _⟩ => ⟨S2048x128, .bf16⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2x3x2048x128, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_16 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_17 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_18 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v116 : Ref sig .tc := ⟨.hbm, 152, rfl⟩
abbrev main_cst_19 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_20 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_cst_21 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190_0 : Ref sig .tc := ⟨.hbm, 229, rfl⟩
abbrev main_v190_1 : Ref sig .tc := ⟨.hbm, 230, rfl⟩
abbrev main_v190_2 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_scratch9 : Ref sig .tc := ⟨.vmem, 40, rfl⟩
abbrev cc0_scratch10 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel9Ideal.lean ====
variable {F : FTy → Type} [FloatOps F] [Named F]
def κ : String → Option EReal := fun
  | "ln2" => some ((Real.log 2 : ℝ) : EReal)
  | _ => none
-- ==== Kernel10.lean ====
abbrev S2x2048x16x64 : Shape := ⟨4, ![2, 2048, 16, 64]⟩
abbrev S8 : Shape := ⟨1, ![8]⟩
abbrev S8x1x1 : Shape := ⟨3, ![8, 1, 1]⟩
abbrev S8x128x256 : Shape := ⟨3, ![8, 128, 256]⟩
abbrev S_ : Shape := ⟨0, ![]⟩
abbrev S4096x1024 : Shape := ⟨2, ![4096, 1024]⟩
abbrev S2048x128 : Shape := ⟨2, ![2048, 128]⟩
abbrev S3x2048x128 : Shape := ⟨3, ![3, 2048, 128]⟩
abbrev S2x2048x128 : Shape := ⟨3, ![2, 2048, 128]⟩
abbrev S1x128 : Shape := ⟨2, ![1, 128]⟩
abbrev S128x128 : Shape := ⟨2, ![128, 128]⟩
abbrev S256x128 : Shape := ⟨2, ![256, 128]⟩
abbrev S256x256 : Shape := ⟨2, ![256, 256]⟩
abbrev S1x128x256 : Shape := ⟨3, ![1, 128, 256]⟩
abbrev S128x256 : Shape := ⟨2, ![128, 256]⟩
abbrev S128 : Shape := ⟨1, ![128]⟩
abbrev S128x1 : Shape := ⟨2, ![128, 1]⟩
abbrev S1x128x128 : Shape := ⟨3, ![1, 128, 128]⟩
abbrev S512x128 : Shape := ⟨2, ![512, 128]⟩
abbrev S1x512x128 : Shape := ⟨3, ![1, 512, 128]⟩
abbrev S1x2048x128 : Shape := ⟨3, ![1, 2048, 128]⟩

abbrev nBuf : Space → Nat
  | .hbm => 50
  | .vmem => 28
  | .smem => 0
  | _ => 0

abbrev bufTy : (tb : Table) → Fin (tcTables nBuf tb) → BufTy
  | .hbm, ⟨0, _⟩ => ⟨S2x2048x16x64, .f32⟩
  | .hbm, ⟨1, _⟩ => ⟨S2x2048x16x64, .f32⟩
  | .hbm, ⟨2, _⟩ => ⟨S2x2048x16x64, .f32⟩
  | .hbm, ⟨3, _⟩ => ⟨S8, .i32⟩
  | .hbm, ⟨4, _⟩ => ⟨S8, .i32⟩
  | .hbm, ⟨5, _⟩ => ⟨S8, .i32⟩
  | .hbm, ⟨6, _⟩ => ⟨S8x1x1, .i32⟩
  | .hbm, ⟨7, _⟩ => ⟨S8x128x256, .i32⟩
  | .hbm, ⟨8, _⟩ => ⟨S8x1x1, .i32⟩
  | .hbm, ⟨9, _⟩ => ⟨S8x128x256, .i32⟩
  | .hbm, ⟨10, _⟩ => ⟨S8x1x1, .i32⟩
  | .hbm, ⟨11, _⟩ => ⟨S8x128x256, .i32⟩
  | .hbm, ⟨12, _⟩ => ⟨S8x128x256, .i32⟩
  | .hbm, ⟨13, _⟩ => ⟨S8x128x256, .i32⟩
  | .hbm, ⟨14, _⟩ => ⟨S8x128x256, .i32⟩
  | .hbm, ⟨15, _⟩ => ⟨S8x128x256, .i32⟩
  | .hbm, ⟨16, _⟩ => ⟨S8x128x256, .i32⟩
  | .hbm, ⟨17, _⟩ => ⟨S8x128x256, .i32⟩
  | .hbm, ⟨18, _⟩ => ⟨S8x128x256, .i1⟩
  | .hbm, ⟨19, _⟩ => ⟨S8x128x256, .i32⟩
  | .hbm, ⟨20, _⟩ => ⟨S8x128x256, .i32⟩
  | .hbm, ⟨21, _⟩ => ⟨S_, .i32⟩
  | .hbm, ⟨22, _⟩ => ⟨S8x128x256, .i32⟩
  | .hbm, ⟨23, _⟩ => ⟨S8x128x256, .i1⟩
  | .hbm, ⟨24, _⟩ => ⟨S8x128x256, .i1⟩
  | .hbm, ⟨25, _⟩ => ⟨S_, .f32⟩
  | .hbm, ⟨26, _⟩ => ⟨S_, .f32⟩
  | .hbm, ⟨27, _⟩ => ⟨S8x128x256, .f32⟩
  | .hbm, ⟨28, _⟩ => ⟨S8x128x256, .f32⟩
  | .hbm, ⟨29, _⟩ => ⟨S8x128x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x2048x16x64, .f32⟩
  | .hbm, ⟨35, _⟩ => ⟨S2x2048x16x64, .f32⟩
  | .hbm, ⟨36, _⟩ => ⟨S4096x1024, .f32⟩
  | .hbm, ⟨37, _⟩ => ⟨S4096x1024, .bf16⟩
  | .hbm, ⟨38, _⟩ => ⟨S4096x1024, .f32⟩
  | .hbm, ⟨39, _⟩ => ⟨S4096x1024, .bf16⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S8x128x256, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .f32⟩
  | .local _ .vmem, ⟨24, _⟩ => ⟨S3x2048x128, .f32⟩
  | .local _ .vmem, ⟨25, _⟩ => ⟨S3x2048x128, .f32⟩
  | .local _ .vmem, ⟨26, _⟩ => ⟨S2x2048x128, .f32⟩
  | .local _ .vmem, ⟨27, _⟩ => ⟨S2x2048x128, .f32⟩
  | _, _ => ⟨S2x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev main_v29_6 : Ref sig .tc := ⟨.hbm, 48, rfl⟩
abbrev main_v29_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel10Ideal.lean ====
variable {F : FTy → Type} [FloatOps F] [Named F]
def κ : String → Option EReal := fun
  | "log2e" => some (((Real.log 2)⁻¹ : ℝ) : EReal)
  | _ => none
-- ==== Proof.Lanes.lean ====
module

public import Idealize.ShloMosaic.Lib.Pointwise

@[expose] public section

/-! The projection's 6048 columns laid out over 6144 lanes: 4480 columns, 64 zero lanes, 32 columns, 32 zero lanes, 1536
    columns. -/

noncomputable section

namespace Cert.Lanes

open Idealize.ShloMosaic

/-- The value on lane `q` of the row `f`. -/
def pick (f : Fin 6048 → EReal) (q : Fin 6144) : EReal :=
  if h : q.val < 4480 then f ⟨q.val, by omega⟩
  else if q.val < 4544 then 0
  else if h : q.val < 4576 then f ⟨q.val - 64, by omega⟩
  else if q.val < 4608 then 0
  else f ⟨q.val - 96, by omega⟩

/-- The lane that holds column `l`. -/
def lane (l : Fin 6048) : Fin 6144 :=
  ⟨if l.val < 4480 then l.val else if l.val < 4512 then l.val + 64 else l.val + 96, by split_ifs <;> omega⟩

theorem lane_injective : Function.Injective lane := by
  intro a b h
  have h' := congrArg Fin.val h
  simp only [lane] at h'
  apply Fin.ext
  split_ifs at h' <;> omega

theorem pick_lane (f : Fin 6048 → EReal) (l : Fin 6048) : pick f (lane l) = f l := by
  obtain ⟨l, hl⟩ := l
  unfold pick lane
  by_cases h1 : l < 4480
  · simp [h1]
  · by_cases h2 : l < 4512
    · have a1 : ¬ l + 64 < 4480 := by omega
      have a2 : ¬ l + 64 < 4544 := by omega
      have a3 : l + 64 < 4576 := by omega
      simp [h1, h2, a1, a2, a3]
    · have a1 : ¬ l + 96 < 4480 := by omega
      have a2 : ¬ l + 96 < 4544 := by omega
      have a3 : ¬ l + 96 < 4576 := by omega
      have a4 : ¬ l + 96 < 4608 := by omega
      simp [h1, h2, a1, a2, a3, a4]

theorem pick_off (f : Fin 6048 → EReal) (q : Fin 6144) (hq : q ∉ Set.range lane) : pick f q = 0 := by
  obtain ⟨q, hlt⟩ := q
  have hne : ∀ l : Fin 6048, (lane l).val ≠ q := fun l h => hq ⟨l, Fin.ext h⟩
  unfold pick
  dsimp only
  split_ifs with h1 h2 h3 h4
  · exact absurd (by simp [lane, h1]) (hne ⟨q, by omega⟩)
  · rfl
  · refine absurd ?_ (hne ⟨q - 64, by omega⟩)
    simp only [lane]; split_ifs <;> omega
  · rfl
  · refine absurd ?_ (hne ⟨q - 96, by omega⟩)
    simp only [lane]; split_ifs <;> omega

/-- The value on a lane that holds a column. -/
theorem pick_of (f : Fin 6048 → EReal) (q : Fin 6144) (k : Fin 6048) (h : q.val = (lane k).val) : pick f q = f k := by
  rw [show q = lane k from Fin.ext h, pick_lane]

/-- The value on a zero lane. -/
theorem pick_zero (f : Fin 6048 → EReal) (q : Fin 6144) (h : 4480 ≤ q.val ∧ q.val < 4544 ∨ 4576 ≤ q.val ∧ q.val < 4608) : pick f q = 0 := by
  refine pick_off f q fun ⟨l, e⟩ => ?_
  have e' : (lane l).val = q.val := congrArg Fin.val e
  simp only [lane] at e'
  split_ifs at e' <;> omega

/-- Four shards of 1512 rows, cut and padded, lie as the lanes do. -/
theorem shards_eq (f : Fin 6048 → EReal) (q : Fin 6144) :
  (if h : q.val < 1512 then if h_1 : q.val < 1512 then f ⟨q.val, by omega⟩ else 0
    else
      if h : q.val - 1512 < 1512 then
        if h_1 : q.val - 1512 < 1512 then f ⟨1512 + (q.val - 1512), by omega⟩ else 0
      else
        if h : q.val - 1512 - 1512 < 1456 then
          if h_1 : q.val - 1512 - 1512 < 1512 then f ⟨3024 + (q.val - 1512 - 1512), by omega⟩
          else 0
        else
          if h : q.val - 1512 - 1512 - 1456 < 64 then 0
          else
            if h : q.val - 1512 - 1512 - 1456 - 64 < 32 then
              if h_1 : 1456 + (q.val - 1512 - 1512 - 1456 - 64) < 1512 then
                f ⟨3024 + (1456 + (q.val - 1512 - 1512 - 1456 - 64)), by omega⟩
              else 0
            else
              if h : q.val - 1512 - 1512 - 1456 - 64 - 32 < 32 then 0
              else
                if h : q.val - 1512 - 1512 - 1456 - 64 - 32 - 32 < 24 then
                  if h_1 : 1488 + (q.val - 1512 - 1512 - 1456 - 64 - 32 - 32) < 1512 then
                    f ⟨3024 + (1488 + (q.val - 1512 - 1512 - 1456 - 64 - 32 - 32)), by omega⟩
                  else 0
                else
                  if h_1 : q.val - 1512 - 1512 - 1456 - 64 - 32 - 32 - 24 < 1512 then
                    f ⟨4536 + (q.val - 1512 - 1512 - 1456 - 64 - 32 - 32 - 24), by omega⟩
                  else 0) = pick f q := by
  split_ifs
  all_goals first
    | (exfalso; omega)
    | exact (pick_zero _ _ (by omega)).symm
    | (refine (pick_of f q _ ?_).symm; dsimp only [lane]; split_ifs <;> omega)
/-- Three column ranges with zeros between them lie as the lanes do. -/
theorem columns_eq (f : Fin 6048 → EReal) (q : Fin 6144) :
  (if h : q.val < 4480 then f ⟨q.val, by omega⟩
    else
      if h : q.val - 4480 < 64 then 0
      else
        if h : q.val - 4480 - 64 < 32 then f ⟨4480 + (q.val - 4480 - 64), by omega⟩
        else
          if h : q.val - 4480 - 64 - 32 < 32 then 0
          else f ⟨4512 + (q.val - 4480 - 64 - 32 - 32), by omega⟩) = pick f q := by
  split_ifs
  all_goals first
    | exact (pick_zero _ _ (by omega)).symm
    | (refine (pick_of f q _ ?_).symm; dsimp only [lane]; split_ifs <;> omega)

/-- The zero lanes add nothing to a product of two rows laid out so. -/
theorem sum_pick (f g : Fin 6048 → EReal) : ∑ q, pick f q * pick g q = ∑ l, f l * g l := by
  refine (Fintype.sum_of_injective lane lane_injective (fun l => f l * g l) (fun q => pick f q * pick g q) ?_ ?_).symm
  · intro q hq
    rw [pick_off f q hq, zero_mul]
  · intro l
    rw [pick_lane, pick_lane]

end Cert.Lanes
-- ==== Proof.DhEntry.lean ====
module

public import proofs.«01_k».proof.Proof.Gen.KernelIdeal.Value
public import proofs.«01_k».proof.Proof.Lanes
public import Idealize.ShloMosaic.Lib.Pipeline.ValueKit
public import Idealize.ShloMosaic.Lib.Pointwise

@[expose] public section

set_option maxRecDepth 16384

/-! What the arrays hold when the region starts, and the blocks of them a grid point stages. -/

noncomputable section

open Idealize.ShloMosaic Idealize.ShloMosaic.TcCoe Idealize.SL.Sem
open Idealize.ShloMosaic.Pipeline (Dat)

namespace Cert.KernelIdeal.Value
open Cert.KernelIdeal Cert.KernelIdeal.Gen
variable (m : (ℓ : Loc nD τ sig) → Buf (Elt Ideal) ℓ)

/-- The weight's columns as the rows of four padded shards. -/
def gin (c : Dev nD) : FVec Ideal S4x1536x1024 .bf16 :=
  truncf FTy.bf16 (pad S4x1536x1024 ![0, 0, 0] ![0, 24, 0] ![0, 0, 0]
    (shapeCast S4x1512x1024 (transpose S6048x1024 [1, 0] (m (c, Proc.tc.devRef main_arg3) : FVec Ideal S1024x6048 .f32) transposes_S1024x6048_S6048x1024_1_0) shapeCasts_S6048x1024_S4x1512x1024)
    (constant S_ FTy.f32 0#32) pads_S4x1512x1024_S4x1536x1024_000_0240_000 h_S_) bitsLt_bf16_f32

set_option maxHeartbeats 1000000 in
/-- The arranged weight when the region starts. -/
theorem w_arr (c : Dev nD) : V m c main_v26 = concatenate S6144x1024 0
    [⟨S1512x1024, shapeCast S1512x1024 (extractStridedSlice S1x1512x1024 ![0, 0, 0] (gin m c) slices_S4x1536x1024_S1x1512x1024_0_0_0) shapeCasts_S1x1512x1024_S1512x1024⟩,
     ⟨S1512x1024, shapeCast S1512x1024 (extractStridedSlice S1x1512x1024 ![1, 0, 0] (gin m c) slices_S4x1536x1024_S1x1512x1024_1_0_0) shapeCasts_S1x1512x1024_S1512x1024⟩,
     ⟨S1456x1024, shapeCast S1456x1024 (extractStridedSlice S1x1456x1024 ![2, 0, 0] (gin m c) slices_S4x1536x1024_S1x1456x1024_2_0_0) shapeCasts_S1x1456x1024_S1456x1024⟩,
     ⟨S64x1024, broadcastInDim S64x1024 ![] bcast_S_S64x1024 (constant S_ FTy.bf16 0#16)⟩,
     ⟨S32x1024, shapeCast S32x1024 (extractStridedSlice S1x32x1024 ![2, 1456, 0] (gin m c) slices_S4x1536x1024_S1x32x1024_2_1456_0) shapeCasts_S1x32x1024_S32x1024⟩,
     ⟨S32x1024, broadcastInDim S32x1024 ![] bcast_S_S32x1024 (constant S_ FTy.bf16 0#16)⟩,
     ⟨S24x1024, shapeCast S24x1024 (extractStridedSlice S1x24x1024 ![2, 1488, 0] (gin m c) slices_S4x1536x1024_S1x24x1024_2_1488_0) shapeCasts_S1x24x1024_S24x1024⟩,
     ⟨S1512x1024, shapeCast S1512x1024 (extractStridedSlice S1x1512x1024 ![3, 0, 0] (gin m c) slices_S4x1536x1024_S1x1512x1024_3_0_0) shapeCasts_S1x1512x1024_S1512x1024⟩]
    concatenates_S1512x1024_S1512x1024_S1456x1024_S64x1024_S32x1024_S32x1024_S24x1024_S1512x1024_S6144x1024_d0 := by
  dsimp only [V, hostOps0]
  after_results_simp
  rfl

/-- The padded cotangent of the projection when the region starts. -/
theorem dp_arr (c : Dev nD) (r : Fin 4096) (q : Fin 6144) : ((V m c main_v11) (ix2 r q) : EReal) =
   Lanes.pick (fun l => m (c, Proc.tc.devRef main_arg4) (ix3 ⟨r.val / 2048, by omega⟩ ⟨r.val % 2048, by omega⟩ l)) q := by
  dsimp only [V, hostOps0]
  after_results_simp
  dsimp only [Matrix.cons_val]
  after_results_loop
  pointwise
  exact Lanes.columns_eq (fun l => m (c, Proc.tc.devRef main_arg4) (ix3 ⟨r.val / 2048, by omega⟩ ⟨r.val % 2048, by omega⟩ l)) q

/-- The arranged weight, lane by lane. -/
theorem w_at (c : Dev nD) (p : Fin 1024) (q : Fin 6144) : ((V m c main_v26) (ix2 q p) : EReal) =
   Lanes.pick (fun l => m (c, Proc.tc.devRef main_arg3) (ix2 p l)) q := by
  rw [w_arr]
  unfold gin
  pointwise
  exact Lanes.shards_eq (fun l => m (c, Proc.tc.devRef main_arg3) (ix2 p l)) q

/-- Row `R` of the norm's argument. -/
def xrow (c : Dev nD) (R : Fin 4096) (k : Fin 1024) : EReal :=
  m (c, Proc.tc.devRef main_arg0) (ix3 ⟨R.val / 2048, by omega⟩ ⟨R.val % 2048, by omega⟩ k)

/-- Row `R` of the residual's cotangent. -/
def zrow (c : Dev nD) (R : Fin 4096) (k : Fin 1024) : EReal :=
  m (c, Proc.tc.devRef main_arg5) (ix3 ⟨R.val / 2048, by omega⟩ ⟨R.val % 2048, by omega⟩ k)

/-- Row `R` of the projection's cotangent. -/
def prow (c : Dev nD) (R : Fin 4096) (l : Fin 6048) : EReal :=
  m (c, Proc.tc.devRef main_arg4) (ix3 ⟨R.val / 2048, by omega⟩ ⟨R.val % 2048, by omega⟩ l)

/-- Row `k` of the weight. -/
def wrow (c : Dev nD) (k : Fin 1024) (l : Fin 6048) : EReal := m (c, Proc.tc.devRef main_arg3) (ix2 k l)

/-- The norm's scale. -/
def gain (c : Dev nD) (k : Fin 1024) : EReal := m (c, Proc.tc.devRef main_arg1) (ix1 k)

theorem x_at (c : Dev nD) (r : Fin 4096) (q : Fin 1024) : ((V m c main_v27) (ix2 r q) : EReal) = xrow m c r q := by
  dsimp only [V, hostOps0]
  after_results_simp
  pointwise
  rfl

theorem z_at (c : Dev nD) (r : Fin 4096) (q : Fin 1024) : ((V m c main_v28) (ix2 r q) : EReal) = zrow m c r q := by
  dsimp only [V, hostOps0]
  after_results_simp
  pointwise
  rfl

theorem g_at (c : Dev nD) (r : Fin 1) (q : Fin 1024) : ((V m c main_v29) (ix2 r q) : EReal) = gain m c q := by
  dsimp only [V, hostOps0]
  after_results_simp
  pointwise
  rfl

/-! ## The blocks of a grid point -/

theorem idx : ∀ t : Fin cfg0.N, win0_0.index t = ![t.val / 2, t.val % 2] ∧ win0_1.index t = ![t.val % 2, 0]
    ∧ win0_2.index t = ![t.val / 2, 0] ∧ win0_3.index t = ![t.val / 2, 0] ∧ win0_4.index t = ![0, 0] :=
  (by decide +kernel : ∀ t : Fin grid0.N, _)

theorem lt16 (t : Fin cfg0.N) : t.val < 16 := lt_of_lt_of_eq t.isLt N_0

/-- The row of the array that row `r` of point `t`'s tile is. -/
def rowOf (t : Fin cfg0.N) (r : Fin 512) : Fin 4096 := ⟨512 * (t.val / 2) + r.val, by have := lt16 t; omega⟩

/-- The lane of the array that lane `k` of point `t`'s half is. -/
def laneOf (t : Fin cfg0.N) (k : Fin 3072) : Fin 6144 := ⟨3072 * (t.val % 2) + k.val, by omega⟩

theorem blk_p (c : Dev nD) (t : Fin cfg0.N) (r : Fin 512) (k : Fin 3072) :
    (iblk m c 0 t (ix2 r k) : EReal) = Lanes.pick (prow m c (rowOf t r)) (laneOf t k) := by
  refine Eq.trans ?_ (dp_arr m c (rowOf t r) (laneOf t k))
  unfold rowOf laneOf
  blk_ext [iblk, idx t]

theorem blk_w (c : Dev nD) (t : Fin cfg0.N) (k : Fin 3072) (q : Fin 1024) :
    (iblk m c 1 t (ix2 k q) : EReal) = Lanes.pick (wrow m c q) (laneOf t k) := by
  refine Eq.trans ?_ (w_at m c q (laneOf t k))
  unfold laneOf
  blk_ext [iblk, idx t]

theorem blk_x (c : Dev nD) (t : Fin cfg0.N) (r : Fin 512) (k : Fin 1024) :
    (iblk m c 2 t (ix2 r k) : EReal) = xrow m c (rowOf t r) k := by
  refine Eq.trans ?_ (x_at m c (rowOf t r) k)
  unfold rowOf
  blk_ext [iblk, idx t]

theorem blk_z (c : Dev nD) (t : Fin cfg0.N) (r : Fin 512) (k : Fin 1024) :
    (iblk m c 3 t (ix2 r k) : EReal) = zrow m c (rowOf t r) k := by
  refine Eq.trans ?_ (z_at m c (rowOf t r) k)
  unfold rowOf
  blk_ext [iblk, idx t]

theorem blk_g (c : Dev nD) (t : Fin cfg0.N) (r : Fin 1) (k : Fin 1024) :
    (iblk m c 4 t (ix2 r k) : EReal) = gain m c k := by
  refine Eq.trans ?_ (g_at m c r k)
  blk_ext [iblk, idx t]

end Cert.KernelIdeal.Value
-- ==== Proof.Reals.lean ====
module

public import Idealize.ShloMosaic.Lib.Pointwise
public import Idealize.ShloMosaic.Lib.ReduceAll

@[expose] public section

/-! Finite extended reals: sums, quotients and reciprocal roots of reals are reals, the constants of the programs, and what
    a precondition "every entry is below infinity in absolute value" says. -/

noncomputable section

namespace Cert.Reals

open Idealize.ShloMosaic

/-- A sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real is real. -/
theorem div_real (x y : ℝ) (h : y ≠ 0) : Ideal.div (x : EReal) (y : EReal) = ((x / y : ℝ) : EReal) := by
  rw [Ideal.div_coe h, ← EReal.coe_mul, one_div, div_eq_mul_inv]

/-- The reciprocal root of a positive real is real. -/
theorem rsqrt_real (x : ℝ) (h : 0 < x) : Ideal.rsqrt (x : EReal) = (((Real.sqrt x)⁻¹ : ℝ) : EReal) := by
  rw [Ideal.rsqrt_coe, if_neg h.not_gt, if_neg h.ne']

/-- An extended real whose absolute value is below infinity is a real. -/
theorem exists_real (x : EReal) (h : x ≠ ⊤) (h' : x ≠ ⊥) : ∃ y : ℝ, x = (y : EReal) :=
  ⟨x.toReal, (EReal.coe_toReal h h').symm⟩

/-- An extended real that compares below infinity in absolute value is a real. -/
theorem real_of_abs_lt (v : EReal) (h : BitVec.ofBool (decide (max v (-v) < ⊤)) = 1#1) : ∃ y : ℝ, v = (y : EReal) := by
  have hlt : max v (-v) < ⊤ := by
    by_contra hc
    rw [decide_eq_false hc] at h
    exact absurd h (by decide)
  refine exists_real v (fun e => ?_) fun e => ?_ <;> subst e <;> simp at hlt

/-- "Every entry is below infinity in absolute value", as a program evaluates it, makes the array one of reals. -/
theorem finite_of_all {s u : Shape} {axes : List (Fin s.rank)} {t : Shape} [Subsingleton t.Idx] (x : FVec Ideal s .f32) (b : FVec Ideal s .f32)
    (hb : ∀ i, b i = ⊤) (init : u.Idx → BitVec 1) (h : s.ReducesTo axes t) (hu : 0 < u.numel) (j : t.Idx)
    (e : Host.reduce IntOp.andi (cmpf .olt (Host.absf x) b) init h hu j = 1#1) : ∃ y : s.Idx → ℝ, x = fun i => (y i : EReal) := by
  have key : ∀ i, ∃ y : ℝ, x i = (y : EReal) := by
    intro i
    have hi := Host.reduce_andi_all _ init h hu j e i
    pointwise at hi
    rw [hb i] at hi
    exact real_of_abs_lt (x i) hi
  choose y hy using key
  exact ⟨y, funext hy⟩

/-- Two truth values whose conjunction is one are one. -/
theorem both (a b : BitVec 1) (h : a &&& b = 1#1) : a = 1#1 ∧ b = 1#1 := by revert a b; decide

/-- The word of 1024. -/
theorem c1024 : Ideal.ofBits .f32 0x44800000#32 = ((1024 : ℝ) : EReal) := by
  simp [Ideal.ofBits, Ideal.ieee, -EReal.coe_mul]; norm_num

/-- The word of -1/2. -/
theorem cMinusHalf : Ideal.ofBits .f32 0xBF000000#32 = ((-(1 / 2) : ℝ) : EReal) := by
  simp [Ideal.ofBits, Ideal.ieee, -EReal.coe_mul]; norm_num

/-- The word of 2. -/
theorem cTwo : Ideal.ofBits .f32 0x40000000#32 = ((2 : ℝ) : EReal) := by
  simp [Ideal.ofBits, Ideal.ieee, -EReal.coe_mul]; norm_num

/-- The word of infinity. -/
theorem cTop : Ideal.ofBits .f32 0x7F800000#32 = ⊤ := by simp [Ideal.ofBits, Ideal.ieee]

/-- The norms' epsilon is a positive real. -/
theorem cEps : ∃ e : ℝ, 0 < e ∧ Ideal.ofBits .f32 0x3727C5AC#32 = (e : EReal) := by
  refine ⟨_, ?_, by simp [Ideal.ofBits, Ideal.ieee, -EReal.coe_mul]; rfl⟩
  norm_num

/-- The residual's factor is a real. -/
theorem cAlpha : ∃ e : ℝ, Ideal.ofBits .f32 0x3F9837F0#32 = (e : EReal) := by
  refine ⟨_, by simp [Ideal.ofBits, Ideal.ieee, -EReal.coe_mul]; rfl⟩

end Cert.Reals
-- ==== Proof.LnMath.lean ====
module

public import proofs.«01_k».proof.Proof.Reals

@[expose] public section

/-! The gradient of a layer norm's standardised row: the closed form a kernel evaluates, and the chain of derivatives of
    mean, variance and reciprocal root, are one value where the row and its cotangent are real. -/

noncomputable section

namespace Cert.LnMath

open Idealize.ShloMosaic Cert.Reals

variable {n : ℕ}

/-- The mean of a row. -/
abbrev mean (N : EReal) (x : Fin n → EReal) : EReal := Ideal.div (∑ k, x k) N

/-- The row with its mean taken away. -/
abbrev cen (N : EReal) (x : Fin n → EReal) (k : Fin n) : EReal := x k - mean N x

/-- The variance plus epsilon. -/
abbrev vare (N e : EReal) (x : Fin n → EReal) : EReal := mean N (fun k => cen N x k * cen N x k) + e

/-- The reciprocal standard deviation. -/
abbrev rstd (N e : EReal) (x : Fin n → EReal) : EReal := Ideal.rsqrt (vare N e x)

/-- The standardised row. -/
abbrev hat (N e : EReal) (x : Fin n → EReal) (k : Fin n) : EReal := cen N x k * rstd N e x

/-- The closed form of the gradient: `rstd · (a − mean a − hat · mean (a · hat))`. -/
def bwd (N e : EReal) (x a : Fin n → EReal) (j : Fin n) : EReal :=
  rstd N e x * (a j - mean N a - hat N e x j * mean N (fun k => a k * hat N e x k))

/-- What reaches the variance of a row, times the square's derivative: the chain's term of column `j`. -/
abbrev viaVar (N e h t : EReal) (x a : Fin n → EReal) (j : Fin n) : EReal :=
  (∑ _ : Fin 1, Ideal.div ((∑ k, cen N x k * a k) * (h * Ideal.div (rstd N e x) (vare N e x))) N) * (t * cen N x j)

/-- The chain of derivatives: directly, through the variance, and through the mean. -/
def chain (N e h t : EReal) (x a : Fin n → EReal) (j : Fin n) : EReal :=
  a j * rstd N e x + viaVar N e h t x a j
    + ∑ _ : Fin 1, Ideal.div (∑ k, -(a k * rstd N e x) + ∑ k, -viaVar N e h t x a k) N

/-- The two forms agree on real rows. -/
theorem bwd_eq_chain (hn : n ≠ 0) (e : ℝ) (he : 0 < e) (x a : Fin n → ℝ) (j : Fin n) :
    bwd ((n : ℝ) : EReal) (e : EReal) (fun k => (x k : EReal)) (fun k => (a k : EReal)) j
      = chain ((n : ℝ) : EReal) (e : EReal) ((-(1 / 2) : ℝ) : EReal) ((2 : ℝ) : EReal) (fun k => (x k : EReal)) (fun k => (a k : EReal)) j := by
  have hN : (n : ℝ) ≠ 0 := Nat.cast_ne_zero.mpr hn
  have hv : 0 < (∑ k, (x k - (∑ l, x l) / n) * (x k - (∑ l, x l) / n)) / (n : ℝ) + e :=
    add_pos_of_nonneg_of_pos (div_nonneg (Finset.sum_nonneg fun k _ => mul_self_nonneg _) (Nat.cast_nonneg n)) he
  have hc : ∑ k, (x k - (∑ l, x l) / n) = 0 := by
    rw [Finset.sum_sub_distrib, Finset.sum_const, Finset.card_univ, Fintype.card_fin, nsmul_eq_mul, mul_div_cancel₀ _ hN, sub_self]
  unfold bwd chain
  simp only [mean, cen, vare, rstd, hat, viaVar, coe_sum, div_real _ _ hN, ← EReal.coe_sub, ← EReal.coe_mul, ← EReal.coe_add, rsqrt_real _ hv, div_real _ _ hv.ne',
    ← EReal.coe_neg, Finset.univ_unique, Finset.sum_singleton]
  refine congrArg _ ?_
  generalize (∑ k, (x k - (∑ l, x l) / n) * (x k - (∑ l, x l) / n)) / (n : ℝ) + e = v at hv
  generalize hxc : (fun k => x k - (∑ l, x l) / n) = xc at hc
  have hxk : ∀ k, x k - (∑ l, x l) / n = xc k := fun k => congrFun hxc k
  simp only [hxk] at hc ⊢
  have hr : (Real.sqrt v)⁻¹ / v = (Real.sqrt v)⁻¹ * ((Real.sqrt v)⁻¹ * (Real.sqrt v)⁻¹) := by
    rw [← mul_inv, Real.mul_self_sqrt hv.le, div_eq_mul_inv]
  rw [hr]
  generalize (Real.sqrt v)⁻¹ = r
  have h1 : ∑ k, a k * (xc k * r) = (∑ k, xc k * a k) * r := by
    rw [Finset.sum_mul]; exact Finset.sum_congr rfl fun k _ => by ring
  have h2 : ∑ k, -(a k * r) = -((∑ k, a k) * r) := by rw [Finset.sum_neg_distrib, Finset.sum_mul]
  have h3 : ∀ s : ℝ, ∑ k, -(s * (2 * xc k)) = 0 := by
    intro s
    rw [Finset.sum_neg_distrib, ← Finset.mul_sum, ← Finset.mul_sum, hc]; ring
  rw [h1, h2, h3]
  field_simp
  ring

end Cert.LnMath
-- ==== Proof.DhStep.lean ====
module

public import proofs.«01_k».proof.Proof.DhEntry
public import proofs.«01_k».proof.Proof.LnMath
public import Idealize.ShloMosaic.Lib.Pipeline.ReadBack

@[expose] public section

set_option maxRecDepth 16384

/-! What the outputs and the accumulator hold after each grid point. -/

noncomputable section

open Idealize.ShloMosaic Idealize.ShloMosaic.TcCoe Idealize.SL.Sem
open Idealize.ShloMosaic.Pipeline (Dat)

namespace Cert.KernelIdeal.Value
open Cert.KernelIdeal Cert.KernelIdeal.Gen
variable (m : (ℓ : Loc nD τ sig) → Buf (Elt Ideal) ℓ)

/-- The program's 1024, epsilon and residual factor. -/
abbrev cN : EReal := Ideal.ofBits .f32 0x44800000#32
abbrev cE : EReal := Ideal.ofBits .f32 0x3727C5AC#32
abbrev cA : EReal := Ideal.ofBits .f32 0x3F9837F0#32

/-- The product of a point's half: 3072 lanes. -/
def half (c : Dev nD) (R : Fin 4096) (q : Fin 1024) (s : ℕ) (hs : s < 2) : EReal :=
  ∑ k : Fin 3072, Lanes.pick (prow m c R) ⟨3072 * s + k.val, by omega⟩ * Lanes.pick (wrow m c q) ⟨3072 * s + k.val, by omega⟩

/-- The cotangent of the norm's output. -/
def dht (c : Dev nD) (R : Fin 4096) (q : Fin 1024) : EReal := ∑ l, prow m c R l * wrow m c q l + cA * zrow m c R q

theorem halves (c : Dev nD) (R : Fin 4096) (q : Fin 1024) :
    half m c R q 0 (by decide) + half m c R q 1 (by decide) = ∑ l, prow m c R l * wrow m c q l := by
  rw [← Lanes.sum_pick, Fin.sum_univ_two_halves 3072 3072 rfl]
  unfold half
  congr 1

/-- The gradient of row `R`. -/
def dxv (c : Dev nD) (R : Fin 4096) (q : Fin 1024) : EReal :=
  LnMath.bwd cN cE (xrow m c R) (fun k => dht m c R k * gain m c k) q

/-- Row `R`'s part of the gradient of the scale. -/
def dgv (c : Dev nD) (R : Fin 4096) (q : Fin 1024) : EReal := dht m c R q * LnMath.hat cN cE (xrow m c R) q

/-! ## The payloads at an index -/

theorem pay6_at (x a z : FVec Ideal S512x1024 .f32) (g : FVec Ideal S1x1024 .f32) (r : Fin 512) (q : Fin 1024) :
    (k0_pay6 (F := Ideal) (k0_pay8 x) (k0_pay9 x) (k0_pay10 a z) g (ix2 r q) : EReal) =
      LnMath.bwd cN cE (fun k => x (ix2 r k)) (fun k => (a (ix2 r k) + cA * z (ix2 r k)) * g (ix2 0 k)) q := by
  pointwise [k0_pay6, k0_pay7, k0_pay8, k0_pay9, k0_pay10]
  rfl

theorem pay11_at (x a z : FVec Ideal S512x1024 .f32) (g : FVec Ideal S1x1024 .f32) (r : Fin 1) (q : Fin 1024) :
    (k0_pay11 (F := Ideal) x a z g (ix2 r q) : EReal) =
      g (ix2 r q) + ∑ k : Fin 512, (a (ix2 k q) + cA * z (ix2 k q)) * LnMath.hat cN cE (fun j => x (ix2 k j)) q := by
  pointwise [k0_pay11, k0_pay7, k0_pay8, k0_pay9, k0_pay10]

theorem pay12_at (a z : FVec Ideal S512x1024 .f32) (g : FVec Ideal S1x1024 .f32) (r : Fin 1) (q : Fin 1024) :
    (k0_pay12 (F := Ideal) a z g (ix2 r q) : EReal) = g (ix2 r q) + ∑ k : Fin 512, (a (ix2 k q) + cA * z (ix2 k q)) := by
  pointwise [k0_pay12, k0_pay10]

theorem pay4_at (c : Dev nD) (t : Fin cfg0.N) (r : Fin 512) (q : Fin 1024) :
    (k0_pay4 (F := Ideal) (iblk m c 0 t) (iblk m c 1 t) (ix2 r q) : EReal) = half m c (rowOf t r) q (t.val % 2) (by omega) := by
  pointwise [k0_pay4, k0_pay3]
  unfold half
  refine Finset.sum_congr rfl fun k _ => ?_
  rw [blk_p m c t r k, blk_w m c t k q]
  rfl

theorem pay5_at (c : Dev nD) (t : Fin cfg0.N) (acc : FVec Ideal S512x1024 .f32) (r : Fin 512) (q : Fin 1024) :
    (k0_pay5 (F := Ideal) (iblk m c 0 t) (iblk m c 1 t) acc (ix2 r q) : EReal) = acc (ix2 r q) + half m c (rowOf t r) q (t.val % 2) (by omega) := by
  pointwise [k0_pay5, k0_pay3]
  unfold half
  refine congrArg _ (Finset.sum_congr rfl fun k _ => ?_)
  rw [blk_p m c t r k, blk_w m c t k q]
  rfl

/-! ## One step of the grid -/

/-- A point that opens a row tile leaves the first half of the product in the accumulator. -/
theorem scr_even (c : Dev nD) (t : Fin cfg0.N) (acc) (h : t.val % 2 = 0) (r : Fin 512) (q : Fin 1024) :
    ((stAt0 m c t.val t.isLt acc).2.2.2 (ix2 r q) : EReal) = half m c (rowOf t r) q 0 (by decide) := by
  have e : half m c (rowOf t r) q (t.val % 2) (by omega) = half m c (rowOf t r) q 0 (by decide) := by congr 1
  rw [← e, ← pay4_at]
  by_cases h0 : t.val % 16 = 0
  · rw [stAt0_A m c t acc h0 h (by omega) (by omega)]; frame_out
  · rw [stAt0_C m c t acc h0 h (by omega) (by omega)]; frame_out

/-- The first point clears the two sums. -/
theorem sums_first (c : Dev nD) (t : Fin cfg0.N) (acc) (h : t.val % 16 = 0) (q : Fin 1024) :
    ((stAt0 m c t.val t.isLt acc).2.1 (ix2 0 q) : EReal) = 0 ∧ ((stAt0 m c t.val t.isLt acc).2.2.1 (ix2 0 q) : EReal) = 0 := by
  rw [stAt0_A m c t acc h (by omega) (by omega) (by omega)]
  constructor
  · frame_out; pointwise [k0_pay1]
  · frame_out; pointwise [k0_pay2]

/-- A later point that opens a row tile leaves the two sums. -/
theorem sums_even (c : Dev nD) (t : Fin cfg0.N) (acc) (h0 : ¬t.val % 16 = 0) (h : t.val % 2 = 0) :
    (stAt0 m c t.val t.isLt acc).2.1 = acc.2.1 ∧ (stAt0 m c t.val t.isLt acc).2.2.1 = acc.2.2.1 := by
  rw [stAt0_C m c t acc h0 h (by omega) (by omega)]
  exact ⟨rfl, rfl⟩

/-- A point that closes a row tile writes the tile's gradient and adds the tile's rows to the two sums. -/
theorem step_odd (c : Dev nD) (t : Fin cfg0.N) (acc) (h : t.val % 2 = 1)
    (hs : ∀ r q, (acc.2.2.2 (ix2 r q) : EReal) = half m c (rowOf t r) q 0 (by decide)) :
    (∀ r q, ((stAt0 m c t.val t.isLt acc).1 (ix2 r q) : EReal) = dxv m c (rowOf t r) q)
    ∧ (∀ q, ((stAt0 m c t.val t.isLt acc).2.1 (ix2 0 q) : EReal) = acc.2.1 (ix2 0 q) + ∑ r, dgv m c (rowOf t r) q)
    ∧ (∀ q, ((stAt0 m c t.val t.isLt acc).2.2.1 (ix2 0 q) : EReal) = acc.2.2.1 (ix2 0 q) + ∑ r, dht m c (rowOf t r) q) := by
  have hd : ∀ r q, (k0_pay5 (F := Ideal) (iblk m c 0 t) (iblk m c 1 t) acc.2.2.2 (ix2 r q) : EReal)
      = ∑ l, prow m c (rowOf t r) l * wrow m c q l := by
    intro r q
    rw [pay5_at, hs, ← halves]
    congr 2
  rw [stAt0_B m c t acc (by omega) (by omega) h h]
  refine ⟨fun r q => ?_, fun q => ?_, fun q => ?_⟩
  · frame_out
    rw [read_unread_whole, pay6_at]
    simp only [hd, blk_x, blk_z, blk_g]
    rfl
  · frame_out
    rw [read_unread_whole, pay11_at]
    simp only [hd, blk_x, blk_z, blk_g]
    rfl
  · frame_out
    rw [read_unread_whole, pay12_at]
    simp only [hd, blk_x, blk_z, blk_g]
    rfl

end Cert.KernelIdeal.Value
-- ==== Proof.DhFold.lean ====
module

public import proofs.«01_k».proof.Proof.DhStep

@[expose] public section

set_option maxRecDepth 16384

/-! The kernel's three results, index by index. -/

noncomputable section

open Idealize.ShloMosaic Idealize.ShloMosaic.TcCoe Idealize.SL.Sem
open Idealize.ShloMosaic.Pipeline (Dat)

namespace Cert.KernelIdeal.Value
open Cert.KernelIdeal Cert.KernelIdeal.Gen
variable (m : (ℓ : Loc nD τ sig) → Buf (Elt Ideal) ℓ)

/-- The sum over the rows of tile `i`. -/
def tileSum (f : Fin 4096 → EReal) (i : ℕ) : EReal := if h : i < 8 then ∑ r : Fin 512, f ⟨512 * i + r.val, by omega⟩ else 0

theorem tileSum_all (f : Fin 4096 → EReal) : ∑ i ∈ Finset.range 8, tileSum f i = ∑ R, f R := by
  rw [Finset.sum_range, Fin.sum_univ_tiles 8 512 rfl f]
  refine Finset.sum_congr rfl fun i _ => ?_
  rw [tileSum, dif_pos i.isLt]
  exact Finset.sum_congr rfl fun r _ => congrArg f (Fin.ext (by simp only []; omega))

theorem tile_rows (t : Fin cfg0.N) (f : Fin 4096 → EReal) : ∑ r : Fin 512, f (rowOf t r) = tileSum f (t.val / 2) := by
  have := lt16 t
  rw [tileSum, dif_pos (by omega)]
  rfl

/-- The contents after the point that closes a row tile. -/
theorem after_odd (c : Dev nD) : ∀ (i : ℕ) (h : 2 * i + 1 < cfg0.N),
    (∀ r q, ((outsAt0 m c (2 * i + 1) h).1 (ix2 r q) : EReal) = dxv m c (rowOf ⟨2 * i + 1, h⟩ r) q)
    ∧ (∀ q, ((outsAt0 m c (2 * i + 1) h).2.1 (ix2 0 q) : EReal) = ∑ j ∈ Finset.range (i + 1), tileSum (fun R => dgv m c R q) j)
    ∧ (∀ q, ((outsAt0 m c (2 * i + 1) h).2.2.1 (ix2 0 q) : EReal) = ∑ j ∈ Finset.range (i + 1), tileSum (fun R => dht m c R q) j)
  | 0, h => by
    have h0 : 0 < cfg0.N := by omega
    have ho := step_odd m c ⟨1, h⟩ (outsAt0 m c 0 h0) rfl fun r q => by
      rw [outsAt0_zero]
      exact (scr_even m c ⟨0, h0⟩ junk0 rfl r q).trans (congrArg (fun R => half m c R q 0 _) (Fin.ext (by simp [rowOf])))
    have hz := sums_first m c ⟨0, h0⟩ junk0 rfl
    refine ⟨ho.1, fun q => (ho.2.1 q).trans ?_, fun q => (ho.2.2 q).trans ?_⟩
    · rw [outsAt0_zero, (hz q).1, zero_add, tile_rows _ fun R => dgv m c R q]
      simp
    · rw [outsAt0_zero, (hz q).2, zero_add, tile_rows _ fun R => dht m c R q]
      simp
  | i + 1, h => by
    have h1 : 2 * i + 1 < cfg0.N := by omega
    have h2 : 2 * i + 1 + 1 < cfg0.N := by omega
    have hN : cfg0.N = 16 := N_0
    have ih := after_odd c i h1
    have ho := step_odd m c ⟨2 * (i + 1) + 1, h⟩ (outsAt0 m c (2 * i + 1 + 1) h2) (by dsimp only; omega) fun r q => by
      rw [outsAt0_succ]
      refine (scr_even m c ⟨2 * i + 1 + 1, h2⟩ _ (by dsimp only; omega) r q).trans ?_
      congr 1
      apply Fin.ext
      simp only [rowOf]
      omega
    have hs := sums_even m c ⟨2 * i + 1 + 1, h2⟩ (outsAt0 m c (2 * i + 1) h1) (by dsimp only; omega) (by dsimp only; omega)
    have hi : (2 * (i + 1) + 1) / 2 = i + 1 := by omega
    refine ⟨ho.1, fun q => (ho.2.1 q).trans ?_, fun q => (ho.2.2 q).trans ?_⟩
    · rw [outsAt0_succ, hs.1, ih.2.1 q, tile_rows _ fun R => dgv m c R q, Finset.sum_range_succ _ (i + 1)]
      dsimp only
      rw [hi]
    · rw [outsAt0_succ, hs.2, ih.2.2 q, tile_rows _ fun R => dht m c R q, Finset.sum_range_succ _ (i + 1)]
      dsimp only
      rw [hi]

/-- The first result: row by row the gradient of the norm's argument. -/
theorem G5_at (c : Dev nD) (R : Fin 4096) (q : Fin 1024) : (G5 m c (ix2 R q) : EReal) = dxv m c R q := by
  have hN : cfg0.N = 16 := N_0
  have hb : 2 * (R.val / 512) + 1 < cfg0.N := by omega
  have hp : pt5Of (ix2 R q) = 2 * (R.val / 512) + 1 := by
    show 2 * (1 * (R.val / 512 - 0) + 1 * (q.val / 1024 - 0)) + 1 = _
    omega
  have hl : loc5Of (ix2 R q) = ix2 ⟨R.val % 512, by omega⟩ q := by
    funext a; apply Fin.ext
    match a with
    | ⟨0, _⟩ => rfl
    | ⟨1, _⟩ => show q.val % 1024 = q.val; omega
  unfold G5
  rw [dif_pos (by rw [hp]; exact hb), hl, fold0_congr m c _ _ (2 * (R.val / 512) + 1) (by omega) hp, ← outsAt0_sweep m c _ hb]
  refine ((after_odd m c _ hb).1 _ q).trans ?_
  congr 1
  apply Fin.ext
  simp only [rowOf]
  omega

/-- The second result: the gradient of the scale. -/
theorem G6_at (c : Dev nD) (r : Fin 1) (q : Fin 1024) : (G6 m c (ix2 r q) : EReal) = ∑ R, dgv m c R q := by
  have hb : 15 < cfg0.N := lt_of_lt_of_eq (by decide) N_0.symm
  obtain rfl : r = 0 := Subsingleton.elim _ _
  rw [G6_last, ← outsAt0_sweep m c 15 hb, ← tileSum_all]
  exact (after_odd m c 7 hb).2.1 q

/-- The third result: the gradient of the shift. -/
theorem G7_at (c : Dev nD) (r : Fin 1) (q : Fin 1024) : (G7 m c (ix2 r q) : EReal) = ∑ R, dht m c R q := by
  have hb : 15 < cfg0.N := lt_of_lt_of_eq (by decide) N_0.symm
  obtain rfl : r = 0 := Subsingleton.elim _ _
  rw [G7_last, ← outsAt0_sweep m c 15 hb, ← tileSum_all]
  exact (after_odd m c 7 hb).2.2 q

end Cert.KernelIdeal.Value
-- ==== Proof.DhPre.lean ====
module

public import proofs.«01_k».proof.Pre_fin
public import proofs.«01_k».proof.Proof.Reals

@[expose] public section

/-! The precondition read: five argument arrays are arrays of reals. -/

noncomputable section

namespace Cert.Pre_fin

open Idealize.ShloMosaic Cert.Reals

instance facts : Cert.Pre_fin.Facts := by constructor <;> decide

/-- Where the precondition holds, every argument but the shift is real. -/
theorem reals (x : FVec Ideal S2x2048x1024 .f32) (g b : FVec Ideal S1024 .f32) (w : FVec Ideal S1024x6048 .f32)
    (p : FVec Ideal S2x2048x6048 .f32) (z : FVec Ideal S2x2048x1024 .f32) (h : fn (F := Ideal) x g b w p z = fun _ => 1#1) :
    (∃ y : S2x2048x1024.Idx → ℝ, x = fun i => (y i : EReal)) ∧ (∃ y : S1024.Idx → ℝ, g = fun i => (y i : EReal))
    ∧ (∃ y : S1024x6048.Idx → ℝ, w = fun i => (y i : EReal)) ∧ (∃ y : S2x2048x6048.Idx → ℝ, p = fun i => (y i : EReal))
    ∧ (∃ y : S2x2048x1024.Idx → ℝ, z = fun i => (y i : EReal)) := by
  have e := congrFun h fun a => a.elim0
  obtain ⟨e, ez⟩ := both _ _ e
  obtain ⟨e, ep⟩ := both _ _ e
  obtain ⟨e, ew⟩ := both _ _ e
  obtain ⟨ex, eg⟩ := both _ _ e
  haveI : Subsingleton S_.Idx := ⟨fun a b => funext fun i => i.elim0⟩
  have hb : ∀ (s : Shape) (hs : S_.BroadcastsInDim s (![] : Fin 0 → Fin s.rank)) i,
      (broadcastInDim s ![] hs (constant (F := Ideal) S_ .f32 0x7F800000#32) i : EReal) = ⊤ := fun s hs i => cTop
  exact ⟨finite_of_all x _ (hb _ _) _ _ _ _ ex, finite_of_all g _ (hb _ _) _ _ _ _ eg, finite_of_all w _ (hb _ _) _ _ _ _ ew,
    finite_of_all p _ (hb _ _) _ _ _ _ ep, finite_of_all z _ (hb _ _) _ _ _ _ ez⟩

end Cert.Pre_fin
-- ==== Proof.RowSums.lean ====
module

public import Idealize.ShloMosaic.Lib.Pointwise
public import Idealize.ShloMosaic.Lib.IdealHost

@[expose] public section

/-! A host's sum over the first two axes of an array of rank three, as a sum over the rows of the flattened array. -/

namespace Cert.RowSums

open Idealize.ShloMosaic

variable {a b n : ℕ}

/-- Summed over the first two axes, column `q` is the sum of the entries of that column. -/
theorem pairs (h : (⟨3, ![a, b, n]⟩ : Shape).ReducesTo [0, 1] ⟨1, ![n]⟩) (v : (⟨3, ![a, b, n]⟩ : Shape).Idx → EReal) (c : EReal) (q : Fin n) :
    Ideal.hostReduceAdd h v c (ix1 q) = c + ∑ p : Fin a × Fin b, v (ix3 p.1 p.2 q) := by
  unfold Ideal.hostReduceAdd
  refine congrArg (c + ·) ?_
  have hd : ∀ i : (⟨3, ![a, b, n]⟩ : Shape).Idx, h.drop i = ix1 q ↔ i 2 = q := by
    intro i
    constructor
    · intro e
      have := congrFun e 0
      exact this
    · intro e
      funext k
      match k with
      | ⟨0, _⟩ => exact e
  refine Finset.sum_bij' (fun i _ => (i 0, i 1)) (fun p _ => ix3 p.1 p.2 q) ?_ ?_ ?_ ?_ ?_
  · intro i _; exact Finset.mem_univ _
  · intro p _
    exact Finset.mem_filter.mpr ⟨Finset.mem_univ _, (hd _).mpr rfl⟩
  · intro i hi
    have e := (hd i).mp (Finset.mem_filter.mp hi).2
    funext k
    match k with
    | ⟨0, _⟩ => rfl
    | ⟨1, _⟩ => rfl
    | ⟨2, _⟩ => exact e.symm
  · intro p _; rfl
  · intro i hi
    have e := (hd i).mp (Finset.mem_filter.mp hi).2
    refine congrArg v ?_
    funext k
    match k with
    | ⟨0, _⟩ => rfl
    | ⟨1, _⟩ => rfl
    | ⟨2, _⟩ => exact e

/-- The rows of two batches of 2048, one after another. -/
theorem rows (f : Fin 2 → Fin 2048 → EReal) :
    ∑ p : Fin 2 × Fin 2048, f p.1 p.2 = ∑ R : Fin 4096, f ⟨R.val / 2048, by omega⟩ ⟨R.val % 2048, by omega⟩ := by
  refine Finset.sum_bij' (fun p _ => (⟨p.1.val * 2048 + p.2.val, by omega⟩ : Fin 4096))
    (fun R _ => (⟨R.val / 2048, by omega⟩, ⟨R.val % 2048, by omega⟩)) (fun _ _ => Finset.mem_univ _) (fun _ _ => Finset.mem_univ _) ?_ ?_ ?_
  · intro p _
    refine Prod.ext (Fin.ext ?_) (Fin.ext ?_)
    · show (p.1.val * 2048 + p.2.val) / 2048 = p.1.val; omega
    · show (p.1.val * 2048 + p.2.val) % 2048 = p.2.val; omega
  · intro R _
    refine Fin.ext ?_
    show R.val / 2048 * 2048 + R.val % 2048 = R.val; omega
  · intro p _
    have e1 : (⟨(p.1.val * 2048 + p.2.val) / 2048, by omega⟩ : Fin 2) = p.1 := Fin.ext (by show (p.1.val * 2048 + p.2.val) / 2048 = p.1.val; omega)
    have e2 : (⟨(p.1.val * 2048 + p.2.val) % 2048, by omega⟩ : Fin 2048) = p.2 := Fin.ext (by show (p.1.val * 2048 + p.2.val) % 2048 = p.2.val; omega)
    show f p.1 p.2 = f ⟨(p.1.val * 2048 + p.2.val) / 2048, _⟩ ⟨(p.1.val * 2048 + p.2.val) % 2048, _⟩
    rw [e1, e2]

end Cert.RowSums
-- ==== Proof.DhReference.lean ====
module

public import proofs.«01_k».proof.Proof.DhFold
public import proofs.«01_k».proof.Proof.DhPre
public import proofs.«01_k».proof.Proof.RowSums
public import proofs.«01_k».proof.Proof.Gen.ReferenceIdeal.Run

@[expose] public section

set_option maxRecDepth 16384

/-! The reference's gradient of the input norm, read entry by entry: the derivatives it composes are the kernel's values. -/

noncomputable section

open Idealize.ShloMosaic Idealize.ShloMosaic.TcCoe Idealize.SL.Sem

namespace Cert.ReferenceIdeal.Value
open Cert.ReferenceIdeal Cert.ReferenceIdeal.Gen

variable (m' : (ℓ : Loc nD τ sig) → Buf (Elt Ideal) ℓ)

/-- The words of one half and of two that the derivatives of the root and of the square carry. -/
abbrev cHalf : EReal := Ideal.ofBits .f32 0xBF000000#32
abbrev cSq : EReal := Ideal.ofBits .f32 0x40000000#32

/-- Row `R` of the norm's argument, rows of the cotangents and of the weight, and the scale. -/
def xrow (c : Dev nD) (R : Fin 4096) (k : Fin 1024) : EReal :=
  m' (c, Proc.tc.devRef main_arg0) (ix3 ⟨R.val / 2048, by omega⟩ ⟨R.val % 2048, by omega⟩ k)
def zrow (c : Dev nD) (R : Fin 4096) (k : Fin 1024) : EReal :=
  m' (c, Proc.tc.devRef main_arg5) (ix3 ⟨R.val / 2048, by omega⟩ ⟨R.val % 2048, by omega⟩ k)
def prow (c : Dev nD) (R : Fin 4096) (l : Fin 6048) : EReal :=
  m' (c, Proc.tc.devRef main_arg4) (ix3 ⟨R.val / 2048, by omega⟩ ⟨R.val % 2048, by omega⟩ l)
def wrow (c : Dev nD) (k : Fin 1024) (l : Fin 6048) : EReal := m' (c, Proc.tc.devRef main_arg3) (ix2 k l)
def gain (c : Dev nD) (k : Fin 1024) : EReal := m' (c, Proc.tc.devRef main_arg1) (ix1 k)

/-- The cotangent of the norm's result: through the residual and through the projection. -/
def dht (c : Dev nD) (R : Fin 4096) (k : Fin 1024) : EReal :=
  KernelIdeal.Value.cA * zrow m' c R k + ∑ l : Fin 6048, prow m' c R l * wrow m' c k l

/-- The gradient of the norm's argument is the chain of derivatives. -/
theorem dx_at (c : Dev nD) (R : Fin 4096) (q : Fin 1024) : (res_main_v69 m' c (ix2 R q) : EReal) =
    LnMath.chain KernelIdeal.Value.cN KernelIdeal.Value.cE cHalf cSq (xrow m' c R)
      (fun k => dht m' c R k * gain m' c k) q := by
  pointwise [res_main_v69]
  rfl

/-- The two sums over the rows that the reference takes, as one. -/
theorem sums_at (A : FVec Ideal S2x2048x1024 .f32) (r : Fin 1) (q : Fin 1024) :
    (shapeCast S1x1024 (Host.reduceAdd (shapeCast S1x1x1024
        (Host.reduceAdd A (constant S_ FTy.f32 0#32) reducesTo_S2x2048x1024_S1024_d0_1 h_S_) shapeCasts_S1024_S1x1x1024)
      (constant S_ FTy.f32 0#32) reducesTo_S1x1x1024_S1024_d0_1 h_S_) shapeCasts_S1024_S1x1024 (ix2 r q) : EReal)
    = ∑ R : Fin 4096, (A (ix3 ⟨R.val / 2048, by omega⟩ ⟨R.val % 2048, by omega⟩ q) : EReal) := by
  pointwise
  refine (RowSums.pairs _ _ _ q).trans ?_
  rw [zero_add, Fintype.sum_prod_type, Fin.sum_univ_one, Fin.sum_univ_one]
  pointwise
  refine (RowSums.pairs _ _ _ q).trans ?_
  rw [zero_add]
  exact RowSums.rows fun i j => A (ix3 i j q)

end Cert.ReferenceIdeal.Value
-- ==== Proof.DhAlgebraic.lean ====
module

public import proofs.«01_k».proof.Defs
public import proofs.«01_k».proof.Proof.DhReference
public import Idealize.ShloMosaic.Lib.Claim

@[expose] public section

set_option maxRecDepth 16384

/-! The kernel and the reference of the input norm's gradient compute one function over the extended reals. -/

noncomputable section

namespace Cert.Dh

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs' arguments are one. -/
abbrev Agree : Prop := ∀ c : Dev ReferenceIdeal.nD,
  m' (c.tc.loc ReferenceIdeal.main_arg0) = m (c.tc.loc KernelIdeal.main_arg0) ∧
  m' (c.tc.loc ReferenceIdeal.main_arg1) = m (c.tc.loc KernelIdeal.main_arg1) ∧
  m' (c.tc.loc ReferenceIdeal.main_arg2) = m (c.tc.loc KernelIdeal.main_arg2) ∧
  m' (c.tc.loc ReferenceIdeal.main_arg3) = m (c.tc.loc KernelIdeal.main_arg3) ∧
  m' (c.tc.loc ReferenceIdeal.main_arg4) = m (c.tc.loc KernelIdeal.main_arg4) ∧
  m' (c.tc.loc ReferenceIdeal.main_arg5) = m (c.tc.loc KernelIdeal.main_arg5)

variable {m m'}

theorem xrow_eq (h : Agree m m') (c : Dev ReferenceIdeal.nD) : ReferenceIdeal.Value.xrow m' c = KernelIdeal.Value.xrow m c := by
  funext R k; exact congrFun (h c).1 _

theorem gain_eq (h : Agree m m') (c : Dev ReferenceIdeal.nD) : ReferenceIdeal.Value.gain m' c = KernelIdeal.Value.gain m c := by
  funext k; exact congrFun (h c).2.1 _

/-- Both texts form the cotangent of the norm's result alike, up to the order of two addends. -/
theorem dht_eq (h : Agree m m') (c : Dev ReferenceIdeal.nD) : ReferenceIdeal.Value.dht m' c = KernelIdeal.Value.dht m c := by
  funext R k
  have hz : ReferenceIdeal.Value.zrow m' c R k = KernelIdeal.Value.zrow m c R k := congrFun (h c).2.2.2.2.2 _
  have hp : ReferenceIdeal.Value.prow m' c R = KernelIdeal.Value.prow m c R := funext fun l => congrFun (h c).2.2.2.2.1 _
  have hw : ReferenceIdeal.Value.wrow m' c k = KernelIdeal.Value.wrow m c k := funext fun l => congrFun (h c).2.2.2.1 _
  unfold ReferenceIdeal.Value.dht KernelIdeal.Value.dht
  rw [hz, hp, hw, add_comm]

/-- Where the arguments are real the chain of derivatives is the kernel's closed form. -/
theorem dx_eq (hp : Pre_KernelIdeal_fin m) (c : Dev KernelIdeal.nD) (R : Fin 4096) (q : Fin 1024) :
    LnMath.chain KernelIdeal.Value.cN KernelIdeal.Value.cE ReferenceIdeal.Value.cHalf ReferenceIdeal.Value.cSq (KernelIdeal.Value.xrow m c R)
      (fun k => KernelIdeal.Value.dht m c R k * KernelIdeal.Value.gain m c k) q = KernelIdeal.Value.dxv m c R q := by
  obtain ⟨⟨x, hx⟩, ⟨g, hg⟩, ⟨w, hw⟩, ⟨p, hp⟩, ⟨z, hz⟩⟩ := Pre_fin.reals _ _ _ _ _ _ (hp c)
  obtain ⟨e, he, hce⟩ := Reals.cEps
  obtain ⟨a, hca⟩ := Reals.cAlpha
  have ex : KernelIdeal.Value.xrow m c R = fun k => ((x (ix3 ⟨R.val / 2048, by omega⟩ ⟨R.val % 2048, by omega⟩ k) : ℝ) : EReal) :=
    funext fun k => congrFun hx _
  have ea : (fun k => KernelIdeal.Value.dht m c R k * KernelIdeal.Value.gain m c k) = fun k =>
      (((∑ l, p (ix3 ⟨R.val / 2048, by omega⟩ ⟨R.val % 2048, by omega⟩ l) * w (ix2 k l)
        + a * z (ix3 ⟨R.val / 2048, by omega⟩ ⟨R.val % 2048, by omega⟩ k)) * g (ix1 k) : ℝ) : EReal) := by
    funext k
    have hgk : KernelIdeal.Value.gain m c k = ((g (ix1 k) : ℝ) : EReal) := congrFun hg _
    have hzk : KernelIdeal.Value.zrow m c R k = ((z (ix3 ⟨R.val / 2048, by omega⟩ ⟨R.val % 2048, by omega⟩ k) : ℝ) : EReal) := congrFun hz _
    have hpk : KernelIdeal.Value.prow m c R = fun l => ((p (ix3 ⟨R.val / 2048, by omega⟩ ⟨R.val % 2048, by omega⟩ l) : ℝ) : EReal) :=
      funext fun l => congrFun hp _
    have hwk : KernelIdeal.Value.wrow m c k = fun l => ((w (ix2 k l) : ℝ) : EReal) := funext fun l => congrFun hw _
    unfold KernelIdeal.Value.dht
    rw [hgk, hzk, hpk, hwk, show KernelIdeal.Value.cA = ((a : ℝ) : EReal) from hca]
    simp only [← EReal.coe_mul, Reals.coe_sum, ← EReal.coe_add]
  rw [KernelIdeal.Value.dxv, ex, ea, show KernelIdeal.Value.cN = (((1024 : ℕ) : ℝ) : EReal) from Reals.c1024.trans (by norm_num),
    show KernelIdeal.Value.cE = ((e : ℝ) : EReal) from hce, show ReferenceIdeal.Value.cHalf = ((-(1 / 2) : ℝ) : EReal) from Reals.cMinusHalf,
    show ReferenceIdeal.Value.cSq = ((2 : ℝ) : EReal) from Reals.cTwo]
  exact (LnMath.bwd_eq_chain (by norm_num) e he _ _ q).symm

/-- The value claim of the input norm's gradient: of the norm's argument, its scale and its shift. -/
theorem algebraic : algebraic_KernelIdeal_ReferenceIdeal_pre_fin := by
  pair_intro
  · run_from Cert.KernelIdeal.Value.run m g
  · run_from Cert.ReferenceIdeal.Value.run m' g'
    · funext i
      obtain ⟨R, q, rfl⟩ : ∃ (R : Fin 4096) (q : Fin 1024), i = ix2 R q := ⟨i 0, i 1, eq_ix2 i⟩
      refine (ReferenceIdeal.Value.dx_at m' c R q).trans ?_
      rw [xrow_eq hagree, dht_eq hagree, gain_eq hagree, dx_eq hpre]
      exact (KernelIdeal.Value.G5_at m c R q).symm
    · funext i
      obtain ⟨r, q, rfl⟩ : ∃ (r : Fin 1) (q : Fin 1024), i = ix2 r q := ⟨i 0, i 1, eq_ix2 i⟩
      refine (ReferenceIdeal.Value.sums_at _ r q).trans ?_
      refine Eq.trans (Finset.sum_congr rfl fun R _ => ?_) (KernelIdeal.Value.G6_at m c r q).symm
      pointwise
      refine Eq.trans ?_ (mul_comm (LnMath.hat KernelIdeal.Value.cN KernelIdeal.Value.cE (KernelIdeal.Value.xrow m c R) q) (KernelIdeal.Value.dht m c R q))
      exact congrArg (fun t : EReal => LnMath.hat KernelIdeal.Value.cN KernelIdeal.Value.cE (KernelIdeal.Value.xrow m c R) q * t) (add_comm _ _)
    · funext i
      obtain ⟨r, q, rfl⟩ : ∃ (r : Fin 1) (q : Fin 1024), i = ix2 r q := ⟨i 0, i 1, eq_ix2 i⟩
      refine (ReferenceIdeal.Value.sums_at _ r q).trans ?_
      refine Eq.trans (Finset.sum_congr rfl fun R _ => ?_) (KernelIdeal.Value.G7_at m c r q).symm
      pointwise
      exact add_comm _ _

end Cert.Dh
-- ==== Proof.MemEntry.lean ====
module

public import proofs.«01_k».proof.Proof.Gen.Kernel2Ideal.Value
public import Idealize.ShloMosaic.Lib.Pipeline.ValueKit
public import Idealize.ShloMosaic.Lib.Pointwise

@[expose] public section

set_option maxRecDepth 16384

/-! What the arrays of the memory attention's backward call hold when its region starts. -/

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- The query of head `h` at row `s` of batch `b`; the memory's key and value of slot `k`; the cotangent of the output. -/
def aq (c : Dev nD) (b : Fin 2) (h : Fin 4) (s : Fin 2048) (e : Fin 128) : EReal :=
  m (c, Proc.tc.devRef main_arg0) (ix3 b s ⟨h.val * 128 + e.val, by omega⟩)
def ak (c : Dev nD) (b : Fin 2) (h : Fin 4) (k : Fin 256) (e : Fin 128) : EReal :=
  m (c, Proc.tc.devRef main_arg1) (ix3 b k ⟨h.val * 128 + e.val, by omega⟩)
def av (c : Dev nD) (b : Fin 2) (h : Fin 4) (k : Fin 256) (e : Fin 128) : EReal :=
  m (c, Proc.tc.devRef main_arg1) (ix3 b k ⟨512 + (h.val * 128 + e.val), by omega⟩)
def ad (c : Dev nD) (b : Fin 2) (h : Fin 4) (s : Fin 2048) (e : Fin 128) : EReal :=
  m (c, Proc.tc.devRef main_arg2) (ix3 b s ⟨h.val * 128 + e.val, by omega⟩)

/-- The factor of the queries, 1/(√128 · log 2). -/
def qs : EReal := Ideal.div 1 (Ideal.sqrt (Ideal.ofBits .f32 0x43000000#32) * Ideal.log (Ideal.ofBits .f32 0x40000000#32))

/-- The scaled queries, the keys and the values, as the saved values' lines take them. -/
def qArr (c : Dev nD) : FVec Ideal S4096x512 .f32 :=
  mulf (shapeCast _ (m (c, Proc.tc.devRef main_arg0) : FVec Ideal S2x2048x512 .f32) shapeCasts_S2x2048x512_S4096x512)
    (broadcastInDim S4096x512 ![] bcast_S_S4096x512 (Host.divf (constant S_ .f32 0x3F800000#32)
      (mulf (Host.sqrt (constant S_ .f32 0x43000000#32)) (Host.log (constant S_ .f32 0x40000000#32)))))
def kvArr (c : Dev nD) : FVec Ideal S512x1024 .bf16 :=
  truncf .bf16 (shapeCast _ (m (c, Proc.tc.devRef main_arg1) : FVec Ideal S2x256x1024 .f32) shapeCasts_S2x256x1024_S512x1024) bitsLt_bf16_f32

/-- The queries, keys and values by heads. -/
def q4 (c : Dev nD) : FVec Ideal S2x2048x4x128 .f32 :=
  shapeCast S2x2048x4x128 (extf .f32 (truncf .bf16 (qArr m c) bitsLt_bf16_f32) bitsLt_bf16_f32) shapeCasts_S4096x512_S2x2048x4x128
def k4 (c : Dev nD) : FVec Ideal S2x256x4x128 .f32 :=
  shapeCast S2x256x4x128 (extf .f32 (extractStridedSlice S512x512 ![0, 0] (kvArr m c) slices_S512x1024_S512x512_0_0) bitsLt_bf16_f32) shapeCasts_S512x512_S2x256x4x128
def v4 (c : Dev nD) : FVec Ideal S2x256x4x128 .f32 :=
  shapeCast S2x256x4x128 (extf .f32 (extractStridedSlice S512x512 ![0, 512] (kvArr m c) slices_S512x1024_S512x512_0_512) bitsLt_bf16_f32) shapeCasts_S512x512_S2x256x4x128

/-- The scores. -/
def scArr (c : Dev nD) : FVec Ideal S2x2048x4x256 .f32 :=
  transpose S2x2048x4x256 [0, 3, 1, 2] (Host.dotGeneral dot_S2x256x4x128_S2x2048x4x128_S2x4x256x2048_3_3_1_1_02_02 none (k4 m c) (q4 m c))
    transposes_S2x4x256x2048_S2x2048x4x256_0_3_1_2

/-- The largest score of each row. -/
def mxArr (c : Dev nD) : FVec Ideal S2x2048x4x1 .f32 :=
  broadcastInDim S2x2048x4x1 ![0, 1, 2] bcast_S2x2048x4_S2x2048x4x1_0_1_2
    (Host.reduce FloatOps.maximumf (scArr m c) (constant S_ .f32 0xFF800000#32 : FVec Ideal S_ .f32) reducesTo_S2x2048x4x256_S2x2048x4_d3 h_S_)

/-- The numerators. -/
def pArr (c : Dev nD) : FVec Ideal S2x2048x4x256 .f32 :=
  Host.exp (mulf (subf (scArr m c) (broadcastInDim S2x2048x4x256 ![0, 1, 2, 3] bcast_S2x2048x4x1_S2x2048x4x256_0_1_2_3 (mxArr m c)))
    (broadcastInDim S2x2048x4x256 ![] bcast_S_S2x2048x4x256 (Host.log (constant S_ .f32 0x40000000#32))))

/-- The denominators. -/
def lArr (c : Dev nD) : FVec Ideal S2x2048x4x1 .f32 :=
  broadcastInDim S2x2048x4x1 ![0, 1, 2] bcast_S2x2048x4_S2x2048x4x1_0_1_2
    (Host.reduceAdd (pArr m c) (constant S_ .f32 0x00000000#32) reducesTo_S2x2048x4x256_S2x2048x4_d3 h_S_)

/-- The saved output. -/
def oArr (c : Dev nD) : FVec Ideal S2x2048x4x128 .f32 :=
  Host.divf (transpose S2x2048x4x128 [0, 3, 1, 2] (Host.dotGeneral dot_S2x256x4x128_S2x2048x4x256_S2x4x128x2048_1_3_3_1_02_02 none (v4 m c)
    (extf .f32 (truncf .bf16 (pArr m c) bitsLt_bf16_f32) bitsLt_bf16_f32)) transposes_S2x4x128x2048_S2x2048x4x128_0_3_1_2)
    (broadcastInDim S2x2048x4x128 ![0, 1, 2, 3] bcast_S2x2048x4x1_S2x2048x4x128_0_1_2_3 (lArr m c))

/-- The saved row log-sum. -/
def lseArr (c : Dev nD) : FVec Ideal S2x2048x4x1 .f32 :=
  addf (mxArr m c) (Host.divf (Host.log (lArr m c)) (broadcastInDim S2x2048x4x1 ![] bcast_S_S2x2048x4x1 (Host.log (constant S_ .f32 0x40000000#32))))

theorem o_arr (c : Dev nD) : V m c main_v44 = shapeCast _ (oArr m c) shapeCasts_S2x2048x4x128_S4096x512 := by
  dsimp only [V, hostOps0]
  after_results_simp
  rfl

theorem lse_arr (c : Dev nD) : V m c main_v45 = shapeCast _ (broadcastInDim S2x2048x4x128 ![0, 1, 2, 3] bcast_S2x2048x4x1_S2x2048x4x128_0_1_2_3 (lseArr m c)) shapeCasts_S2x2048x4x128_S4096x512 := by
  dsimp only [V, hostOps0]
  after_results_simp
  rfl

/-- The staged queries, keys and values, and cotangent. -/
theorem q_at (c : Dev nD) (R : Fin 4096) (h : Fin 4) (e : Fin 128) : ((V m c main_v7) (ix2 R ⟨h.val * 128 + e.val, by omega⟩) : EReal)
    = aq m c ⟨R.val / 2048, by omega⟩ h ⟨R.val % 2048, by omega⟩ e * qs := by
  dsimp only [V, hostOps0]
  after_results_simp
  pointwise
  rfl

theorem k_at (c : Dev nD) (J : Fin 512) (h : Fin 4) (e : Fin 128) : ((V m c main_v9) (ix2 J ⟨h.val * 128 + e.val, by omega⟩) : EReal)
    = ak m c ⟨J.val / 256, by omega⟩ h ⟨J.val % 256, by omega⟩ e := by
  dsimp only [V, hostOps0]
  after_results_simp
  pointwise
  rfl

theorem v_at (c : Dev nD) (J : Fin 512) (h : Fin 4) (e : Fin 128) : ((V m c main_v9) (ix2 J ⟨512 + (h.val * 128 + e.val), by omega⟩) : EReal)
    = av m c ⟨J.val / 256, by omega⟩ h ⟨J.val % 256, by omega⟩ e := by
  dsimp only [V, hostOps0]
  after_results_simp
  pointwise
  rfl

theorem d_at (c : Dev nD) (R : Fin 4096) (h : Fin 4) (e : Fin 128) : ((V m c main_v11) (ix2 R ⟨h.val * 128 + e.val, by omega⟩) : EReal)
    = ad m c ⟨R.val / 2048, by omega⟩ h ⟨R.val % 2048, by omega⟩ e := by
  dsimp only [V, hostOps0]
  after_results_simp
  pointwise
  rfl

end Cert.Kernel2Ideal.Value
-- ==== Proof.MemSaved.lean ====
module

public import proofs.«01_k».proof.Proof.MemEntry

@[expose] public section

set_option maxRecDepth 16384

/-! The saved output and row log-sum of the memory attention, read at an index. -/

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

theorem qArr_at (c : Dev nD) (b : Fin 2) (h : Fin 4) (s : Fin 2048) (e : Fin 128) : (qArr m c (ix2 ⟨b.val * 2048 + s.val, by omega⟩ ⟨h.val * 128 + e.val, by omega⟩) : EReal)
   = aq m c b h s e * qs := by
  have key : ∀ A : FVec Ideal S2x2048x512 .f32, (mulf (shapeCast S4096x512 A shapeCasts_S2x2048x512_S4096x512)
    (broadcastInDim S4096x512 ![] bcast_S_S4096x512 (Host.divf (constant S_ .f32 0x3F800000#32)
      (mulf (Host.sqrt (constant S_ .f32 0x43000000#32)) (Host.log (constant S_ .f32 0x40000000#32))))) (ix2 ⟨b.val * 2048 + s.val, by omega⟩ ⟨h.val * 128 + e.val, by omega⟩) : EReal)
     = A (ix3 b s ⟨h.val * 128 + e.val, by omega⟩) * qs := by
    intro A
    pointwise
    rfl
  exact key _

theorem q4_ix (c : Dev nD) (b : Fin 2) (h : Fin 4) (s : Fin 2048) (e : Fin 128) : (q4 m c (ix4 b s h e) : EReal) = qArr m c (ix2 ⟨b.val * 2048 + s.val, by omega⟩ ⟨h.val * 128 + e.val, by omega⟩) := by
  unfold q4
  generalize qArr m c = A
  pointwise
  done

theorem k4_ix (c : Dev nD) (b : Fin 2) (h : Fin 4) (k : Fin 256) (e : Fin 128) : (k4 m c (ix4 b k h e) : EReal) = kvArr m c (ix2 ⟨b.val * 256 + k.val, by omega⟩ ⟨h.val * 128 + e.val, by omega⟩) := by
  unfold k4
  generalize kvArr m c = A
  pointwise
theorem v4_ix (c : Dev nD) (b : Fin 2) (h : Fin 4) (k : Fin 256) (e : Fin 128) : (v4 m c (ix4 b k h e) : EReal) = kvArr m c (ix2 ⟨b.val * 256 + k.val, by omega⟩ ⟨512 + (h.val * 128 + e.val), by omega⟩) := by
  unfold v4
  generalize kvArr m c = A
  pointwise
theorem kv_at (c : Dev nD) (b : Fin 2) (k : Fin 256) (C : Fin 1024) : (kvArr m c (ix2 ⟨b.val * 256 + k.val, by omega⟩ C) : EReal) = m (c, Proc.tc.devRef main_arg1) (ix3 b k C) := by
  have key : ∀ A : FVec Ideal S2x256x1024 .f32, (truncf .bf16 (shapeCast S512x1024 A shapeCasts_S2x256x1024_S512x1024) bitsLt_bf16_f32 (ix2 ⟨b.val * 256 + k.val, by omega⟩ C) : EReal)
     = A (ix3 b k C) := by
    intro A
    pointwise
  exact key _

theorem q4_at (c : Dev nD) (b : Fin 2) (h : Fin 4) (s : Fin 2048) (e : Fin 128) : (q4 m c (ix4 b s h e) : EReal) = aq m c b h s e * qs :=
  (q4_ix m c b h s e).trans (qArr_at m c b h s e)

theorem k4_at (c : Dev nD) (b : Fin 2) (h : Fin 4) (k : Fin 256) (e : Fin 128) : (k4 m c (ix4 b k h e) : EReal) = ak m c b h k e :=
  (k4_ix m c b h k e).trans (kv_at m c b k _)

theorem v4_at (c : Dev nD) (b : Fin 2) (h : Fin 4) (k : Fin 256) (e : Fin 128) : (v4 m c (ix4 b k h e) : EReal) = av m c b h k e :=
  (v4_ix m c b h k e).trans (kv_at m c b k _)

/-- A score, to the base two. -/
def sc (c : Dev nD) (b : Fin 2) (h : Fin 4) (s : Fin 2048) (k : Fin 256) : EReal := ∑ e : Fin 128, ak m c b h k e * (aq m c b h s e * qs)

theorem sc_at (c : Dev nD) (b : Fin 2) (h : Fin 4) (s : Fin 2048) (k : Fin 256) : (scArr m c (ix4 b s h k) : EReal) = sc m c b h s k := by
  unfold scArr sc
  simp only [← q4_at, ← k4_at]
  generalize q4 m c = X
  generalize k4 m c = Y
  pointwise

/-- The largest score of a row. -/
def mx (c : Dev nD) (b : Fin 2) (h : Fin 4) (s : Fin 2048) : EReal :=
  (Host.reduce FloatOps.maximumf (scArr m c) (constant S_ .f32 0xFF800000#32) reducesTo_S2x2048x4x256_S2x2048x4_d3 h_S_ : FVec Ideal S2x2048x4 .f32) (ix3 b s h)

theorem mx_at (c : Dev nD) (b : Fin 2) (h : Fin 4) (s : Fin 2048) (z : Fin 1) : (mxArr m c (ix4 b s h z) : EReal) = mx m c b h s := by
  unfold mxArr mx
  generalize (Host.reduce FloatOps.maximumf (scArr m c) (constant S_ .f32 0xFF800000#32) reducesTo_S2x2048x4x256_S2x2048x4_d3 h_S_ : FVec Ideal S2x2048x4 .f32) = X
  pointwise

/-- A saved numerator. -/
def pt (c : Dev nD) (b : Fin 2) (h : Fin 4) (s : Fin 2048) (k : Fin 256) : EReal :=
  Ideal.exp ((sc m c b h s k - mx m c b h s) * Ideal.log (Ideal.ofBits .f32 0x40000000#32))

theorem p_at (c : Dev nD) (b : Fin 2) (h : Fin 4) (s : Fin 2048) (k : Fin 256) : (pArr m c (ix4 b s h k) : EReal) = pt m c b h s k := by
  unfold pArr pt
  rw [← sc_at, ← mx_at m c b h s 0]
  generalize scArr m c = X
  generalize mxArr m c = Y
  pointwise

theorem l_at (c : Dev nD) (b : Fin 2) (h : Fin 4) (s : Fin 2048) (z : Fin 1) : (lArr m c (ix4 b s h z) : EReal) = ∑ k, pt m c b h s k := by
  unfold lArr
  simp only [← p_at]
  generalize pArr m c = X
  pointwise

theorem o4_at (c : Dev nD) (b : Fin 2) (h : Fin 4) (s : Fin 2048) (e : Fin 128) : (oArr m c (ix4 b s h e) : EReal)
    = Ideal.div (∑ k, av m c b h k e * pt m c b h s k) (∑ k, pt m c b h s k) := by
  unfold oArr
  rw [← l_at m c b h s 0]
  simp only [← p_at, ← v4_at]
  generalize lArr m c = X
  generalize pArr m c = Y
  generalize v4 m c = Z
  pointwise

theorem lse4_form (X Y : FVec Ideal S2x2048x4x1 .f32) (b : Fin 2) (h : Fin 4) (s : Fin 2048) (z : Fin 1) :
    (addf X (Host.divf (Host.log Y) (broadcastInDim S2x2048x4x1 ![] bcast_S_S2x2048x4x1 (Host.log (constant S_ .f32 0x40000000#32)))) (ix4 b s h z) : EReal)
      = X (ix4 b s h z) + Ideal.div (Ideal.log (Y (ix4 b s h z))) (Ideal.log (Ideal.ofBits .f32 0x40000000#32)) :=
  rfl

/-- The saved row log-sum, and a lane of the saved output. -/
def lseV (c : Dev nD) (b : Fin 2) (h : Fin 4) (s : Fin 2048) : EReal :=
  mx m c b h s + Ideal.div (Ideal.log (∑ k, pt m c b h s k)) (Ideal.log (Ideal.ofBits .f32 0x40000000#32))
def oV (c : Dev nD) (b : Fin 2) (h : Fin 4) (s : Fin 2048) (e : Fin 128) : EReal :=
  Ideal.div (∑ k, av m c b h k e * pt m c b h s k) (∑ k, pt m c b h s k)

theorem lse4_at (c : Dev nD) (b : Fin 2) (h : Fin 4) (s : Fin 2048) (z : Fin 1) : (lseArr m c (ix4 b s h z) : EReal) = lseV m c b h s := by
  unfold lseArr lseV
  exact (lse4_form _ _ b h s z).trans
    (congrArg₂ (fun x y : EReal => x + Ideal.div (Ideal.log y) (Ideal.log (Ideal.ofBits .f32 0x40000000#32))) (mx_at m c b h s z) (l_at m c b h s z))

theorem o_at (c : Dev nD) (R : Fin 4096) (h : Fin 4) (e : Fin 128) : ((V m c main_v44) (ix2 R ⟨h.val * 128 + e.val, by omega⟩) : EReal)
    = oV m c ⟨R.val / 2048, by omega⟩ h ⟨R.val % 2048, by omega⟩ e := by
  unfold oV
  rw [o_arr, ← o4_at]
  generalize oArr m c = X
  pointwise

theorem lse_at (c : Dev nD) (R : Fin 4096) (h : Fin 4) (e : Fin 128) : ((V m c main_v45) (ix2 R ⟨h.val * 128 + e.val, by omega⟩) : EReal)
    = lseV m c ⟨R.val / 2048, by omega⟩ h ⟨R.val % 2048, by omega⟩ := by
  rw [lse_arr, ← lse4_at m c _ h _ 0]
  generalize lseArr m c = X
  pointwise

end Cert.Kernel2Ideal.Value
-- ==== Proof.MemBlocks.lean ====
module

public import proofs.«01_k».proof.Proof.MemSaved

@[expose] public section

set_option maxRecDepth 16384

/-! The blocks a grid point of the memory attention's backward call reads: batch `t / 4`, heads `2 (t / 2 % 2)` and the next, row tile `t % 2`. -/

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- The block a point's rows of a query-side array are, and the block of its memory-side arrays. -/
abbrev qIx (t : Fin cfg0.N) : Fin 2 → ℕ := ![2 * (t.val / 4) + t.val % 2, t.val / 2 % 2]
abbrev kIx (t : Fin cfg0.N) : Fin 2 → ℕ := ![t.val / 4, t.val / 2 % 2]

theorem idx : ∀ t : Fin cfg0.N, win0_0.index t = qIx t ∧ win0_1.index t = kIx t ∧ win0_2.index t = ![t.val / 4, t.val / 2 % 2 + 2]
    ∧ win0_3.index t = qIx t ∧ win0_4.index t = qIx t ∧ win0_5.index t = qIx t ∧ win0_6.index t = qIx t ∧ win0_7.index t = kIx t ∧ win0_8.index t = kIx t :=
  (by decide +kernel : ∀ t : Fin grid0.N, _)

theorem pt_lt (t : Fin cfg0.N) : t.val < 8 := lt_of_lt_of_eq t.isLt N_0

/-- The batch, a head and a row of point `t`. -/
def bOf (t : Fin cfg0.N) : Fin 2 := ⟨t.val / 4, by have := pt_lt t; omega⟩
def hOf (t : Fin cfg0.N) (u : Fin 2) : Fin 4 := ⟨2 * (t.val / 2 % 2) + u.val, by omega⟩
def sOf (t : Fin cfg0.N) (r : Fin 1024) : Fin 2048 := ⟨1024 * (t.val % 2) + r.val, by omega⟩

/-- The rows of the arrays that a point's rows are. -/
def rowQ (t : Fin cfg0.N) (r : Fin 1024) : Fin 4096 := ⟨2048 * (t.val / 4) + (1024 * (t.val % 2) + r.val), by have := pt_lt t; omega⟩
def rowK (t : Fin cfg0.N) (k : Fin 256) : Fin 512 := ⟨256 * (t.val / 4) + k.val, by have := pt_lt t; omega⟩

theorem rowQ_div (t : Fin cfg0.N) (r : Fin 1024) : (⟨(rowQ t r).val / 2048, by omega⟩ : Fin 2) = bOf t := by
  apply Fin.ext; dsimp only [rowQ, bOf]; omega
theorem rowQ_mod (t : Fin cfg0.N) (r : Fin 1024) : (⟨(rowQ t r).val % 2048, by omega⟩ : Fin 2048) = sOf t r := by
  apply Fin.ext; dsimp only [rowQ, sOf]; omega
theorem rowK_div (t : Fin cfg0.N) (k : Fin 256) : (⟨(rowK t k).val / 256, by omega⟩ : Fin 2) = bOf t := by
  apply Fin.ext; dsimp only [rowK, bOf]; omega
theorem rowK_mod (t : Fin cfg0.N) (k : Fin 256) : (⟨(rowK t k).val % 256, by omega⟩ : Fin 256) = k := by
  apply Fin.ext; dsimp only [rowK]; omega

theorem blk_q (c : Dev nD) (t : Fin cfg0.N) (r : Fin 1024) (u : Fin 2) (e : Fin 128) :
    (iblk m c 0 t (ix2 r ⟨u.val * 128 + e.val, by omega⟩) : EReal) = aq m c (bOf t) (hOf t u) (sOf t r) e * qs := by
  refine Eq.trans ?_ ((q_at m c (rowQ t r) (hOf t u) e).trans (by rw [rowQ_div, rowQ_mod]))
  have key : ∀ A : FVec Ideal S4096x512 .bf16, (View.read (Elt Ideal) ((cfg0.win 0).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v7)

theorem blk_k (c : Dev nD) (t : Fin cfg0.N) (k : Fin 256) (u : Fin 2) (e : Fin 128) :
    (iblk m c 1 t (ix2 k ⟨u.val * 128 + e.val, by omega⟩) : EReal) = ak m c (bOf t) (hOf t u) k e := by
  refine Eq.trans ?_ ((k_at m c (rowK t k) (hOf t u) e).trans (by rw [rowK_div, rowK_mod]))
  have key : ∀ A : FVec Ideal S512x1024 .bf16, (View.read (Elt Ideal) ((cfg0.win 1).blk t).view A (ix2 k ⟨u.val * 128 + e.val, by omega⟩) : EReal)
      = A (ix2 (rowK t k) ⟨(hOf t u).val * 128 + e.val, by omega⟩) := by
    intro A
    unfold hOf rowK
    blk_ext [idx t]
  exact key (V m c main_v9)

theorem blk_v (c : Dev nD) (t : Fin cfg0.N) (k : Fin 256) (u : Fin 2) (e : Fin 128) :
    (iblk m c 2 t (ix2 k ⟨u.val * 128 + e.val, by omega⟩) : EReal) = av m c (bOf t) (hOf t u) k e := by
  refine Eq.trans ?_ ((v_at m c (rowK t k) (hOf t u) e).trans (by rw [rowK_div, rowK_mod]))
  have key : ∀ A : FVec Ideal S512x1024 .bf16, (View.read (Elt Ideal) ((cfg0.win 2).blk t).view A (ix2 k ⟨u.val * 128 + e.val, by omega⟩) : EReal)
      = A (ix2 (rowK t k) ⟨512 + ((hOf t u).val * 128 + e.val), by omega⟩) := by
    intro A
    unfold hOf rowK
    blk_ext [idx t]
  exact key (V m c main_v9)

theorem blk_o (c : Dev nD) (t : Fin cfg0.N) (r : Fin 1024) (u : Fin 2) (e : Fin 128) :
    (iblk m c 3 t (ix2 r ⟨u.val * 128 + e.val, by omega⟩) : EReal) = oV m c (bOf t) (hOf t u) (sOf t r) e := by
  refine Eq.trans ?_ ((o_at m c (rowQ t r) (hOf t u) e).trans (by rw [rowQ_div, rowQ_mod]))
  have key : ∀ A : FVec Ideal S4096x512 .f32, (View.read (Elt Ideal) ((cfg0.win 3).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v44)

theorem blk_d (c : Dev nD) (t : Fin cfg0.N) (r : Fin 1024) (u : Fin 2) (e : Fin 128) :
    (iblk m c 4 t (ix2 r ⟨u.val * 128 + e.val, by omega⟩) : EReal) = ad m c (bOf t) (hOf t u) (sOf t r) e := by
  refine Eq.trans ?_ ((d_at m c (rowQ t r) (hOf t u) e).trans (by rw [rowQ_div, rowQ_mod]))
  have key : ∀ A : FVec Ideal S4096x512 .bf16, (View.read (Elt Ideal) ((cfg0.win 4).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v11)

theorem blk_l (c : Dev nD) (t : Fin cfg0.N) (r : Fin 1024) (u : Fin 2) (e : Fin 128) :
    (iblk m c 5 t (ix2 r ⟨u.val * 128 + e.val, by omega⟩) : EReal) = lseV m c (bOf t) (hOf t u) (sOf t r) := by
  refine Eq.trans ?_ ((lse_at m c (rowQ t r) (hOf t u) e).trans (by rw [rowQ_div, rowQ_mod]))
  have key : ∀ A : FVec Ideal S4096x512 .f32, (View.read (Elt Ideal) ((cfg0.win 5).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v45)

end Cert.Kernel2Ideal.Value
-- ==== Proof.Columns.lean ====
module

public import Idealize.ShloMosaic.Lib.Pipeline.ValueKit
public import Idealize.ShloMosaic.Lib.Pipeline.ReadBack

@[expose] public section

/-! A matrix written slice of columns by slice of columns, read at an element. -/

noncomputable section

open Idealize.ShloMosaic

namespace Cert.Columns

variable {Val : EltTy → Type} [∀ e, Nonempty (Val e)] {R C w off : ℕ} {e : EltTy}

/-- An element of the columns written last holds what was written there. -/
theorem hit (inb : ∀ a, (![0, off] : Fin 2 → ℕ) a + (![R, w] : Fin 2 → ℕ) a ≤ (⟨2, ![R, C]⟩ : Shape).size a)
    (P : (Rect.unit (s := ⟨2, ![R, C]⟩) ![0, off] ![R, w] inb).shape.Idx → Val e)
    (L : List (View.Piece Val (⟨2, ![R, C]⟩ : Shape) e)) (r : Fin R) (c : Fin C) (x : Fin w) (h : c.val = off + x.val) :
    View.canon (⟨Rect.unit ![0, off] ![R, w] inb, P⟩ :: L) (ix2 r c) = P (ix2 r x) := by
  have key := View.canon_cons_emb (Rect.unit (s := ⟨2, ![R, C]⟩) ![0, off] ![R, w] inb) P L (ix2 r x)
  refine Eq.trans (congrArg _ ?_) key
  funext a
  refine Fin.ext ?_
  match a with
  | 0 => show r.val = 0 + 1 * r.val; omega
  | 1 => show c.val = off + 1 * x.val; omega

/-- An element of other columns holds what was written before. -/
theorem miss (inb : ∀ a, (![0, off] : Fin 2 → ℕ) a + (![R, w] : Fin 2 → ℕ) a ≤ (⟨2, ![R, C]⟩ : Shape).size a)
    (P : (Rect.unit (s := ⟨2, ![R, C]⟩) ![0, off] ![R, w] inb).shape.Idx → Val e)
    (L : List (View.Piece Val (⟨2, ![R, C]⟩ : Shape) e)) (r : Fin R) (c : Fin C) (h : c.val < off ∨ off + w ≤ c.val) :
    View.canon (⟨Rect.unit ![0, off] ![R, w] inb, P⟩ :: L) (ix2 r c) = View.canon L (ix2 r c) := by
  refine View.canon_cons_of_not_mem _ _ fun hm => ?_
  have := (Rect.mem_set_unit (inb := inb) (i := ix2 r c)).1 hm 1
  simp at this
  omega

/-- A load of the whole matrix reads the writes back. -/
theorem whole {sig : RefSig} {κ : Kind} {sp : Space} (v : View sig κ sp (⟨2, ![R, C]⟩ : Shape) e)
    (inb : ∀ a, (![0, 0] : Fin 2 → ℕ) a + (![R, C] : Fin 2 → ℕ) a ≤ (⟨2, ![R, C]⟩ : Shape).size a)
    (L : List (View.Piece Val (⟨2, ![R, C]⟩ : Shape) e)) (r : Fin R) (c : Fin C) :
    v.readCov L (Rect.unit (s := ⟨2, ![R, C]⟩) ![0, 0] ![R, C] inb).toLoadRect (ix2 r c) = View.canon L (ix2 r c) := by
  rw [View.readCov_eq_canon']
  refine congrArg _ ?_
  funext a
  refine Fin.ext ?_
  match a with
  | 0 => show 0 + 1 * r.val = r.val; omega
  | 1 => show 0 + 1 * c.val = c.val; omega

end Cert.Columns
-- ==== Proof.MemStep.lean ====
module

public import proofs.«01_k».proof.Proof.MemBlocks
public import proofs.«01_k».proof.Proof.Columns
public import Idealize.ShloMosaic.Lib.Pipeline.ReadBack

@[expose] public section

set_option maxRecDepth 16384

/-! What a grid point of the memory attention's backward call leaves in its outputs and accumulators. -/

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- The rebuilt softmax weight and the cotangent of the score. -/
def pw (c : Dev nD) (b : Fin 2) (h : Fin 4) (s : Fin 2048) (k : Fin 256) : EReal :=
  Ideal.exp2 (∑ e, aq m c b h s e * qs * ak m c b h k e - lseV m c b h s)
def dw (c : Dev nD) (b : Fin 2) (h : Fin 4) (s : Fin 2048) (k : Fin 256) : EReal :=
  pw m c b h s k * (∑ e, ad m c b h s e * av m c b h k e - ∑ e, ad m c b h s e * oV m c b h s e)

/-- The two constants of the body. -/
abbrev cS : EReal := (Named.named κ "scale" (0x3DB504F3#32 : BitVec (FTy.bits .f32)) : Ideal .f32)
abbrev cL : EReal := (Named.named κ "ln2" (0x3F317218#32 : BitVec (FTy.bits .f32)) : Ideal .f32)

/-! ## The blocks as the body's loads name their columns -/

theorem lo {n : ℕ} {e : Fin 128} (X : (⟨2, ![n, 256]⟩ : Shape).Idx → EReal) (r : Fin n) {y : EReal}
    (h : X (ix2 r ⟨(0 : Fin 2).val * 128 + e.val, by omega⟩) = y) : X (ix2 r ⟨e.val, by omega⟩) = y := by
  rw [← h]; congr 2; apply Fin.ext; simp

theorem q_lo (c : Dev nD) (t : Fin cfg0.N) (r : Fin 1024) (e : Fin 128) : (iblk m c 0 t (ix2 r ⟨e.val, by omega⟩) : EReal) = aq m c (bOf t) (hOf t 0) (sOf t r) e * qs :=
  lo (iblk m c 0 t) r (blk_q m c t r 0 e)
theorem q_hi (c : Dev nD) (t : Fin cfg0.N) (r : Fin 1024) (e : Fin 128) : (iblk m c 0 t (ix2 r ⟨128 + e.val, by omega⟩) : EReal) = aq m c (bOf t) (hOf t 1) (sOf t r) e * qs :=
  blk_q m c t r 1 e
theorem k_lo (c : Dev nD) (t : Fin cfg0.N) (k : Fin 256) (e : Fin 128) : (iblk m c 1 t (ix2 k ⟨e.val, by omega⟩) : EReal) = ak m c (bOf t) (hOf t 0) k e :=
  lo (iblk m c 1 t) k (blk_k m c t k 0 e)
theorem k_hi (c : Dev nD) (t : Fin cfg0.N) (k : Fin 256) (e : Fin 128) : (iblk m c 1 t (ix2 k ⟨128 + e.val, by omega⟩) : EReal) = ak m c (bOf t) (hOf t 1) k e :=
  blk_k m c t k 1 e
theorem v_lo (c : Dev nD) (t : Fin cfg0.N) (k : Fin 256) (e : Fin 128) : (iblk m c 2 t (ix2 k ⟨e.val, by omega⟩) : EReal) = av m c (bOf t) (hOf t 0) k e :=
  lo (iblk m c 2 t) k (blk_v m c t k 0 e)
theorem v_hi (c : Dev nD) (t : Fin cfg0.N) (k : Fin 256) (e : Fin 128) : (iblk m c 2 t (ix2 k ⟨128 + e.val, by omega⟩) : EReal) = av m c (bOf t) (hOf t 1) k e :=
  blk_v m c t k 1 e
theorem o_lo (c : Dev nD) (t : Fin cfg0.N) (r : Fin 1024) (e : Fin 128) : (iblk m c 3 t (ix2 r ⟨e.val, by omega⟩) : EReal) = oV m c (bOf t) (hOf t 0) (sOf t r) e :=
  lo (iblk m c 3 t) r (blk_o m c t r 0 e)
theorem o_hi (c : Dev nD) (t : Fin cfg0.N) (r : Fin 1024) (e : Fin 128) : (iblk m c 3 t (ix2 r ⟨128 + e.val, by omega⟩) : EReal) = oV m c (bOf t) (hOf t 1) (sOf t r) e :=
  blk_o m c t r 1 e
theorem d_lo (c : Dev nD) (t : Fin cfg0.N) (r : Fin 1024) (e : Fin 128) : (iblk m c 4 t (ix2 r ⟨e.val, by omega⟩) : EReal) = ad m c (bOf t) (hOf t 0) (sOf t r) e :=
  lo (iblk m c 4 t) r (blk_d m c t r 0 e)
theorem d_hi (c : Dev nD) (t : Fin cfg0.N) (r : Fin 1024) (e : Fin 128) : (iblk m c 4 t (ix2 r ⟨128 + e.val, by omega⟩) : EReal) = ad m c (bOf t) (hOf t 1) (sOf t r) e :=
  blk_d m c t r 1 e
theorem l_lo (c : Dev nD) (t : Fin cfg0.N) (r : Fin 1024) : (iblk m c 5 t (ix2 r 0) : EReal) = lseV m c (bOf t) (hOf t 0) (sOf t r) :=
  blk_l m c t r 0 0
theorem l_hi (c : Dev nD) (t : Fin cfg0.N) (r : Fin 1024) : (iblk m c 5 t (ix2 r 128) : EReal) = lseV m c (bOf t) (hOf t 1) (sOf t r) :=
  blk_l m c t r 1 0

/-! ## The first output -/

theorem dq_hi (c : Dev nD) (t : Fin cfg0.N) (r : Fin 1024) (e : Fin 128) :
    ((outsAt0 m c t.val t.isLt).1 (ix2 r ⟨(1 : Fin 2).val * 128 + e.val, by omega⟩) : EReal)
      = (∑ k, dw m c (bOf t) (hOf t 1) (sOf t r) k * ak m c (bOf t) (hOf t 1) k e) * cS := by
  rcases Nat.mod_two_eq_zero_or_one t.val with h | h
  · rw [outsAt0_A m c t h (by omega)]; frame_out
    rw [Columns.hit _ _ _ _ _ e (by simp)]
    pointwise [k0_pay2, k0_pay18, k0_pay17, k0_pay19, k0_pay20, k0_pay21, k0_pay22, k0_pay1]
    simp only [q_hi, k_hi, v_hi, o_hi, d_hi, l_hi]
    rfl
  · rw [outsAt0_B m c t (by omega) h]; frame_out
    rw [Columns.hit _ _ _ _ _ e (by simp)]
    pointwise [k0_pay2, k0_pay18, k0_pay17, k0_pay19, k0_pay20, k0_pay21, k0_pay22, k0_pay1]
    simp only [q_hi, k_hi, v_hi, o_hi, d_hi, l_hi]
    rfl

theorem dq_lo (c : Dev nD) (t : Fin cfg0.N) (r : Fin 1024) (e : Fin 128) :
    ((outsAt0 m c t.val t.isLt).1 (ix2 r ⟨(0 : Fin 2).val * 128 + e.val, by omega⟩) : EReal)
      = (∑ k, dw m c (bOf t) (hOf t 0) (sOf t r) k * ak m c (bOf t) (hOf t 0) k e) * cS := by
  rcases Nat.mod_two_eq_zero_or_one t.val with h | h
  · rw [outsAt0_A m c t h (by omega)]; frame_out
    rw [Columns.miss _ _ _ _ _ (.inl (by simp; done)), Columns.hit _ _ _ _ _ e (by simp)]
    pointwise [k0_pay14, k0_pay13, k0_pay12, k0_pay11, k0_pay10, k0_pay9]
    simp only [q_lo, k_lo, v_lo, o_lo, d_lo, l_lo]
    rfl
  · rw [outsAt0_B m c t (by omega) h]; frame_out
    rw [Columns.miss _ _ _ _ _ (.inl (by simp; done)), Columns.hit _ _ _ _ _ e (by simp)]
    pointwise [k0_pay14, k0_pay13, k0_pay12, k0_pay11, k0_pay10, k0_pay9]
    simp only [q_lo, k_lo, v_lo, o_lo, d_lo, l_lo]
    rfl

/-! ## The accumulators after the tile that clears them -/

theorem accK_hi (c : Dev nD) (t : Fin cfg0.N) (h : t.val % 2 = 0) (k : Fin 256) (e : Fin 128) :
    ((outsAt0 m c t.val t.isLt).2.2.2.1 (ix2 k ⟨(1 : Fin 2).val * 128 + e.val, by omega⟩) : EReal)
      = ∑ r, dw m c (bOf t) (hOf t 1) (sOf t r) k * (aq m c (bOf t) (hOf t 1) (sOf t r) e * qs) := by
  rw [outsAt0_A m c t h (by omega)]; frame_out
  rw [Columns.hit _ _ _ _ _ e (by simp)]
  simp (disch := decide) only [↓ View.readCov_skip, ↓ View.readCov_cons_toLoadRect, ↓ View.readCov_fill]
  pointwise [k0_pay3, k0_pay18, k0_pay17, k0_pay19, k0_pay20, k0_pay21, k0_pay22, k0_pay1, k0_pay7]
  simp only [q_hi, k_hi, v_hi, o_hi, d_hi, l_hi]
  rfl

theorem accK_lo (c : Dev nD) (t : Fin cfg0.N) (h : t.val % 2 = 0) (k : Fin 256) (e : Fin 128) :
    ((outsAt0 m c t.val t.isLt).2.2.2.1 (ix2 k ⟨(0 : Fin 2).val * 128 + e.val, by omega⟩) : EReal)
      = ∑ r, dw m c (bOf t) (hOf t 0) (sOf t r) k * (aq m c (bOf t) (hOf t 0) (sOf t r) e * qs) := by
  rw [outsAt0_A m c t h (by omega)]; frame_out
  rw [Columns.miss _ _ _ _ _ (.inl (by simp; done)), Columns.hit _ _ _ _ _ e (by simp)]
  simp (disch := decide) only [↓ View.readCov_skip, ↓ View.readCov_cons_toLoadRect, ↓ View.readCov_fill]
  pointwise [k0_pay15, k0_pay13, k0_pay12, k0_pay11, k0_pay10, k0_pay9, k0_pay7]
  simp only [q_lo, k_lo, v_lo, o_lo, d_lo, l_lo]
  rfl

theorem accV_hi (c : Dev nD) (t : Fin cfg0.N) (h : t.val % 2 = 0) (k : Fin 256) (e : Fin 128) :
    ((outsAt0 m c t.val t.isLt).2.2.2.2 (ix2 k ⟨(1 : Fin 2).val * 128 + e.val, by omega⟩) : EReal)
      = ∑ r, pw m c (bOf t) (hOf t 1) (sOf t r) k * ad m c (bOf t) (hOf t 1) (sOf t r) e := by
  rw [outsAt0_A m c t h (by omega)]; frame_out
  rw [Columns.hit _ _ _ _ _ e (by simp)]
  simp (disch := decide) only [↓ View.readCov_skip, ↓ View.readCov_cons_toLoadRect, ↓ View.readCov_fill]
  pointwise [k0_pay4, k0_pay18, k0_pay17, k0_pay19, k0_pay20, k0_pay21, k0_pay22, k0_pay1, k0_pay8]
  simp only [q_hi, k_hi, v_hi, o_hi, d_hi, l_hi]
  rfl

theorem accV_lo (c : Dev nD) (t : Fin cfg0.N) (h : t.val % 2 = 0) (k : Fin 256) (e : Fin 128) :
    ((outsAt0 m c t.val t.isLt).2.2.2.2 (ix2 k ⟨(0 : Fin 2).val * 128 + e.val, by omega⟩) : EReal)
      = ∑ r, pw m c (bOf t) (hOf t 0) (sOf t r) k * ad m c (bOf t) (hOf t 0) (sOf t r) e := by
  rw [outsAt0_A m c t h (by omega)]; frame_out
  rw [Columns.miss _ _ _ _ _ (.inl (by simp; done)), Columns.hit _ _ _ _ _ e (by simp)]
  simp (disch := decide) only [↓ View.readCov_skip, ↓ View.readCov_cons_toLoadRect, ↓ View.readCov_fill]
  pointwise [k0_pay16, k0_pay13, k0_pay12, k0_pay11, k0_pay10, k0_pay9, k0_pay8]
  simp only [q_lo, k_lo, v_lo, o_lo, d_lo, l_lo]
  rfl

/-! ## The other outputs -/

theorem pay5_at (X : FVec Ideal S256x256 .f32) (k j : Fin 256) : (k0_pay5 (F := Ideal) X (ix2 k j) : EReal) = X (ix2 k j) * cL := by
  pointwise [k0_pay5]

theorem pay6_at (X : FVec Ideal S256x256 .f32) (k j : Fin 256) : (k0_pay6 (F := Ideal) X (ix2 k j) : EReal) = X (ix2 k j) := by
  pointwise [k0_pay6]

theorem dk_hi (c : Dev nD) (t : Fin cfg0.N) (h : t.val % 2 = 1) (k : Fin 256) (e : Fin 128) :
    ((outsAt0 m c t.val t.isLt).2.1 (ix2 k ⟨(1 : Fin 2).val * 128 + e.val, by omega⟩) : EReal)
      = ((outsAt0 m c (t.val - 1) (lt_of_le_of_lt (Nat.sub_le _ _) t.isLt)).2.2.2.1 (ix2 k ⟨(1 : Fin 2).val * 128 + e.val, by omega⟩) + ∑ r, dw m c (bOf t) (hOf t 1) (sOf t r) k * (aq m c (bOf t) (hOf t 1) (sOf t r) e * qs)) * cL := by
  rw [outsAt0_B m c t (by omega) h]; frame_out
  rw [pay5_at, Columns.whole, Columns.hit _ _ _ _ _ e (by simp)]
  simp only [read_unread_whole]
  pointwise [k0_pay3, k0_pay18, k0_pay17, k0_pay19, k0_pay20, k0_pay21, k0_pay22, k0_pay1]
  simp only [q_hi, k_hi, v_hi, o_hi, d_hi, l_hi]
  rfl

theorem dk_lo (c : Dev nD) (t : Fin cfg0.N) (h : t.val % 2 = 1) (k : Fin 256) (e : Fin 128) :
    ((outsAt0 m c t.val t.isLt).2.1 (ix2 k ⟨(0 : Fin 2).val * 128 + e.val, by omega⟩) : EReal)
      = ((outsAt0 m c (t.val - 1) (lt_of_le_of_lt (Nat.sub_le _ _) t.isLt)).2.2.2.1 (ix2 k ⟨(0 : Fin 2).val * 128 + e.val, by omega⟩) + ∑ r, dw m c (bOf t) (hOf t 0) (sOf t r) k * (aq m c (bOf t) (hOf t 0) (sOf t r) e * qs)) * cL := by
  rw [outsAt0_B m c t (by omega) h]; frame_out
  rw [pay5_at, Columns.whole, Columns.miss _ _ _ _ _ (.inl (by simp; done)), Columns.hit _ _ _ _ _ e (by simp)]
  simp only [read_unread_whole]
  pointwise [k0_pay15, k0_pay13, k0_pay12, k0_pay11, k0_pay10, k0_pay9]
  simp only [q_lo, k_lo, v_lo, o_lo, d_lo, l_lo]
  rfl

theorem dv_hi (c : Dev nD) (t : Fin cfg0.N) (h : t.val % 2 = 1) (k : Fin 256) (e : Fin 128) :
    ((outsAt0 m c t.val t.isLt).2.2.1 (ix2 k ⟨(1 : Fin 2).val * 128 + e.val, by omega⟩) : EReal)
      = ((outsAt0 m c (t.val - 1) (lt_of_le_of_lt (Nat.sub_le _ _) t.isLt)).2.2.2.2 (ix2 k ⟨(1 : Fin 2).val * 128 + e.val, by omega⟩) + ∑ r, pw m c (bOf t) (hOf t 1) (sOf t r) k * ad m c (bOf t) (hOf t 1) (sOf t r) e) := by
  rw [outsAt0_B m c t (by omega) h]; frame_out
  rw [pay6_at, Columns.whole, Columns.hit _ _ _ _ _ e (by simp)]
  simp only [read_unread_whole]
  pointwise [k0_pay4, k0_pay18, k0_pay17, k0_pay19, k0_pay20, k0_pay21, k0_pay22, k0_pay1]
  simp only [q_hi, k_hi, v_hi, o_hi, d_hi, l_hi]
  rfl

theorem dv_lo (c : Dev nD) (t : Fin cfg0.N) (h : t.val % 2 = 1) (k : Fin 256) (e : Fin 128) :
    ((outsAt0 m c t.val t.isLt).2.2.1 (ix2 k ⟨(0 : Fin 2).val * 128 + e.val, by omega⟩) : EReal)
      = ((outsAt0 m c (t.val - 1) (lt_of_le_of_lt (Nat.sub_le _ _) t.isLt)).2.2.2.2 (ix2 k ⟨(0 : Fin 2).val * 128 + e.val, by omega⟩) + ∑ r, pw m c (bOf t) (hOf t 0) (sOf t r) k * ad m c (bOf t) (hOf t 0) (sOf t r) e) := by
  rw [outsAt0_B m c t (by omega) h]; frame_out
  rw [pay6_at, Columns.whole, Columns.miss _ _ _ _ _ (.inl (by simp; done)), Columns.hit _ _ _ _ _ e (by simp)]
  simp only [read_unread_whole]
  pointwise [k0_pay16, k0_pay13, k0_pay12, k0_pay11, k0_pay10, k0_pay9]
  simp only [q_lo, k_lo, v_lo, o_lo, d_lo, l_lo]
  rfl

end Cert.Kernel2Ideal.Value
-- ==== Proof.MemFold.lean ====
module

public import proofs.«01_k».proof.Proof.MemStep

@[expose] public section

set_option maxRecDepth 16384

/-! The result arrays of the memory attention's backward call. -/

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen
variable (m : (ℓ : Loc nD τ sig) → Buf (Elt Ideal) ℓ)

/-- The gradients of the query, the key and the value as the kernel computes them. -/
def dqV (c : Dev nD) (b : Fin 2) (h : Fin 4) (s : Fin 2048) (e : Fin 128) : EReal := (∑ k, dw m c b h s k * ak m c b h k e) * cS
def dkV (c : Dev nD) (b : Fin 2) (h : Fin 4) (k : Fin 256) (e : Fin 128) : EReal := (∑ s, dw m c b h s k * (aq m c b h s e * qs)) * cL
def dvV (c : Dev nD) (b : Fin 2) (h : Fin 4) (k : Fin 256) (e : Fin 128) : EReal := ∑ s, pw m c b h s k * ad m c b h s e

def dqG (c : Dev nD) (i : S4096x512.Idx) : EReal :=
  dqV m c ⟨(i 0).val / 2048, by have := (i 0).isLt; change _ < 4096 at this; omega⟩ ⟨(i 1).val / 128, by have := (i 1).isLt; change _ < 512 at this; omega⟩
    ⟨(i 0).val % 2048, by omega⟩ ⟨(i 1).val % 128, by omega⟩
def dkG (c : Dev nD) (i : S512x512.Idx) : EReal :=
  dkV m c ⟨(i 0).val / 256, by have := (i 0).isLt; change _ < 512 at this; omega⟩ ⟨(i 1).val / 128, by have := (i 1).isLt; change _ < 512 at this; omega⟩
    ⟨(i 0).val % 256, by omega⟩ ⟨(i 1).val % 128, by omega⟩
def dvG (c : Dev nD) (i : S512x512.Idx) : EReal :=
  dvV m c ⟨(i 0).val / 256, by have := (i 0).isLt; change _ < 512 at this; omega⟩ ⟨(i 1).val / 128, by have := (i 1).isLt; change _ < 512 at this; omega⟩
    ⟨(i 0).val % 256, by omega⟩ ⟨(i 1).val % 128, by omega⟩

/-- A column of a block is a lane of one of its two heads. -/
theorem col (j : Fin 256) : ∃ (u : Fin 2) (e : Fin 128), j = ⟨u.val * 128 + e.val, by omega⟩ :=
  ⟨⟨j.val / 128, by omega⟩, ⟨j.val % 128, by omega⟩, Fin.ext (by dsimp only; omega)⟩

/-- The two row tiles together. -/
theorem tiles (t t' : Fin cfg0.N) (h : t.val % 2 = 0) (h' : t'.val % 2 = 1) (f : Fin 2048 → EReal) :
    (∑ r, f (sOf t r)) + ∑ r, f (sOf t' r) = ∑ s, f s := by
  rw [Fin.sum_univ_two_halves 1024 1024 rfl]
  refine congrArg₂ _ (Finset.sum_congr rfl fun r _ => congrArg f (Fin.ext ?_)) (Finset.sum_congr rfl fun r _ => congrArg f (Fin.ext ?_)) <;>
    dsimp [sOf] <;> omega

theorem bOf_prev (t t' : Fin cfg0.N) (h : t.val % 2 = 1) (e : t'.val = t.val - 1) : bOf t' = bOf t := Fin.ext (by dsimp only [bOf]; omega)
theorem hOf_prev (t t' : Fin cfg0.N) (h : t.val % 2 = 1) (e : t'.val = t.val - 1) (u : Fin 2) : hOf t' u = hOf t u := Fin.ext (by dsimp only [hOf]; omega)

theorem dk_at (c : Dev nD) (t : Fin cfg0.N) (h : t.val % 2 = 1) (k : Fin 256) (u : Fin 2) (e : Fin 128) :
    ((outsAt0 m c t.val t.isLt).2.1 (ix2 k ⟨u.val * 128 + e.val, by omega⟩) : EReal) = dkV m c (bOf t) (hOf t u) k e := by
  have hl : t.val - 1 < cfg0.N := lt_of_le_of_lt (Nat.sub_le _ _) t.isLt
  have ht : (⟨t.val - 1, hl⟩ : Fin cfg0.N).val % 2 = 0 := by dsimp only; omega
  unfold dkV
  rw [← tiles ⟨t.val - 1, hl⟩ t ht h]
  match u with
  | 0 => refine (dk_lo m c t h k e).trans ?_; rw [accK_lo m c ⟨t.val - 1, hl⟩ ht k e, bOf_prev t _ h rfl, hOf_prev t _ h rfl]
  | 1 => refine (dk_hi m c t h k e).trans ?_; rw [accK_hi m c ⟨t.val - 1, hl⟩ ht k e, bOf_prev t _ h rfl, hOf_prev t _ h rfl]

theorem dv_at (c : Dev nD) (t : Fin cfg0.N) (h : t.val % 2 = 1) (k : Fin 256) (u : Fin 2) (e : Fin 128) :
    ((outsAt0 m c t.val t.isLt).2.2.1 (ix2 k ⟨u.val * 128 + e.val, by omega⟩) : EReal) = dvV m c (bOf t) (hOf t u) k e := by
  have hl : t.val - 1 < cfg0.N := lt_of_le_of_lt (Nat.sub_le _ _) t.isLt
  have ht : (⟨t.val - 1, hl⟩ : Fin cfg0.N).val % 2 = 0 := by dsimp only; omega
  unfold dvV
  rw [← tiles ⟨t.val - 1, hl⟩ t ht h]
  match u with
  | 0 => refine (dv_lo m c t h k e).trans ?_; rw [accV_lo m c ⟨t.val - 1, hl⟩ ht k e, bOf_prev t _ h rfl, hOf_prev t _ h rfl]
  | 1 => refine (dv_hi m c t h k e).trans ?_; rw [accV_hi m c ⟨t.val - 1, hl⟩ ht k e, bOf_prev t _ h rfl, hOf_prev t _ h rfl]

theorem dq_at (c : Dev nD) (t : Fin cfg0.N) (r : Fin 1024) (u : Fin 2) (e : Fin 128) :
    ((outsAt0 m c t.val t.isLt).1 (ix2 r ⟨u.val * 128 + e.val, by omega⟩) : EReal) = dqV m c (bOf t) (hOf t u) (sOf t r) e := by
  match u with
  | 0 => exact dq_lo m c t r e
  | 1 => exact dq_hi m c t r e

theorem dqG_eq (c : Dev nD) (i : S4096x512.Idx) (b : Fin 2) (h : Fin 4) (s : Fin 2048) (e : Fin 128)
    (h0 : (i 0).val = 2048 * b.val + s.val) (h1 : (i 1).val = h.val * 128 + e.val) : dqG m c i = dqV m c b h s e := by
  unfold dqG
  congr 1 <;> (apply Fin.ext; dsimp only; omega)

theorem dkG_eq (c : Dev nD) (i : S512x512.Idx) (b : Fin 2) (h : Fin 4) (s : Fin 256) (e : Fin 128)
    (h0 : (i 0).val = 256 * b.val + s.val) (h1 : (i 1).val = h.val * 128 + e.val) : dkG m c i = dkV m c b h s e := by
  unfold dkG
  congr 1 <;> (apply Fin.ext; dsimp only; omega)

theorem dvG_eq (c : Dev nD) (i : S512x512.Idx) (b : Fin 2) (h : Fin 4) (s : Fin 256) (e : Fin 128)
    (h0 : (i 0).val = 256 * b.val + s.val) (h1 : (i 1).val = h.val * 128 + e.val) : dvG m c i = dvV m c b h s e := by
  unfold dvG
  congr 1 <;> (apply Fin.ext; dsimp only; omega)

theorem dq_arr (c : Dev nD) : (dats m 0 c).arrAt 6 cfg0.N = dqG m c := by
  refine (dats m 0 c).arrAt_eq_of_covers 6 _ (by decide +kernel) fun t hf y => ?_
  obtain ⟨k, j, rfl⟩ : ∃ (k : Fin 1024) (j : Fin 256), y = ix2 k j := ⟨y 0, y 1, eq_ix2 y⟩
  obtain ⟨u, e, rfl⟩ := col j
  have key := (dq_at m c t k u e).trans (dqG_eq m c ((win0_6.blk t).view.emb (ix2 k ⟨u.val * 128 + e.val, by omega⟩)) _ _ _ _
    (by blk_simp [idx t]; dsimp only [bOf, sOf]; omega) (by blk_simp [idx t]; dsimp only [hOf]; omega)).symm
  blk_simp
  rw [after0_6]
  exact key

theorem dk_arr (c : Dev nD) : (dats m 0 c).arrAt 7 cfg0.N = dkG m c := by
  refine (dats m 0 c).arrAt_eq_of_covers 7 _ (by decide +kernel) fun t hf y => ?_
  obtain ⟨k, j, rfl⟩ : ∃ (k : Fin 256) (j : Fin 256), y = ix2 k j := ⟨y 0, y 1, eq_ix2 y⟩
  obtain ⟨u, e, rfl⟩ := col j
  have h := (flush0_7 t).1 hf
  have key := (dk_at m c t h k u e).trans (dkG_eq m c ((win0_7.blk t).view.emb (ix2 k ⟨u.val * 128 + e.val, by omega⟩)) _ _ _ _
    (by blk_simp [idx t]; dsimp only [bOf, sOf]; omega) (by blk_simp [idx t]; dsimp only [hOf]; omega)).symm
  blk_simp
  rw [after0_7]
  exact key

theorem dv_arr (c : Dev nD) : (dats m 0 c).arrAt 8 cfg0.N = dvG m c := by
  refine (dats m 0 c).arrAt_eq_of_covers 8 _ (by decide +kernel) fun t hf y => ?_
  obtain ⟨k, j, rfl⟩ : ∃ (k : Fin 256) (j : Fin 256), y = ix2 k j := ⟨y 0, y 1, eq_ix2 y⟩
  obtain ⟨u, e, rfl⟩ := col j
  have h := (flush0_8 t).1 hf
  have key := (dv_at m c t h k u e).trans (dvG_eq m c ((win0_8.blk t).view.emb (ix2 k ⟨u.val * 128 + e.val, by omega⟩)) _ _ _ _
    (by blk_simp [idx t]; dsimp only [bOf, sOf]; omega) (by blk_simp [idx t]; dsimp only [hOf]; omega)).symm
  blk_simp
  rw [after0_8]
  exact key

end Cert.Kernel2Ideal.Value
-- ==== Proof.RowMax.lean ====
module

public import Idealize.ShloMosaic.Lib.Pointwise
public import proofs.«01_k».proof.Proof.Reals

@[expose] public section

/-! The largest entry of a row of reals is a real. -/

noncomputable section

open Idealize.ShloMosaic

namespace Cert.RowMax

/-- The word of minus infinity. -/
theorem cBot : Ideal.ofBits .f32 0xFF800000#32 = ⊥ := by simp [Ideal.ofBits, Ideal.ieee]

/-- The largest of finitely many reals, taken from minus infinity, is minus infinity or a real. -/
theorem fold_real {ι : Type} (s : Finset ι) (f : ι → EReal) (hf : ∀ i, ∃ y : ℝ, f i = (y : EReal)) :
    s.fold max ⊥ f = ⊥ ∧ s = ∅ ∨ ∃ y : ℝ, s.fold max ⊥ f = (y : EReal) := by
  classical
  induction s using Finset.induction_on with
  | empty => exact .inl ⟨by simp, rfl⟩
  | insert a s ha ih =>
    right
    rw [Finset.fold_insert ha]
    obtain ⟨x, hx⟩ := hf a
    rcases ih with ⟨h, _⟩ | ⟨y, hy⟩
    · exact ⟨x, by rw [h, hx]; simp⟩
    · exact ⟨max x y, by rw [hy, hx]; exact (EReal.coe_strictMono.monotone.map_max).symm⟩

/-- A host maximum over the last of four axes of an array of reals is a real. -/
theorem real {n0 n1 n2 n3 : ℕ} (hn : 0 < n3) (v : FVec Ideal ⟨4, ![n0, n1, n2, n3]⟩ .f32) (w : FVec Ideal ⟨0, ![]⟩ .f32)
    (hw : ∀ i, w i = ⊥) (h : (⟨4, ![n0, n1, n2, n3]⟩ : Shape).ReducesTo [3] ⟨3, ![n0, n1, n2]⟩)
    (hu : 0 < (⟨0, ![]⟩ : Shape).numel) (a : Fin n0) (b : Fin n1) (s : Fin n2)
    (hv : ∀ k, ∃ y : ℝ, v (ix4 a b s k) = (y : EReal)) :
    ∃ y : ℝ, Host.reduce FloatOps.maximumf v w h hu (ix3 a b s) = (y : EReal) := by
  have key : Host.reduce FloatOps.maximumf v w h hu (ix3 a b s) = Finset.univ.fold max (⊥ : EReal) fun k : Fin n3 => v (ix4 a b s k) := by
    simp only [pointwise]
    rw [hw]
  rw [key]
  rcases fold_real Finset.univ _ hv with ⟨_, h0⟩ | h0
  · exact absurd h0 (Finset.univ_nonempty_iff.2 ⟨⟨0, hn⟩⟩).ne_empty
  · exact h0

end Cert.RowMax
-- ==== Proof.MemReference.lean ====
module

public import proofs.«01_k».proof.Proof.Gen.Reference2Ideal.Run
public import proofs.«01_k».proof.Proof.RowMax
public import Idealize.ShloMosaic.Lib.Pointwise

@[expose] public section

set_option maxRecDepth 16384

/-! The reference's gradients of the memory attention, read at an index. -/

noncomputable section

open Idealize.ShloMosaic Idealize.ShloMosaic.TcCoe Idealize.SL.Sem

namespace Cert.Reference2Ideal.Value
open Cert.Reference2Ideal Cert.Reference2Ideal.Gen

variable (A0 : FVec Ideal S2x2048x512 .f32) (A1 : FVec Ideal S2x256x1024 .f32) (A2 : FVec Ideal S2x2048x512 .f32)

/-! ## The arrays of the derivative, one by one -/

/-- The queries, the memory's keys and values, and the cotangent. -/
def xq : FVec Ideal S2x2048x4x128 .f32 := shapeCast _ A0 shapeCasts_S2x2048x512_S2x2048x4x128
def xk : FVec Ideal S2x256x4x128 .f32 :=
  shapeCast _ (extractStridedSlice S2x256x512 ![0, 0, 0] A1 slices_S2x256x1024_S2x256x512_0_0_0) shapeCasts_S2x256x512_S2x256x4x128
def xv : FVec Ideal S2x256x4x128 .f32 :=
  shapeCast _ (extractStridedSlice S2x256x512 ![0, 0, 512] A1 slices_S2x256x1024_S2x256x512_0_0_512) shapeCasts_S2x256x512_S2x256x4x128
def xd : FVec Ideal S2x4x128x2048 .f32 :=
  transpose S2x4x128x2048 [0, 2, 3, 1] (shapeCast _ A2 shapeCasts_S2x2048x512_S2x2048x4x128) transposes_S2x2048x4x128_S2x4x128x2048_0_2_3_1

/-- The root the scores are divided by. -/
def root : FVec Ideal S2x4x2048x256 .f32 := broadcastInDim S2x4x2048x256 ![] bcast_S_S2x4x2048x256 (Host.sqrt (constant S_ .f32 0x43000000#32))

/-- The scores, their largest of a row, and the numerators and denominators of softmax. -/
def score : FVec Ideal S2x4x2048x256 .f32 :=
  Host.divf (Host.dotGeneral dot_S2x2048x4x128_S2x256x4x128_S2x4x2048x256_3_3_1_1_02_02 none (xq A0) (xk A1)) root
def red : FVec Ideal S2x4x2048 .f32 :=
  Host.reduce FloatOps.maximumf (score A0 A1) (constant S_ .f32 0xFF800000#32) reducesTo_S2x4x2048x256_S2x4x2048_d3 h_S_
def top : FVec Ideal S2x4x2048 .f32 := maximumf (broadcastInDim S2x4x2048 ![] bcast_S_S2x4x2048 (constant S_ .f32 0xFF800000#32)) (red A0 A1)
def ex : FVec Ideal S2x4x2048x256 .f32 :=
  Host.exp (subf (score A0 A1) (broadcastInDim S2x4x2048x256 ![0, 1, 2, 3] bcast_S2x4x2048x1_S2x4x2048x256_0_1_2_3
    (broadcastInDim S2x4x2048x1 ![0, 1, 2] bcast_S2x4x2048_S2x4x2048x1_0_1_2 (top A0 A1))))
def den : FVec Ideal S2x4x2048x1 .f32 :=
  broadcastInDim S2x4x2048x1 ![0, 1, 2] bcast_S2x4x2048_S2x4x2048x1_0_1_2
    (Host.reduceAdd (ex A0 A1) (constant S_ .f32 0x00000000#32) reducesTo_S2x4x2048x256_S2x4x2048_d3 h_S_)

/-- The products of the cotangent with the values. -/
def dpv : FVec Ideal S2x4x2048x256 .f32 := Host.dotGeneral dot_S2x4x128x2048_S2x256x4x128_S2x4x2048x256_2_3_3_1_01_02 none (xd A2) (xv A1)

/-- The scores' cotangent, of the arrays it is made of. -/
def dscOf (P E : FVec Ideal S2x4x2048x256 .f32) (D : FVec Ideal S2x4x2048x1 .f32) : FVec Ideal S2x4x2048x256 .f32 :=
  Host.divf (mulf (addf (Host.divf P (broadcastInDim S2x4x2048x256 ![0, 1, 2, 3] bcast_S2x4x2048x1_S2x4x2048x256_0_1_2_3 D))
    (broadcastInDim S2x4x2048x256 ![0, 1, 2] bcast_S2x4x2048_S2x4x2048x256_0_1_2 (Host.reduceAdd (Host.negf (shapeCast _ (Host.reduceAdd
      (mulf (mulf P (broadcastInDim S2x4x2048x256 ![0, 1, 2, 3] bcast_S2x4x2048x1_S2x4x2048x256_0_1_2_3
        (Host.divf (broadcastInDim S2x4x2048x1 ![] bcast_S_S2x4x2048x1 (constant S_ .f32 0x3F800000#32)) (mulf D D)))) E)
        (constant S_ .f32 0x00000000#32) reducesTo_S2x4x2048x256_S2x4x2048_d3 h_S_) shapeCasts_S2x4x2048_S2x4x2048x1))
      (constant S_ .f32 0x00000000#32) reducesTo_S2x4x2048x1_S2x4x2048_d3 h_S_))) E) root
def dsc : FVec Ideal S2x4x2048x256 .f32 := dscOf (dpv A1 A2) (ex A0 A1) (den A0 A1)

/-- The three results. -/
def out0 : FVec Ideal S4096x512 .bf16 :=
  truncf .bf16 (shapeCast _ (shapeCast _ (transpose S2x2048x4x128 [0, 2, 1, 3] (Host.dotGeneral (so := S2x4x2048x128) dot_S2x4x2048x256_S2x256x4x128_S2x4x2048x128_3_1_2_3_01_02 none
    (dsc A0 A1 A2) (xk A1) : FVec Ideal S2x4x2048x128 .f32) transposes_S2x4x2048x128_S2x2048x4x128_0_2_1_3) shapeCasts_S2x2048x4x128_S2x2048x512) shapeCasts_S2x2048x512_S4096x512) bitsLt_bf16_f32
def out1 : FVec Ideal S512x512 .bf16 :=
  truncf .bf16 (shapeCast _ (shapeCast _ (transpose S2x256x4x128 [0, 2, 1, 3] (Host.dotGeneral dot_S2x4x2048x256_S2x2048x4x128_S2x4x256x128_2_1_3_3_01_02 none
    (dsc A0 A1 A2) (xq A0) : FVec Ideal S2x4x256x128 .f32) transposes_S2x4x256x128_S2x256x4x128_0_2_1_3) shapeCasts_S2x256x4x128_S2x256x512) shapeCasts_S2x256x512_S512x512) bitsLt_bf16_f32
def out2 : FVec Ideal S512x512 .bf16 :=
  truncf .bf16 (shapeCast _ (shapeCast _ (transpose S2x256x4x128 [0, 3, 1, 2] (Host.dotGeneral dot_S2x4x128x2048_S2x4x2048x256_S2x4x128x256_3_2_2_3_01_01 none
    (xd A2) (Host.divf (ex A0 A1) (broadcastInDim S2x4x2048x256 ![0, 1, 2, 3] bcast_S2x4x2048x1_S2x4x2048x256_0_1_2_3 (den A0 A1))) : FVec Ideal S2x4x128x256 .f32)
    transposes_S2x4x128x256_S2x256x4x128_0_3_1_2) shapeCasts_S2x256x4x128_S2x256x512) shapeCasts_S2x256x512_S512x512) bitsLt_bf16_f32

theorem res0 (m : (ℓ : Loc nD τ sig) → Buf (Elt Ideal) ℓ) (c : Dev nD) : res_main_v67 m c =
    out0 (m ((c.tc : Thread nD τ).loc main_arg0)) (m ((c.tc : Thread nD τ).loc main_arg1)) (m ((c.tc : Thread nD τ).loc main_arg2)) := by
  unfold res_main_v67 out0 dsc dscOf dpv den ex top red score root xq xk xv xd
  rfl
theorem res1 (m : (ℓ : Loc nD τ sig) → Buf (Elt Ideal) ℓ) (c : Dev nD) : res_main_v69 m c =
    out1 (m ((c.tc : Thread nD τ).loc main_arg0)) (m ((c.tc : Thread nD τ).loc main_arg1)) (m ((c.tc : Thread nD τ).loc main_arg2)) := by
  unfold res_main_v69 out1 dsc dscOf dpv den ex top red score root xq xk xv xd
  rfl

/-! ## At an index -/

def rq (b : Fin 2) (h : Fin 4) (s : Fin 2048) (e : Fin 128) : EReal := A0 (ix3 b s ⟨h.val * 128 + e.val, by omega⟩)
def rk (b : Fin 2) (h : Fin 4) (k : Fin 256) (e : Fin 128) : EReal := A1 (ix3 b k ⟨h.val * 128 + e.val, by omega⟩)
def rv (b : Fin 2) (h : Fin 4) (k : Fin 256) (e : Fin 128) : EReal := A1 (ix3 b k ⟨512 + (h.val * 128 + e.val), by omega⟩)
def rd (b : Fin 2) (h : Fin 4) (s : Fin 2048) (e : Fin 128) : EReal := A2 (ix3 b s ⟨h.val * 128 + e.val, by omega⟩)

/-- The root of 128. -/
def cR : EReal := Ideal.sqrt (Ideal.ofBits .f32 0x43000000#32)

theorem xq_at (b : Fin 2) (h : Fin 4) (s : Fin 2048) (e : Fin 128) : (xq A0 (ix4 b s h e) : EReal) = rq A0 b h s e := by
  pointwise [xq]; rfl
theorem xk_at (b : Fin 2) (h : Fin 4) (k : Fin 256) (e : Fin 128) : (xk A1 (ix4 b k h e) : EReal) = rk A1 b h k e := by
  pointwise [xk]; rfl
theorem xv_at (b : Fin 2) (h : Fin 4) (k : Fin 256) (e : Fin 128) : (xv A1 (ix4 b k h e) : EReal) = rv A1 b h k e := by
  pointwise [xv]; rfl
theorem xd_at (b : Fin 2) (h : Fin 4) (s : Fin 2048) (e : Fin 128) : (xd A2 (ix4 b h e s) : EReal) = rd A2 b h s e := by
  pointwise [xd]; rfl
theorem root_at (b : Fin 2) (h : Fin 4) (s : Fin 2048) (k : Fin 256) : (root (ix4 b h s k) : EReal) = cR := rfl

def rs (b : Fin 2) (h : Fin 4) (s : Fin 2048) (k : Fin 256) : EReal := Ideal.div (∑ e, rq A0 b h s e * rk A1 b h k e) cR
theorem score_at (b : Fin 2) (h : Fin 4) (s : Fin 2048) (k : Fin 256) : (score A0 A1 (ix4 b h s k) : EReal) = rs A0 A1 b h s k := by
  unfold score rs
  rw [← root_at b h s k]
  simp only [← xq_at, ← xk_at]
  generalize xq A0 = X
  generalize xk A1 = Y
  generalize root = Z
  pointwise

def rt (b : Fin 2) (h : Fin 4) (s : Fin 2048) : EReal := top A0 A1 (ix3 b h s)
theorem top_form (X : FVec Ideal S2x4x2048 .f32) (i : S2x4x2048.Idx) :
    (maximumf (broadcastInDim S2x4x2048 ![] bcast_S_S2x4x2048 (constant S_ .f32 0xFF800000#32)) X i : EReal)
      = max (Ideal.ofBits .f32 0xFF800000#32) (X i : EReal) := rfl
theorem rt_eq (b : Fin 2) (h : Fin 4) (s : Fin 2048) : rt A0 A1 b h s = max ⊥ (red A0 A1 (ix3 b h s)) := by
  rw [← RowMax.cBot]
  exact top_form (red A0 A1) (ix3 b h s)

def rx (b : Fin 2) (h : Fin 4) (s : Fin 2048) (k : Fin 256) : EReal := Ideal.exp (rs A0 A1 b h s k - rt A0 A1 b h s)
theorem ex_at (b : Fin 2) (h : Fin 4) (s : Fin 2048) (k : Fin 256) : (ex A0 A1 (ix4 b h s k) : EReal) = rx A0 A1 b h s k := by
  unfold ex rx rt
  rw [← score_at]
  generalize score A0 A1 = X
  generalize top A0 A1 = Y
  pointwise

theorem den_at (b : Fin 2) (h : Fin 4) (s : Fin 2048) (z : Fin 1) : (den A0 A1 (ix4 b h s z) : EReal) = ∑ k, rx A0 A1 b h s k := by
  unfold den
  simp only [← ex_at]
  generalize ex A0 A1 = X
  pointwise

theorem dpv_at (b : Fin 2) (h : Fin 4) (s : Fin 2048) (k : Fin 256) : (dpv A1 A2 (ix4 b h s k) : EReal) = ∑ e, rd A2 b h s e * rv A1 b h k e := by
  unfold dpv
  simp only [← xd_at, ← xv_at]
  generalize xd A2 = X
  generalize xv A1 = Y
  pointwise

theorem dscOf_at (P E : FVec Ideal S2x4x2048x256 .f32) (D : FVec Ideal S2x4x2048x1 .f32) (b : Fin 2) (h : Fin 4) (s : Fin 2048) (k : Fin 256) :
    (dscOf P E D (ix4 b h s k) : EReal) = Ideal.div ((Ideal.div (P (ix4 b h s k)) (D (ix4 b h s 0))
      + ∑ _i : Fin 1, -∑ l, P (ix4 b h s l) * Ideal.div 1 (D (ix4 b h s 0) * D (ix4 b h s 0)) * E (ix4 b h s l)) * E (ix4 b h s k)) cR := by
  unfold dscOf
  rw [← root_at b h s k]
  generalize root = Z
  pointwise

def rds (b : Fin 2) (h : Fin 4) (s : Fin 2048) (k : Fin 256) : EReal :=
  Ideal.div ((Ideal.div (∑ e, rd A2 b h s e * rv A1 b h k e) (∑ k, rx A0 A1 b h s k)
    + ∑ _i : Fin 1, -∑ l, (∑ e, rd A2 b h s e * rv A1 b h l e) * Ideal.div 1 ((∑ k, rx A0 A1 b h s k) * ∑ k, rx A0 A1 b h s k) * rx A0 A1 b h s l) * rx A0 A1 b h s k) cR
theorem dsc_at (b : Fin 2) (h : Fin 4) (s : Fin 2048) (k : Fin 256) : (dsc A0 A1 A2 (ix4 b h s k) : EReal) = rds A0 A1 A2 b h s k := by
  unfold dsc
  rw [dscOf_at, den_at]
  simp only [dpv_at, ex_at]
  rfl

theorem out0_at (b : Fin 2) (h : Fin 4) (s : Fin 2048) (e : Fin 128) :
    (out0 A0 A1 A2 (ix2 ⟨b.val * 2048 + s.val, by omega⟩ ⟨h.val * 128 + e.val, by omega⟩) : EReal) = ∑ k, rds A0 A1 A2 b h s k * rk A1 b h k e := by
  unfold out0
  simp only [← dsc_at, ← xk_at]
  generalize dsc A0 A1 A2 = X
  generalize xk A1 = Y
  pointwise

theorem out1_at (b : Fin 2) (h : Fin 4) (k : Fin 256) (e : Fin 128) :
    (out1 A0 A1 A2 (ix2 ⟨b.val * 256 + k.val, by omega⟩ ⟨h.val * 128 + e.val, by omega⟩) : EReal) = ∑ s, rds A0 A1 A2 b h s k * rq A0 b h s e := by
  unfold out1
  simp only [← dsc_at, ← xq_at]
  generalize dsc A0 A1 A2 = X
  generalize xq A0 = Y
  pointwise

theorem out2_form (X : FVec Ideal S2x4x2048x1 .f32) (Y : FVec Ideal S2x4x128x2048 .f32) (Z : FVec Ideal S2x4x2048x256 .f32)
    (b : Fin 2) (h : Fin 4) (k : Fin 256) (e : Fin 128) :
    (truncf .bf16 (shapeCast S512x512 (shapeCast S2x256x512 (transpose S2x256x4x128 [0, 3, 1, 2] (Host.dotGeneral dot_S2x4x128x2048_S2x4x2048x256_S2x4x128x256_3_2_2_3_01_01 none
      Y (Host.divf Z (broadcastInDim S2x4x2048x256 ![0, 1, 2, 3] bcast_S2x4x2048x1_S2x4x2048x256_0_1_2_3 X)) : FVec Ideal S2x4x128x256 .f32)
      transposes_S2x4x128x256_S2x256x4x128_0_3_1_2) shapeCasts_S2x256x4x128_S2x256x512) shapeCasts_S2x256x512_S512x512) bitsLt_bf16_f32
        (ix2 ⟨b.val * 256 + k.val, by omega⟩ ⟨h.val * 128 + e.val, by omega⟩) : EReal)
      = ∑ s, Y (ix4 b h e s) * Ideal.div (Z (ix4 b h s k)) (X (ix4 b h s 0)) := by
  pointwise

theorem out2_at (b : Fin 2) (h : Fin 4) (k : Fin 256) (e : Fin 128) :
    (out2 A0 A1 A2 (ix2 ⟨b.val * 256 + k.val, by omega⟩ ⟨h.val * 128 + e.val, by omega⟩) : EReal)
      = ∑ s, rd A2 b h s e * Ideal.div (rx A0 A1 b h s k) (∑ l, rx A0 A1 b h s l) := by
  refine (out2_form _ _ _ b h k e).trans ?_
  simp only [den_at, xd_at, ex_at]

end Cert.Reference2Ideal.Value
-- ==== Proof.AttnMath.lean ====
module

public import proofs.«01_k».proof.Proof.Reals

@[expose] public section

/-! Softmax attention over the reals: what the saved row log-sum and output stand for, and the gradients written with them. -/

noncomputable section

open Idealize.ShloMosaic

namespace Cert.AttnMath
open Cert.Reals

variable {K : Type} [Fintype K]

/-- The softmax weight of entry `k` of a row of scores. -/
def soft (x : K → ℝ) (k : K) : ℝ := Real.exp (x k) / ∑ j, Real.exp (x j)

theorem sum_pos [Nonempty K] (x : K → ℝ) : 0 < ∑ j, Real.exp (x j) :=
  Finset.sum_pos (fun _ _ => Real.exp_pos _) Finset.univ_nonempty

/-- Softmax does not change when the same number is taken from every score. -/
theorem soft_shift [Nonempty K] (x : K → ℝ) (M : ℝ) (k : K) : Real.exp (x k - M) / ∑ j, Real.exp (x j - M) = soft x k := by
  have h : ∑ j, Real.exp (x j - M) = (∑ j, Real.exp (x j)) / Real.exp M := by
    rw [Finset.sum_div]; exact Finset.sum_congr rfl fun j _ => Real.exp_sub _ _
  rw [h, Real.exp_sub, soft]
  have h1 := (sum_pos x).ne'
  have h2 := (Real.exp_pos M).ne'
  field_simp

theorem log2_pos : 0 < Real.log 2 := Real.log_pos (by norm_num)

/-- The word of two and the host's logarithm of it. -/
theorem log_two : Ideal.log (Ideal.ofBits .f32 0x40000000#32) = ((Real.log 2 : ℝ) : EReal) := by
  rw [cTwo, Ideal.log_coe, if_neg (by norm_num)]

/-- A power of two is an exponential. -/
theorem exp2_real (r : ℝ) : Ideal.exp2 (r : EReal) = ((Real.exp (r * Real.log 2) : ℝ) : EReal) := by
  rw [Ideal.exp2_coe]
  congr 1
  show (2 : ℝ) ^ r = _
  rw [Real.rpow_def_of_pos (by norm_num), mul_comm]

variable [Nonempty K]

/-- The saved numerators: the host takes them to the base e. -/
theorem num_real (x : K → ℝ) (M : ℝ) (S : K → EReal) (hS : ∀ k, S k = ((x k / Real.log 2 : ℝ) : EReal)) (k : K) :
    Ideal.exp ((S k - (M : EReal)) * Ideal.log (Ideal.ofBits .f32 0x40000000#32))
      = ((Real.exp (x k - M * Real.log 2) : ℝ) : EReal) := by
  rw [hS, log_two, ← EReal.coe_sub, ← EReal.coe_mul, Ideal.exp_coe]
  congr 2
  have := log2_pos.ne'
  field_simp

/-- The saved denominator. -/
theorem den_real (x : K → ℝ) (M : ℝ) (S : K → EReal) (hS : ∀ k, S k = ((x k / Real.log 2 : ℝ) : EReal)) :
    (∑ k, Ideal.exp ((S k - (M : EReal)) * Ideal.log (Ideal.ofBits .f32 0x40000000#32)))
      = ((∑ k, Real.exp (x k - M * Real.log 2) : ℝ) : EReal) := by
  rw [← coe_sum]
  exact Finset.sum_congr rfl fun k _ => num_real x M S hS k

/-- The saved output of one lane is the softmax average. -/
theorem out_real (x : K → ℝ) (v : K → ℝ) (M : ℝ) (S : K → EReal) (hS : ∀ k, S k = ((x k / Real.log 2 : ℝ) : EReal)) :
    Ideal.div (∑ k, (v k : EReal) * Ideal.exp ((S k - (M : EReal)) * Ideal.log (Ideal.ofBits .f32 0x40000000#32)))
      (∑ k, Ideal.exp ((S k - (M : EReal)) * Ideal.log (Ideal.ofBits .f32 0x40000000#32)))
      = ((∑ k, soft x k * v k : ℝ) : EReal) := by
  rw [den_real x M S hS]
  simp only [num_real x M S hS, ← EReal.coe_mul, coe_sum]
  rw [div_real _ _ (sum_pos _).ne']
  congr 1
  rw [Finset.sum_div]
  refine Finset.sum_congr rfl fun k _ => ?_
  rw [← soft_shift x (M * Real.log 2)]
  ring

/-- The weight the backward pass rebuilds from the saved row log-sum is the softmax weight. -/
theorem prob_real (x : K → ℝ) (M : ℝ) (S : K → EReal) (hS : ∀ k, S k = ((x k / Real.log 2 : ℝ) : EReal)) (k : K) :
    Ideal.exp2 (S k - ((M : EReal) + Ideal.div (Ideal.log (∑ k, Ideal.exp ((S k - (M : EReal)) * Ideal.log (Ideal.ofBits .f32 0x40000000#32))))
      (Ideal.log (Ideal.ofBits .f32 0x40000000#32)))) = ((soft x k : ℝ) : EReal) := by
  rw [den_real x M S hS, hS, log_two, Ideal.log_coe, if_neg (sum_pos _).not_ge, div_real _ _ log2_pos.ne', ← EReal.coe_add,
    ← EReal.coe_sub, exp2_real]
  congr 1
  rw [← soft_shift x (M * Real.log 2)]
  have h := sum_pos fun k => x k - M * Real.log 2
  have h2 := log2_pos.ne'
  rw [show (x k / Real.log 2 - (M + Real.log (∑ k, Real.exp (x k - M * Real.log 2)) / Real.log 2)) * Real.log 2
    = x k - M * Real.log 2 - Real.log (∑ k, Real.exp (x k - M * Real.log 2)) by field_simp; ring, Real.exp_sub, Real.exp_log h]

/-- The reference's softmax weight. -/
theorem ref_soft (x : K → ℝ) (M : ℝ) (k : K) :
    Ideal.div (Ideal.exp ((x k : EReal) - (M : EReal))) (∑ j, Ideal.exp ((x j : EReal) - (M : EReal))) = ((soft x k : ℝ) : EReal) := by
  simp only [← EReal.coe_sub, Ideal.exp_coe, coe_sum]
  rw [div_real _ _ (sum_pos _).ne', soft_shift]

/-- The cotangent of a score: the softmax weight times what its value's product exceeds the average by. -/
def dscore (x dp : K → ℝ) (k : K) : ℝ := soft x k * (dp k - ∑ j, soft x j * dp j)

/-- The derivative of softmax that the reference composes, divided by the root it scales by. -/
theorem ref_dscore (x dp : K → ℝ) (M r : ℝ) (hr : r ≠ 0) (k : K) :
    Ideal.div ((Ideal.div (dp k : EReal) (∑ j, Ideal.exp ((x j : EReal) - (M : EReal)))
        + ∑ _i : Fin 1, -∑ l, (dp l : EReal) * Ideal.div 1 ((∑ j, Ideal.exp ((x j : EReal) - (M : EReal))) * ∑ j, Ideal.exp ((x j : EReal) - (M : EReal)))
            * Ideal.exp ((x l : EReal) - (M : EReal)))
        * Ideal.exp ((x k : EReal) - (M : EReal))) (r : EReal)
      = ((dscore x dp k / r : ℝ) : EReal) := by
  simp only [← EReal.coe_sub, Ideal.exp_coe, coe_sum, ← EReal.coe_mul]
  have hD := sum_pos fun j => x j - M
  rw [show (1 : EReal) = ((1 : ℝ) : EReal) from rfl, div_real _ _ hD.ne', div_real _ _ (mul_pos hD hD).ne']
  simp only [← EReal.coe_mul, coe_sum, ← EReal.coe_neg, ← EReal.coe_add]
  rw [Fin.sum_univ_one, div_real _ _ hr]
  congr 2
  rw [dscore, ← soft_shift x M]
  simp only [← soft_shift x M]
  rw [show ∑ j, Real.exp (x j - M) / (∑ i, Real.exp (x i - M)) * dp j = (∑ j, Real.exp (x j - M) * dp j) / ∑ i, Real.exp (x i - M) by
    rw [Finset.sum_div]; exact Finset.sum_congr rfl fun j _ => by ring]
  rw [show ∑ l, dp l * (1 / ((∑ j, Real.exp (x j - M)) * ∑ j, Real.exp (x j - M))) * Real.exp (x l - M)
    = (∑ j, Real.exp (x j - M) * dp j) / ((∑ i, Real.exp (x i - M)) * ∑ i, Real.exp (x i - M)) by
    rw [Finset.sum_div]; exact Finset.sum_congr rfl fun j _ => by ring]
  have h0 := hD.ne'
  generalize ∑ j, Real.exp (x j - M) = D at h0 ⊢
  field_simp
  ring

/-- The row sum of output times cotangent is the softmax average of the cotangent's products with the values. -/
theorem delta_eq {E : Type} [Fintype E] (p : K → ℝ) (v : K → E → ℝ) (d : E → ℝ) :
    ∑ e, d e * ∑ k, p k * v k e = ∑ k, p k * ∑ e, d e * v k e := by
  simp only [Finset.mul_sum]
  rw [Finset.sum_comm]
  exact Finset.sum_congr rfl fun k _ => Finset.sum_congr rfl fun e _ => by ring

omit [Nonempty K] in
/-- Scaling after the sum or before it. -/
theorem scale_after (r : ℝ) (ds y : K → ℝ) : (∑ k, ds k * y k) * r⁻¹ = ∑ k, ds k / r * y k := by
  rw [Finset.sum_mul]
  exact Finset.sum_congr rfl fun k _ => by rw [div_eq_mul_inv]; ring

omit [Nonempty K] in
/-- The same where the other factor was scaled beforehand, by the root and the logarithm of two. -/
theorem scale_before (r : ℝ) (ds y : K → ℝ) : (∑ k, ds k * (y k * (1 / (r * Real.log 2)))) * Real.log 2 = ∑ k, ds k / r * y k := by
  rw [Finset.sum_mul]
  refine Finset.sum_congr rfl fun k _ => ?_
  have h := log2_pos.ne'
  rw [one_div, mul_inv, div_eq_mul_inv]
  field_simp

end Cert.AttnMath
-- ==== Proof.MemReal.lean ====
module

public import proofs.«01_k».proof.Proof.MemFold
public import proofs.«01_k».proof.Proof.MemReference
public import proofs.«01_k».proof.Proof.AttnMath

@[expose] public section

set_option maxRecDepth 16384

/-! The memory attention's gradients where the arguments are real: the kernel's and the reference's are the same reals. -/

noncomputable section

open Idealize.ShloMosaic Idealize.ShloMosaic.TcCoe Idealize.SL.Sem

namespace Cert.Mem
open Cert.Reals Cert.AttnMath

/-- The root the scores are divided by. -/
def rt : ℝ := Real.sqrt 128
theorem rt_ne : rt ≠ 0 := (Real.sqrt_pos.2 (by norm_num)).ne'

theorem c128 : Ideal.ofBits .f32 0x43000000#32 = ((128 : ℝ) : EReal) := by
  simp [Ideal.ofBits, Ideal.ieee, -EReal.coe_mul]; norm_num
theorem root_real : Ideal.sqrt (Ideal.ofBits .f32 0x43000000#32) = ((rt : ℝ) : EReal) := by
  rw [c128, Ideal.sqrt_coe, if_neg (by norm_num)]; rfl

/-- The factor of the queries. -/
theorem qs_real : Kernel2Ideal.Value.qs = ((1 / (rt * Real.log 2) : ℝ) : EReal) := by
  unfold Kernel2Ideal.Value.qs
  rw [root_real, log_two, ← EReal.coe_mul, show (1 : EReal) = ((1 : ℝ) : EReal) from rfl, div_real _ _ (mul_ne_zero rt_ne log2_pos.ne')]

variable (q d : Fin 2 → Fin 4 → Fin 2048 → Fin 128 → ℝ) (k v : Fin 2 → Fin 4 → Fin 256 → Fin 128 → ℝ)

/-- The scores of a row, the products of its cotangent with the values, the softmax weights and the scores' cotangents. -/
def x (b : Fin 2) (h : Fin 4) (s : Fin 2048) (j : Fin 256) : ℝ := (∑ e, q b h s e * k b h j e) / rt
def dp (b : Fin 2) (h : Fin 4) (s : Fin 2048) (j : Fin 256) : ℝ := ∑ e, d b h s e * v b h j e

/-! ## The kernel -/
section Kernel
open Cert.Kernel2Ideal Cert.Kernel2Ideal.Value
variable (m : (ℓ : Loc nD τ sig) → Buf (Elt Ideal) ℓ) (c : Dev nD)

/-- The arguments are these reals. -/
structure Args : Prop where
  q : ∀ b h s e, aq m c b h s e = ((q b h s e : ℝ) : EReal)
  k : ∀ b h s e, ak m c b h s e = ((k b h s e : ℝ) : EReal)
  v : ∀ b h s e, av m c b h s e = ((v b h s e : ℝ) : EReal)
  d : ∀ b h s e, ad m c b h s e = ((d b h s e : ℝ) : EReal)

variable {q d k v m c} (A : Args q d k v m c)
include A

theorem sc_real (b : Fin 2) (h : Fin 4) (s : Fin 2048) (j : Fin 256) : sc m c b h s j = ((x q k b h s j / Real.log 2 : ℝ) : EReal) := by
  unfold sc
  simp only [A.q, A.k, qs_real, ← EReal.coe_mul, coe_sum]
  congr 1
  rw [x, Finset.sum_div, Finset.sum_div]
  refine Finset.sum_congr rfl fun e _ => ?_
  have h1 := rt_ne
  have h2 := log2_pos.ne'
  field_simp

theorem mx_real (b : Fin 2) (h : Fin 4) (s : Fin 2048) : ∃ M : ℝ, mx m c b h s = (M : EReal) := by
  unfold mx
  exact RowMax.real (by norm_num) (scArr m c) _ (fun _ => RowMax.cBot) _ _ b s h fun j => ⟨_, (sc_at m c b h s j).trans (sc_real A b h s j)⟩

theorem pw_real (b : Fin 2) (h : Fin 4) (s : Fin 2048) (j : Fin 256) : pw m c b h s j = ((soft (x q k b h s) j : ℝ) : EReal) := by
  obtain ⟨M, hM⟩ := mx_real A b h s
  have e : ∑ e, aq m c b h s e * qs * ak m c b h j e = sc m c b h s j := Finset.sum_congr rfl fun e _ => mul_comm _ _
  unfold pw lseV pt
  rw [e, hM]
  exact prob_real (x q k b h s) M (sc m c b h s) (sc_real A b h s) j

theorem o_real (b : Fin 2) (h : Fin 4) (s : Fin 2048) (e : Fin 128) : oV m c b h s e = ((∑ j, soft (x q k b h s) j * v b h j e : ℝ) : EReal) := by
  obtain ⟨M, hM⟩ := mx_real A b h s
  unfold oV pt
  rw [hM]
  simp only [A.v]
  exact out_real (x q k b h s) (fun j => v b h j e) M (sc m c b h s) (sc_real A b h s)

theorem dw_real (b : Fin 2) (h : Fin 4) (s : Fin 2048) (j : Fin 256) : dw m c b h s j = ((dscore (x q k b h s) (dp d v b h s) j : ℝ) : EReal) := by
  unfold dw
  simp only [pw_real A, o_real A, A.d, A.v, ← EReal.coe_mul, coe_sum, ← EReal.coe_sub]
  rw [delta_eq]
  rfl

theorem dq_real (b : Fin 2) (h : Fin 4) (s : Fin 2048) (e : Fin 128) :
    dqV m c b h s e = ((∑ j, dscore (x q k b h s) (dp d v b h s) j / rt * k b h j e : ℝ) : EReal) := by
  unfold dqV
  rw [show cS = ((rt⁻¹ : ℝ) : EReal) from rfl]
  simp only [dw_real A, A.k, ← EReal.coe_mul, coe_sum]
  rw [scale_after]

theorem dk_real (b : Fin 2) (h : Fin 4) (j : Fin 256) (e : Fin 128) :
    dkV m c b h j e = ((∑ s, dscore (x q k b h s) (dp d v b h s) j / rt * q b h s e : ℝ) : EReal) := by
  unfold dkV
  rw [show cL = ((Real.log 2 : ℝ) : EReal) from rfl]
  simp only [dw_real A, A.q, qs_real, ← EReal.coe_mul, coe_sum]
  rw [scale_before rt (fun s => dscore (x q k b h s) (dp d v b h s) j) fun s => q b h s e]

theorem dv_real (b : Fin 2) (h : Fin 4) (j : Fin 256) (e : Fin 128) :
    dvV m c b h j e = ((∑ s, soft (x q k b h s) j * d b h s e : ℝ) : EReal) := by
  unfold dvV
  simp only [pw_real A, A.d, ← EReal.coe_mul, coe_sum]

end Kernel

/-! ## The reference -/
section Reference
open Cert.Reference2Ideal Cert.Reference2Ideal.Value
variable (A0 : FVec Ideal S2x2048x512 .f32) (A1 : FVec Ideal S2x256x1024 .f32) (A2 : FVec Ideal S2x2048x512 .f32)

/-- The arguments are these reals. -/
structure RefArgs : Prop where
  q : ∀ b h s e, rq A0 b h s e = ((q b h s e : ℝ) : EReal)
  k : ∀ b h s e, rk A1 b h s e = ((k b h s e : ℝ) : EReal)
  v : ∀ b h s e, rv A1 b h s e = ((v b h s e : ℝ) : EReal)
  d : ∀ b h s e, rd A2 b h s e = ((d b h s e : ℝ) : EReal)

variable {q d k v A0 A1 A2} (A : RefArgs q d k v A0 A1 A2)
include A

theorem rs_real (b : Fin 2) (h : Fin 4) (s : Fin 2048) (j : Fin 256) : rs A0 A1 b h s j = ((x q k b h s j : ℝ) : EReal) := by
  unfold rs cR
  rw [root_real]
  simp only [A.q, A.k, ← EReal.coe_mul, coe_sum]
  rw [div_real _ _ rt_ne]
  rfl

theorem rt_real (b : Fin 2) (h : Fin 4) (s : Fin 2048) : ∃ M : ℝ, Value.rt A0 A1 b h s = (M : EReal) := by
  obtain ⟨M, hM⟩ : ∃ M : ℝ, red A0 A1 (ix3 b h s) = (M : EReal) :=
    RowMax.real (by norm_num) (score A0 A1) _ (fun _ => RowMax.cBot) _ _ b h s fun j => ⟨_, (score_at A0 A1 b h s j).trans (rs_real A b h s j)⟩
  exact ⟨M, by rw [rt_eq, hM]; simp⟩

theorem soft_real (b : Fin 2) (h : Fin 4) (s : Fin 2048) (j : Fin 256) :
    Ideal.div (rx A0 A1 b h s j) (∑ l, rx A0 A1 b h s l) = ((soft (x q k b h s) j : ℝ) : EReal) := by
  obtain ⟨M, hM⟩ := rt_real A b h s
  unfold rx
  simp only [rs_real A, hM]
  exact ref_soft (x q k b h s) M j

theorem rds_real (b : Fin 2) (h : Fin 4) (s : Fin 2048) (j : Fin 256) :
    rds A0 A1 A2 b h s j = ((dscore (x q k b h s) (dp d v b h s) j / rt : ℝ) : EReal) := by
  obtain ⟨M, hM⟩ := rt_real A b h s
  unfold rds rx cR
  have hd : ∀ j, ∑ e, rd A2 b h s e * rv A1 b h j e = ((dp d v b h s j : ℝ) : EReal) := fun j => by
    simp only [A.d, A.v, ← EReal.coe_mul, coe_sum]; rfl
  simp only [hd, rs_real A, hM, root_real]
  exact ref_dscore (x q k b h s) (dp d v b h s) M _ rt_ne j

end Reference

end Cert.Mem
-- ==== Proof.MemPre.lean ====
module

public import proofs.«01_k».proof.Pre_fin2
public import proofs.«01_k».proof.Proof.Reals

@[expose] public section

/-! The memory attention's precondition read: its argument arrays are arrays of reals. -/

noncomputable section

namespace Cert.Pre_fin2

open Idealize.ShloMosaic Cert.Reals

instance facts : Cert.Pre_fin2.Facts := by constructor <;> decide

/-- Where the precondition holds, every argument is real. -/
theorem reals (q : FVec Ideal S2x2048x512 .f32) (kv : FVec Ideal S2x256x1024 .f32) (d : FVec Ideal S2x2048x512 .f32)
    (h : fn (F := Ideal) q kv d = fun _ => 1#1) :
    (∃ y : S2x2048x512.Idx → ℝ, q = fun i => (y i : EReal)) ∧ (∃ y : S2x256x1024.Idx → ℝ, kv = fun i => (y i : EReal))
    ∧ (∃ y : S2x2048x512.Idx → ℝ, d = fun i => (y i : EReal)) := by
  have e := congrFun h fun a => a.elim0
  obtain ⟨e, ed⟩ := both _ _ e
  obtain ⟨eq, ek⟩ := both _ _ e
  haveI : Subsingleton S_.Idx := ⟨fun a b => funext fun i => i.elim0⟩
  have hb : ∀ (s : Shape) (hs : S_.BroadcastsInDim s (![] : Fin 0 → Fin s.rank)) i,
      (broadcastInDim s ![] hs (constant (F := Ideal) S_ .f32 0x7F800000#32) i : EReal) = ⊤ := fun s hs i => cTop
  exact ⟨finite_of_all q _ (hb _ _) _ _ _ _ eq, finite_of_all kv _ (hb _ _) _ _ _ _ ek, finite_of_all d _ (hb _ _) _ _ _ _ ed⟩

end Cert.Pre_fin2
-- ==== Proof.MemAlgebraic.lean ====
module

public import proofs.«01_k».proof.Defs
public import proofs.«01_k».proof.Proof.MemReal
public import proofs.«01_k».proof.Proof.MemPre
public import Idealize.ShloMosaic.Lib.Claim

@[expose] public section

set_option maxRecDepth 16384

/-! The kernel and the reference of the memory attention's gradients compute one function over the extended reals. -/

noncomputable section

namespace Cert.Mem

open Idealize.ShloMosaic Idealize.ShloMosaic.TcCoe Idealize.SL.Sem

/-- The flat row of a row of a batch is one of the array's. -/
theorem flat_lt {n N : ℕ} (hN : N = 2 * n) (b : Fin 2) (s : Fin n) : b.val * n + s.val < N := by
  subst hN
  fin_cases b
  · simp
    omega
  · simp
    omega

/-- An element of the flat arrays is a lane of a head at a row of a batch. -/
theorem elt {n N : ℕ} (hN : N = 2 * n) (i : (⟨2, ![N, 512]⟩ : Shape).Idx) : ∃ (b : Fin 2) (h : Fin 4) (s : Fin n) (e : Fin 128),
    i = ix2 ⟨b.val * n + s.val, flat_lt hN b s⟩ ⟨h.val * 128 + e.val, by omega⟩ := by
  subst hN
  obtain ⟨R, q, rfl⟩ : ∃ (R : Fin (2 * n)) (q : Fin 512), i = ix2 R q := ⟨i 0, i 1, eq_ix2 i⟩
  have hn : 0 < n := by have := R.isLt; omega
  have hR := Nat.div_add_mod R.val n
  refine ⟨⟨R.val / n, (Nat.div_lt_iff_lt_mul hn).2 R.isLt⟩, ⟨q.val / 128, by omega⟩, ⟨R.val % n, Nat.mod_lt _ hn⟩, ⟨q.val % 128, by omega⟩, ?_⟩
  refine congrArg₂ ix2 (Fin.ext ?_) (Fin.ext ?_) <;> dsimp only
  · rw [mul_comm (R.val / n), hR]
  · omega

/-- The value claim of the memory attention's gradients: of the query, the key and the value. -/
theorem algebraic : algebraic_Kernel2Ideal_Reference2Ideal_pre_fin2 := by
  pair_intro
  · run_from Cert.Kernel2Ideal.Value.run_blocks m g
  · run_from Cert.Reference2Ideal.Value.run m' g'
    all_goals
      obtain ⟨⟨yq, hq⟩, ⟨yk, hk⟩, ⟨yd, hd⟩⟩ := Pre_fin2.reals _ _ _ (hpre c)
      have A : Args (fun b h s e => yq (ix3 b s ⟨h.val * 128 + e.val, by omega⟩)) (fun b h s e => yd (ix3 b s ⟨h.val * 128 + e.val, by omega⟩))
          (fun b h k e => yk (ix3 b k ⟨h.val * 128 + e.val, by omega⟩)) (fun b h k e => yk (ix3 b k ⟨512 + (h.val * 128 + e.val), by omega⟩)) m c :=
        ⟨fun _ _ _ _ => congrFun hq _, fun _ _ _ _ => congrFun hk _, fun _ _ _ _ => congrFun hk _, fun _ _ _ _ => congrFun hd _⟩
      have B : RefArgs (fun b h s e => yq (ix3 b s ⟨h.val * 128 + e.val, by omega⟩)) (fun b h s e => yd (ix3 b s ⟨h.val * 128 + e.val, by omega⟩))
          (fun b h k e => yk (ix3 b k ⟨h.val * 128 + e.val, by omega⟩)) (fun b h k e => yk (ix3 b k ⟨512 + (h.val * 128 + e.val), by omega⟩))
          (m (c.tc.loc Kernel2Ideal.main_arg0)) (m (c.tc.loc Kernel2Ideal.main_arg1)) (m (c.tc.loc Kernel2Ideal.main_arg2)) :=
        ⟨fun _ _ _ _ => congrFun hq _, fun _ _ _ _ => congrFun hk _, fun _ _ _ _ => congrFun hk _, fun _ _ _ _ => congrFun hd _⟩
    · rw [Reference2Ideal.Value.res0, (hagree c).1, (hagree c).2.1, (hagree c).2.2, Kernel2Ideal.Value.dq_arr]
      funext i
      obtain ⟨b, h, s, e, rfl⟩ := elt (n := 2048) rfl i
      refine (Reference2Ideal.Value.out0_at _ _ _ b h s e).trans ?_
      refine Eq.trans ?_ (Kernel2Ideal.Value.dqG_eq m c _ b h s e (by show b.val * 2048 + s.val = _; omega) rfl).symm
      rw [dq_real A]
      simp only [rds_real B, B.k, ← EReal.coe_mul, Reals.coe_sum]
    · rw [Reference2Ideal.Value.res1, (hagree c).1, (hagree c).2.1, (hagree c).2.2, Kernel2Ideal.Value.dk_arr]
      funext i
      obtain ⟨b, h, s, e, rfl⟩ := elt (n := 256) rfl i
      refine (Reference2Ideal.Value.out1_at _ _ _ b h s e).trans ?_
      refine Eq.trans ?_ (Kernel2Ideal.Value.dkG_eq m c _ b h s e (by show b.val * 256 + s.val = _; omega) rfl).symm
      rw [dk_real A]
      simp only [rds_real B, B.q, ← EReal.coe_mul, Reals.coe_sum]
    · rw [Kernel2Ideal.Value.dv_arr]
      funext i
      obtain ⟨b, h, s, e, rfl⟩ := elt (n := 256) rfl i
      refine (Reference2Ideal.Value.out2_at _ _ _ b h s e).trans ?_
      refine Eq.trans ?_ (Kernel2Ideal.Value.dvG_eq m c _ b h s e (by show b.val * 256 + s.val = _; omega) rfl).symm
      rw [dv_real A]
      simp only [soft_real B, B.d, ← EReal.coe_mul, Reals.coe_sum]
      congr 1
      exact Finset.sum_congr rfl fun _ _ => mul_comm _ _

end Cert.Mem
-- ==== Proof.MlaEntry.lean ====
module

public import proofs.«01_k».proof.Proof.Gen.Kernel3Ideal.Value
public import Idealize.ShloMosaic.Lib.Pipeline.ValueKit
public import Idealize.ShloMosaic.Lib.Pointwise

@[expose] public section

set_option maxRecDepth 16384

/-! What the arrays of the latent attention's backward call hold when its region starts. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
variable (m : (ℓ : Loc nD τ sig) → Buf (Elt Ideal) ℓ)

/-- The packed lanes of the queries and keys (the plain ones, the rotary ones, zeros), of the values and the cotangent (zeros, then theirs). -/
def qkPk (A : FVec Ideal S2x2048x8x64 .f32) (B : FVec Ideal S2x2048x8x32 .f32) : FVec Ideal S2x2048x8x128 .f32 :=
  concatenate S2x2048x8x128 3 [⟨S2x2048x8x64, A⟩, ⟨S2x2048x8x32, B⟩, ⟨S2x2048x8x32, broadcastInDim S2x2048x8x32 ![] bcast_S_S2x2048x8x32 (constant S_ .f32 0x00000000#32)⟩]
    concatenates_S2x2048x8x64_S2x2048x8x32_S2x2048x8x32_S2x2048x8x128_d3
def vdPk (A : FVec Ideal S2x2048x8x64 .f32) : FVec Ideal S2x2048x8x128 .f32 :=
  concatenate S2x2048x8x128 3 [⟨S2x2048x8x64, broadcastInDim S2x2048x8x64 ![] bcast_S_S2x2048x8x64 (constant S_ .f32 0x00000000#32)⟩, ⟨S2x2048x8x64, A⟩]
    concatenates_S2x2048x8x64_S2x2048x8x64_S2x2048x8x128_d3

def qPk (c : Dev nD) : FVec Ideal S2x2048x8x128 .f32 := qkPk (m (c, Proc.tc.devRef main_arg0)) (m (c, Proc.tc.devRef main_arg1))
def kPk (c : Dev nD) : FVec Ideal S2x2048x8x128 .f32 := qkPk (m (c, Proc.tc.devRef main_arg2)) (m (c, Proc.tc.devRef main_arg3))
def vPk (c : Dev nD) : FVec Ideal S2x2048x8x128 .f32 := vdPk (m (c, Proc.tc.devRef main_arg4))
def dPk (c : Dev nD) : FVec Ideal S2x2048x8x128 .f32 := vdPk (m (c, Proc.tc.devRef main_arg5))

/-- A lane of the query of head `h` at row `s` of batch `b`; of a key and a value; of the cotangent of the output. -/
def aq (c : Dev nD) (b : Fin 2) (h : Fin 8) (s : Fin 2048) (e : Fin 128) : EReal := qPk m c (ix4 b s h e)
def ak (c : Dev nD) (b : Fin 2) (h : Fin 8) (k : Fin 2048) (e : Fin 128) : EReal := kPk m c (ix4 b k h e)
def av (c : Dev nD) (b : Fin 2) (h : Fin 8) (k : Fin 2048) (e : Fin 128) : EReal := vPk m c (ix4 b k h e)
def ad (c : Dev nD) (b : Fin 2) (h : Fin 8) (s : Fin 2048) (e : Fin 128) : EReal := dPk m c (ix4 b s h e)

/-- The factor of the queries, 1/(√96 · log 2). -/
def qs : EReal := Ideal.div 1 (Ideal.sqrt (Ideal.ofBits .f32 0x42C00000#32) * Ideal.log (Ideal.ofBits .f32 0x40000000#32))

/-- The scaled queries, rounded. -/
def qArr (c : Dev nD) : FVec Ideal S2x2048x8x128 .bf16 :=
  truncf .bf16 (mulf (qPk m c) (broadcastInDim S2x2048x8x128 ![] bcast_S_S2x2048x8x128 (Host.divf (constant S_ .f32 0x3F800000#32)
      (mulf (Host.sqrt (constant S_ .f32 0x42C00000#32)) (Host.log (constant S_ .f32 0x40000000#32)))))) bitsLt_bf16_f32

/-- The queries, keys and values the saved values' lines take. -/
def q4 (c : Dev nD) : FVec Ideal S2x2048x8x128 .f32 := extf .f32 (qArr m c) bitsLt_bf16_f32
def k4 (c : Dev nD) : FVec Ideal S2x2048x8x128 .f32 := extf .f32 (truncf .bf16 (kPk m c) bitsLt_bf16_f32) bitsLt_bf16_f32
def v4 (c : Dev nD) : FVec Ideal S2x2048x8x128 .f32 := extf .f32 (truncf .bf16 (vPk m c) bitsLt_bf16_f32) bitsLt_bf16_f32

/-- The scores. -/
def scArr (c : Dev nD) : FVec Ideal S2x2048x8x2048 .f32 :=
  transpose S2x2048x8x2048 [0, 3, 1, 2] (Host.dotGeneral dot_S2x2048x8x128_S2x2048x8x128_S2x8x2048x2048_3_3_1_1_02_02 none (k4 m c) (q4 m c))
    transposes_S2x8x2048x2048_S2x2048x8x2048_0_3_1_2

/-- The largest score of each row. -/
def mxArr (c : Dev nD) : FVec Ideal S2x2048x8x1 .f32 :=
  broadcastInDim S2x2048x8x1 ![0, 1, 2] bcast_S2x2048x8_S2x2048x8x1_0_1_2
    (Host.reduce FloatOps.maximumf (scArr m c) (constant S_ .f32 0xFF800000#32 : FVec Ideal S_ .f32) reducesTo_S2x2048x8x2048_S2x2048x8_d3 h_S_)

/-- The numerators. -/
def pArr (c : Dev nD) : FVec Ideal S2x2048x8x2048 .f32 :=
  Host.exp (mulf (subf (scArr m c) (broadcastInDim S2x2048x8x2048 ![0, 1, 2, 3] bcast_S2x2048x8x1_S2x2048x8x2048_0_1_2_3 (mxArr m c)))
    (broadcastInDim S2x2048x8x2048 ![] bcast_S_S2x2048x8x2048 (Host.log (constant S_ .f32 0x40000000#32))))

/-- The denominators. -/
def lArr (c : Dev nD) : FVec Ideal S2x2048x8x1 .f32 :=
  broadcastInDim S2x2048x8x1 ![0, 1, 2] bcast_S2x2048x8_S2x2048x8x1_0_1_2
    (Host.reduceAdd (pArr m c) (constant S_ .f32 0x00000000#32) reducesTo_S2x2048x8x2048_S2x2048x8_d3 h_S_)

/-- The saved output. -/
def oArr (c : Dev nD) : FVec Ideal S2x2048x8x128 .f32 :=
  Host.divf (transpose S2x2048x8x128 [0, 3, 1, 2] (Host.dotGeneral dot_S2x2048x8x128_S2x2048x8x2048_S2x8x128x2048_1_3_3_1_02_02 none (v4 m c)
    (extf .f32 (truncf .bf16 (pArr m c) bitsLt_bf16_f32) bitsLt_bf16_f32)) transposes_S2x8x128x2048_S2x2048x8x128_0_3_1_2)
    (broadcastInDim S2x2048x8x128 ![0, 1, 2, 3] bcast_S2x2048x8x1_S2x2048x8x128_0_1_2_3 (lArr m c))

/-- The saved row log-sum. -/
def lseArr (c : Dev nD) : FVec Ideal S2x2048x8x1 .f32 :=
  addf (mxArr m c) (Host.divf (Host.log (lArr m c)) (broadcastInDim S2x2048x8x1 ![] bcast_S_S2x2048x8x1 (Host.log (constant S_ .f32 0x40000000#32))))

theorem o_arr (c : Dev nD) : V m c main_v43 = shapeCast _ (oArr m c) shapeCasts_S2x2048x8x128_S4096x1024 := by
  dsimp only [V, hostOps0]
  after_results_simp
  rfl

theorem lse_arr (c : Dev nD) : V m c main_v44 = shapeCast _ (broadcastInDim S2x2048x8x128 ![0, 1, 2, 3] bcast_S2x2048x8x1_S2x2048x8x128_0_1_2_3 (lseArr m c)) shapeCasts_S2x2048x8x128_S4096x1024 := by
  dsimp only [V, hostOps0]
  after_results_simp
  rfl

theorem q_arr (c : Dev nD) : V m c main_v45 = shapeCast _ (qArr m c) shapeCasts_S2x2048x8x128_S4096x1024 := by
  dsimp only [V, hostOps0]
  after_results_simp
  rfl

theorem k_arr (c : Dev nD) : V m c main_v46 = shapeCast _ (truncf .bf16 (kPk m c) bitsLt_bf16_f32) shapeCasts_S2x2048x8x128_S4096x1024 := by
  dsimp only [V, hostOps0]
  after_results_simp
  rfl

theorem v_arr (c : Dev nD) : V m c main_v47 = shapeCast _ (truncf .bf16 (vPk m c) bitsLt_bf16_f32) shapeCasts_S2x2048x8x128_S4096x1024 := by
  dsimp only [V, hostOps0]
  after_results_simp
  rfl

theorem d_arr (c : Dev nD) : V m c main_v48 = shapeCast _ (truncf .bf16 (dPk m c) bitsLt_bf16_f32) shapeCasts_S2x2048x8x128_S4096x1024 := by
  dsimp only [V, hostOps0]
  after_results_simp
  rfl

end Cert.Kernel3Ideal.Value
-- ==== Proof.MlaSaved.lean ====
module

public import proofs.«01_k».proof.Proof.MlaEntry

@[expose] public section

set_option maxRecDepth 16384

/-! The arrays of the latent attention's backward call, read at an index. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
variable (m : (ℓ : Loc nD τ sig) → Buf (Elt Ideal) ℓ)

theorem scaled_form (A : FVec Ideal S2x2048x8x128 .f32) (b : Fin 2) (s : Fin 2048) (h : Fin 8) (e : Fin 128) :
    (truncf .bf16 (mulf A (broadcastInDim S2x2048x8x128 ![] bcast_S_S2x2048x8x128 (Host.divf (constant S_ .f32 0x3F800000#32)
      (mulf (Host.sqrt (constant S_ .f32 0x42C00000#32)) (Host.log (constant S_ .f32 0x40000000#32)))))) bitsLt_bf16_f32 (ix4 b s h e) : EReal)
      = A (ix4 b s h e) * qs := by
  pointwise
  rfl

theorem qArr_at (c : Dev nD) (b : Fin 2) (h : Fin 8) (s : Fin 2048) (e : Fin 128) : (qArr m c (ix4 b s h e) : EReal) = aq m c b h s e * qs :=
  scaled_form _ b s h e

theorem q4_at (c : Dev nD) (b : Fin 2) (h : Fin 8) (s : Fin 2048) (e : Fin 128) : (q4 m c (ix4 b s h e) : EReal) = aq m c b h s e * qs :=
  qArr_at m c b h s e

theorem k4_at (c : Dev nD) (b : Fin 2) (h : Fin 8) (k : Fin 2048) (e : Fin 128) : (k4 m c (ix4 b k h e) : EReal) = ak m c b h k e := by
  unfold k4 ak
  generalize kPk m c = A
  pointwise

theorem v4_at (c : Dev nD) (b : Fin 2) (h : Fin 8) (k : Fin 2048) (e : Fin 128) : (v4 m c (ix4 b k h e) : EReal) = av m c b h k e := by
  unfold v4 av
  generalize vPk m c = A
  pointwise

/-- A score, to the base two. -/
def sc (c : Dev nD) (b : Fin 2) (h : Fin 8) (s k : Fin 2048) : EReal := ∑ e : Fin 128, ak m c b h k e * (aq m c b h s e * qs)

theorem sc_at (c : Dev nD) (b : Fin 2) (h : Fin 8) (s k : Fin 2048) : (scArr m c (ix4 b s h k) : EReal) = sc m c b h s k := by
  unfold scArr sc
  simp only [← q4_at, ← k4_at]
  generalize q4 m c = X
  generalize k4 m c = Y
  pointwise

/-- The largest score of a row. -/
def mx (c : Dev nD) (b : Fin 2) (h : Fin 8) (s : Fin 2048) : EReal :=
  (Host.reduce FloatOps.maximumf (scArr m c) (constant S_ .f32 0xFF800000#32) reducesTo_S2x2048x8x2048_S2x2048x8_d3 h_S_ : FVec Ideal S2x2048x8 .f32) (ix3 b s h)

theorem mx_at (c : Dev nD) (b : Fin 2) (h : Fin 8) (s : Fin 2048) (z : Fin 1) : (mxArr m c (ix4 b s h z) : EReal) = mx m c b h s := by
  unfold mxArr mx
  generalize (Host.reduce FloatOps.maximumf (scArr m c) (constant S_ .f32 0xFF800000#32) reducesTo_S2x2048x8x2048_S2x2048x8_d3 h_S_ : FVec Ideal S2x2048x8 .f32) = X
  pointwise

/-- A saved numerator. -/
def pt (c : Dev nD) (b : Fin 2) (h : Fin 8) (s k : Fin 2048) : EReal :=
  Ideal.exp ((sc m c b h s k - mx m c b h s) * Ideal.log (Ideal.ofBits .f32 0x40000000#32))

theorem p_at (c : Dev nD) (b : Fin 2) (h : Fin 8) (s k : Fin 2048) : (pArr m c (ix4 b s h k) : EReal) = pt m c b h s k := by
  unfold pArr pt
  rw [← sc_at, ← mx_at m c b h s 0]
  generalize scArr m c = X
  generalize mxArr m c = Y
  pointwise

theorem l_at (c : Dev nD) (b : Fin 2) (h : Fin 8) (s : Fin 2048) (z : Fin 1) : (lArr m c (ix4 b s h z) : EReal) = ∑ k, pt m c b h s k := by
  unfold lArr
  simp only [← p_at]
  generalize pArr m c = X
  pointwise

/-- The saved row log-sum, and a lane of the saved output. -/
def lseV (c : Dev nD) (b : Fin 2) (h : Fin 8) (s : Fin 2048) : EReal :=
  mx m c b h s + Ideal.div (Ideal.log (∑ k, pt m c b h s k)) (Ideal.log (Ideal.ofBits .f32 0x40000000#32))
def oV (c : Dev nD) (b : Fin 2) (h : Fin 8) (s : Fin 2048) (e : Fin 128) : EReal :=
  Ideal.div (∑ k, av m c b h k e * pt m c b h s k) (∑ k, pt m c b h s k)

theorem o4_at (c : Dev nD) (b : Fin 2) (h : Fin 8) (s : Fin 2048) (e : Fin 128) : (oArr m c (ix4 b s h e) : EReal) = oV m c b h s e := by
  unfold oArr oV
  rw [← l_at m c b h s 0]
  simp only [← p_at, ← v4_at]
  generalize lArr m c = X
  generalize pArr m c = Y
  generalize v4 m c = Z
  pointwise

theorem lse4_form (X Y : FVec Ideal S2x2048x8x1 .f32) (b : Fin 2) (h : Fin 8) (s : Fin 2048) (z : Fin 1) :
    (addf X (Host.divf (Host.log Y) (broadcastInDim S2x2048x8x1 ![] bcast_S_S2x2048x8x1 (Host.log (constant S_ .f32 0x40000000#32)))) (ix4 b s h z) : EReal)
      = X (ix4 b s h z) + Ideal.div (Ideal.log (Y (ix4 b s h z))) (Ideal.log (Ideal.ofBits .f32 0x40000000#32)) :=
  rfl

theorem lse4_at (c : Dev nD) (b : Fin 2) (h : Fin 8) (s : Fin 2048) (z : Fin 1) : (lseArr m c (ix4 b s h z) : EReal) = lseV m c b h s := by
  unfold lseArr lseV
  exact (lse4_form _ _ b h s z).trans
    (congrArg₂ (fun x y : EReal => x + Ideal.div (Ideal.log y) (Ideal.log (Ideal.ofBits .f32 0x40000000#32))) (mx_at m c b h s z) (l_at m c b h s z))

/-- A staged array at a row and a lane of a head. -/
theorem flat_at {φ : FTy} (X : FVec Ideal S2x2048x8x128 φ) (R : Fin 4096) (h : Fin 8) (e : Fin 128) :
    (shapeCast S4096x1024 X shapeCasts_S2x2048x8x128_S4096x1024 (ix2 R ⟨h.val * 128 + e.val, by omega⟩) : EReal)
      = X (ix4 ⟨R.val / 2048, by omega⟩ ⟨R.val % 2048, by omega⟩ h e) := by
  pointwise

theorem o_at (c : Dev nD) (R : Fin 4096) (h : Fin 8) (e : Fin 128) : ((V m c main_v43) (ix2 R ⟨h.val * 128 + e.val, by omega⟩) : EReal)
    = oV m c ⟨R.val / 2048, by omega⟩ h ⟨R.val % 2048, by omega⟩ e := by
  rw [o_arr, ← o4_at]
  exact flat_at (oArr m c) R h e

theorem lse_at (c : Dev nD) (R : Fin 4096) (h : Fin 8) (e : Fin 128) : ((V m c main_v44) (ix2 R ⟨h.val * 128 + e.val, by omega⟩) : EReal)
    = lseV m c ⟨R.val / 2048, by omega⟩ h ⟨R.val % 2048, by omega⟩ := by
  rw [lse_arr, ← lse4_at m c _ h _ 0]
  generalize lseArr m c = X
  pointwise

theorem q_at (c : Dev nD) (R : Fin 4096) (h : Fin 8) (e : Fin 128) : ((V m c main_v45) (ix2 R ⟨h.val * 128 + e.val, by omega⟩) : EReal)
    = aq m c ⟨R.val / 2048, by omega⟩ h ⟨R.val % 2048, by omega⟩ e * qs := by
  rw [q_arr, ← qArr_at]
  exact flat_at (qArr m c) R h e

theorem k_at (c : Dev nD) (R : Fin 4096) (h : Fin 8) (e : Fin 128) : ((V m c main_v46) (ix2 R ⟨h.val * 128 + e.val, by omega⟩) : EReal)
    = ak m c ⟨R.val / 2048, by omega⟩ h ⟨R.val % 2048, by omega⟩ e := by
  rw [k_arr]
  exact flat_at (truncf .bf16 (kPk m c) bitsLt_bf16_f32) R h e

theorem v_at (c : Dev nD) (R : Fin 4096) (h : Fin 8) (e : Fin 128) : ((V m c main_v47) (ix2 R ⟨h.val * 128 + e.val, by omega⟩) : EReal)
    = av m c ⟨R.val / 2048, by omega⟩ h ⟨R.val % 2048, by omega⟩ e := by
  rw [v_arr]
  exact flat_at (truncf .bf16 (vPk m c) bitsLt_bf16_f32) R h e

theorem d_at (c : Dev nD) (R : Fin 4096) (h : Fin 8) (e : Fin 128) : ((V m c main_v48) (ix2 R ⟨h.val * 128 + e.val, by omega⟩) : EReal)
    = ad m c ⟨R.val / 2048, by omega⟩ h ⟨R.val % 2048, by omega⟩ e := by
  rw [d_arr]
  exact flat_at (truncf .bf16 (dPk m c) bitsLt_bf16_f32) R h e

end Cert.Kernel3Ideal.Value
-- ==== Proof.MlaBlocks.lean ====
module

public import proofs.«01_k».proof.Proof.MlaSaved

@[expose] public section

set_option maxRecDepth 16384

/-! The blocks a grid point of the latent attention's backward call reads: batch `t / 16`, heads `4 (t / 8 % 2)` and the next three, query tile `t % 8`. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
variable (m : (ℓ : Loc nD τ sig) → Buf (Elt Ideal) ℓ)

/-- The block a point's rows of a query-side array are, and the block of its key-side arrays. -/
abbrev qIx (t : Fin cfg0.N) : Fin 2 → ℕ := ![8 * (t.val / 16) + t.val % 8, t.val / 8 % 2]
abbrev kIx (t : Fin cfg0.N) : Fin 2 → ℕ := ![t.val / 16, t.val / 8 % 2]

theorem idx : ∀ t : Fin cfg0.N, win0_0.index t = qIx t ∧ win0_1.index t = kIx t ∧ win0_2.index t = kIx t
    ∧ win0_3.index t = qIx t ∧ win0_4.index t = qIx t ∧ win0_5.index t = qIx t ∧ win0_6.index t = qIx t ∧ win0_7.index t = kIx t ∧ win0_8.index t = kIx t :=
  (by decide +kernel : ∀ t : Fin grid0.N, _)

theorem pt_lt (t : Fin cfg0.N) : t.val < 32 := lt_of_lt_of_eq t.isLt N_0

/-- The batch, a head and a row of point `t`. -/
def bOf (t : Fin cfg0.N) : Fin 2 := ⟨t.val / 16, by have := pt_lt t; omega⟩
def hOf (t : Fin cfg0.N) (u : Fin 4) : Fin 8 := ⟨4 * (t.val / 8 % 2) + u.val, by omega⟩
def sOf (t : Fin cfg0.N) (r : Fin 256) : Fin 2048 := ⟨256 * (t.val % 8) + r.val, by omega⟩

/-- The rows of the arrays that a point's rows are. -/
def rowQ (t : Fin cfg0.N) (r : Fin 256) : Fin 4096 := ⟨2048 * (t.val / 16) + (256 * (t.val % 8) + r.val), by have := pt_lt t; omega⟩
def rowK (t : Fin cfg0.N) (k : Fin 2048) : Fin 4096 := ⟨2048 * (t.val / 16) + k.val, by have := pt_lt t; omega⟩

theorem rowQ_div (t : Fin cfg0.N) (r : Fin 256) : (⟨(rowQ t r).val / 2048, by omega⟩ : Fin 2) = bOf t := by
  apply Fin.ext; dsimp only [rowQ, bOf]; omega
theorem rowQ_mod (t : Fin cfg0.N) (r : Fin 256) : (⟨(rowQ t r).val % 2048, by omega⟩ : Fin 2048) = sOf t r := by
  apply Fin.ext; dsimp only [rowQ, sOf]; omega
theorem rowK_div (t : Fin cfg0.N) (k : Fin 2048) : (⟨(rowK t k).val / 2048, by omega⟩ : Fin 2) = bOf t := by
  apply Fin.ext; dsimp only [rowK, bOf]; omega
theorem rowK_mod (t : Fin cfg0.N) (k : Fin 2048) : (⟨(rowK t k).val % 2048, by omega⟩ : Fin 2048) = k := by
  apply Fin.ext; dsimp only [rowK]; omega

/-- The column of lane `e` of the point's head `u`. -/
def ln (u : Fin 4) (e : Fin 128) : Fin 512 :=
  match u with
  | 0 => ⟨e.val, by omega⟩
  | 1 => ⟨128 + e.val, by omega⟩
  | 2 => ⟨256 + e.val, by omega⟩
  | 3 => ⟨384 + e.val, by omega⟩

theorem ln_eq (u : Fin 4) (e : Fin 128) : ln u e = ⟨u.val * 128 + e.val, by omega⟩ :=
  match u with
  | 0 => Fin.ext (by show e.val = 0 * 128 + e.val; omega)
  | 1 => rfl
  | 2 => rfl
  | 3 => rfl

theorem blk_q (c : Dev nD) (t : Fin cfg0.N) (r : Fin 256) (u : Fin 4) (e : Fin 128) :
    (iblk m c 0 t (ix2 r (ln u e)) : EReal) = aq m c (bOf t) (hOf t u) (sOf t r) e * qs := by
  rw [ln_eq]
  refine Eq.trans ?_ ((q_at m c (rowQ t r) (hOf t u) e).trans (by rw [rowQ_div, rowQ_mod]))
  have key : ∀ A : FVec Ideal S4096x1024 .bf16, (View.read (Elt Ideal) ((cfg0.win 0).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v45)

theorem blk_k (c : Dev nD) (t : Fin cfg0.N) (k : Fin 2048) (u : Fin 4) (e : Fin 128) :
    (iblk m c 1 t (ix2 k (ln u e)) : EReal) = ak m c (bOf t) (hOf t u) k e := by
  rw [ln_eq]
  refine Eq.trans ?_ ((k_at m c (rowK t k) (hOf t u) e).trans (by rw [rowK_div, rowK_mod]))
  have key : ∀ A : FVec Ideal S4096x1024 .bf16, (View.read (Elt Ideal) ((cfg0.win 1).blk t).view A (ix2 k ⟨u.val * 128 + e.val, by omega⟩) : EReal)
      = A (ix2 (rowK t k) ⟨(hOf t u).val * 128 + e.val, by omega⟩) := by
    intro A
    unfold hOf rowK
    blk_ext [idx t]
  exact key (V m c main_v46)

theorem blk_v (c : Dev nD) (t : Fin cfg0.N) (k : Fin 2048) (u : Fin 4) (e : Fin 128) :
    (iblk m c 2 t (ix2 k (ln u e)) : EReal) = av m c (bOf t) (hOf t u) k e := by
  rw [ln_eq]
  refine Eq.trans ?_ ((v_at m c (rowK t k) (hOf t u) e).trans (by rw [rowK_div, rowK_mod]))
  have key : ∀ A : FVec Ideal S4096x1024 .bf16, (View.read (Elt Ideal) ((cfg0.win 2).blk t).view A (ix2 k ⟨u.val * 128 + e.val, by omega⟩) : EReal)
      = A (ix2 (rowK t k) ⟨(hOf t u).val * 128 + e.val, by omega⟩) := by
    intro A
    unfold hOf rowK
    blk_ext [idx t]
  exact key (V m c main_v47)

theorem blk_o (c : Dev nD) (t : Fin cfg0.N) (r : Fin 256) (u : Fin 4) (e : Fin 128) :
    (iblk m c 3 t (ix2 r (ln u e)) : EReal) = oV m c (bOf t) (hOf t u) (sOf t r) e := by
  rw [ln_eq]
  refine Eq.trans ?_ ((o_at m c (rowQ t r) (hOf t u) e).trans (by rw [rowQ_div, rowQ_mod]))
  have key : ∀ A : FVec Ideal S4096x1024 .f32, (View.read (Elt Ideal) ((cfg0.win 3).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v43)

theorem blk_d (c : Dev nD) (t : Fin cfg0.N) (r : Fin 256) (u : Fin 4) (e : Fin 128) :
    (iblk m c 4 t (ix2 r (ln u e)) : EReal) = ad m c (bOf t) (hOf t u) (sOf t r) e := by
  rw [ln_eq]
  refine Eq.trans ?_ ((d_at m c (rowQ t r) (hOf t u) e).trans (by rw [rowQ_div, rowQ_mod]))
  have key : ∀ A : FVec Ideal S4096x1024 .bf16, (View.read (Elt Ideal) ((cfg0.win 4).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v48)

theorem blk_l (c : Dev nD) (t : Fin cfg0.N) (r : Fin 256) (u : Fin 4) (e : Fin 128) :
    (iblk m c 5 t (ix2 r (ln u e)) : EReal) = lseV m c (bOf t) (hOf t u) (sOf t r) := by
  rw [ln_eq]
  refine Eq.trans ?_ ((lse_at m c (rowQ t r) (hOf t u) e).trans (by rw [rowQ_div, rowQ_mod]))
  have key : ∀ A : FVec Ideal S4096x1024 .f32, (View.read (Elt Ideal) ((cfg0.win 5).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v44)

end Cert.Kernel3Ideal.Value
-- ==== Proof.MlaStep.lean ====
module

public import proofs.«01_k».proof.Proof.MlaBlocks
public import proofs.«01_k».proof.Proof.Columns
public import Idealize.ShloMosaic.Lib.Pipeline.ReadBack

@[expose] public section

set_option maxRecDepth 16384

/-! What a grid point of the latent attention's backward call leaves in its outputs and accumulators. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
variable (m : (ℓ : Loc nD τ sig) → Buf (Elt Ideal) ℓ)

/-- The two constants of the body. -/
abbrev cS : EReal := (Named.named κ "scale" (0x3DD105EC#32 : BitVec (FTy.bits .f32)) : Ideal .f32)
abbrev cL : EReal := (Named.named κ "ln2" (0x3F317218#32 : BitVec (FTy.bits .f32)) : Ideal .f32)

/-- The rebuilt softmax weight and the cotangent of the score, of blocks of queries, keys, values, outputs, cotangents and log-sums. -/
def bw (Q : Fin 256 → Fin 128 → EReal) (K : Fin 2048 → Fin 128 → EReal) (L : Fin 256 → EReal) (r : Fin 256) (k : Fin 2048) : EReal :=
  Ideal.exp2 (∑ e, Q r e * K k e - L r)
def bd (Q : Fin 256 → Fin 128 → EReal) (K V : Fin 2048 → Fin 128 → EReal) (O D : Fin 256 → Fin 128 → EReal) (L : Fin 256 → EReal) (r : Fin 256) (k : Fin 2048) : EReal :=
  bw Q K L r k * (∑ e, D r e * V k e - ∑ e, D r e * O r e)

/-- Head `u`'s lanes of the point's blocks. -/
def hQ (c : Dev nD) (t : Fin cfg0.N) (u : Fin 4) (r : Fin 256) (e : Fin 128) : EReal := iblk m c 0 t (ix2 r (ln u e))
def hK (c : Dev nD) (t : Fin cfg0.N) (u : Fin 4) (k : Fin 2048) (e : Fin 128) : EReal := iblk m c 1 t (ix2 k (ln u e))
def hV (c : Dev nD) (t : Fin cfg0.N) (u : Fin 4) (k : Fin 2048) (e : Fin 128) : EReal := iblk m c 2 t (ix2 k (ln u e))
def hO (c : Dev nD) (t : Fin cfg0.N) (u : Fin 4) (r : Fin 256) (e : Fin 128) : EReal := iblk m c 3 t (ix2 r (ln u e))
def hD (c : Dev nD) (t : Fin cfg0.N) (u : Fin 4) (r : Fin 256) (e : Fin 128) : EReal := iblk m c 4 t (ix2 r (ln u e))
def hL (c : Dev nD) (t : Fin cfg0.N) (u : Fin 4) (r : Fin 256) : EReal := iblk m c 5 t (ix2 r (ln u 0))
def hW (c : Dev nD) (t : Fin cfg0.N) (u : Fin 4) : Fin 256 → Fin 2048 → EReal := bw (hQ m c t u) (hK m c t u) (hL m c t u)
def hS (c : Dev nD) (t : Fin cfg0.N) (u : Fin 4) : Fin 256 → Fin 2048 → EReal := bd (hQ m c t u) (hK m c t u) (hV m c t u) (hO m c t u) (hD m c t u) (hL m c t u)

/-- A block written head by head, read at a lane of a head. -/
theorem heads {Val : EltTy → Type} [∀ e, Nonempty (Val e)] {R : ℕ} {φ : EltTy}
    (i3 : ∀ a, (![0, 384] : Fin 2 → ℕ) a + (![R, 128] : Fin 2 → ℕ) a ≤ (⟨2, ![R, 512]⟩ : Shape).size a) (P3 : (Rect.unit (s := ⟨2, ![R, 512]⟩) ![0, 384] ![R, 128] i3).shape.Idx → Val φ)
    (i2 : ∀ a, (![0, 256] : Fin 2 → ℕ) a + (![R, 128] : Fin 2 → ℕ) a ≤ (⟨2, ![R, 512]⟩ : Shape).size a) (P2 : (Rect.unit (s := ⟨2, ![R, 512]⟩) ![0, 256] ![R, 128] i2).shape.Idx → Val φ)
    (i1 : ∀ a, (![0, 128] : Fin 2 → ℕ) a + (![R, 128] : Fin 2 → ℕ) a ≤ (⟨2, ![R, 512]⟩ : Shape).size a) (P1 : (Rect.unit (s := ⟨2, ![R, 512]⟩) ![0, 128] ![R, 128] i1).shape.Idx → Val φ)
    (i0 : ∀ a, (![0, 0] : Fin 2 → ℕ) a + (![R, 128] : Fin 2 → ℕ) a ≤ (⟨2, ![R, 512]⟩ : Shape).size a) (P0 : (Rect.unit (s := ⟨2, ![R, 512]⟩) ![0, 0] ![R, 128] i0).shape.Idx → Val φ)
    (L : List (View.Piece Val (⟨2, ![R, 512]⟩ : Shape) φ)) (r : Fin R) (u : Fin 4) (e : Fin 128) :
    View.canon (⟨Rect.unit ![0, 384] ![R, 128] i3, P3⟩ :: ⟨Rect.unit ![0, 256] ![R, 128] i2, P2⟩ :: ⟨Rect.unit ![0, 128] ![R, 128] i1, P1⟩ :: ⟨Rect.unit ![0, 0] ![R, 128] i0, P0⟩ :: L) (ix2 r (ln u e))
      = (match u with | 0 => P0 (ix2 r e) | 1 => P1 (ix2 r e) | 2 => P2 (ix2 r e) | 3 => P3 (ix2 r e)) := by
  match u with
  | 0 => rw [Columns.miss _ _ _ _ _ (.inl (by simp [ln]; omega)), Columns.miss _ _ _ _ _ (.inl (by simp [ln]; omega)), Columns.miss _ _ _ _ _ (.inl (by simp [ln])), Columns.hit _ _ _ _ _ e (by simp [ln])]
  | 1 => rw [Columns.miss _ _ _ _ _ (.inl (by simp [ln]; omega)), Columns.miss _ _ _ _ _ (.inl (by simp [ln]; omega)), Columns.hit _ _ _ _ _ e (by simp [ln])]
  | 2 => rw [Columns.miss _ _ _ _ _ (.inl (by simp [ln]; omega)), Columns.hit _ _ _ _ _ e (by simp [ln])]
  | 3 => rw [Columns.hit _ _ _ _ _ e (by simp [ln])]

set_option maxHeartbeats 1000000 in
theorem dq_A (c : Dev nD) (t : Fin cfg0.N) (h0 : t.val % 8 = 0) (h1 : ¬ t.val % 8 = 7) (r : Fin 256) (u : Fin 4) (e : Fin 128) :
    ((outsAt0 m c t.val t.isLt).1 (ix2 r (ln u e)) : EReal) = (∑ k, hS m c t u r k * hK m c t u k e) * cS := by
  rw [outsAt0_A m c t h0 h1]; frame_out
  rw [heads]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem acK_A (c : Dev nD) (t : Fin cfg0.N) (h0 : t.val % 8 = 0) (h1 : ¬ t.val % 8 = 7) (k : Fin 2048) (u : Fin 4) (e : Fin 128) :
    ((outsAt0 m c t.val t.isLt).2.2.2.1 (ix2 k (ln u e)) : EReal) = ∑ r, hS m c t u r k * hQ m c t u r e := by
  rw [outsAt0_A m c t h0 h1]; frame_out
  rw [heads]
  simp (disch := decide) only [↓ View.readCov_skip, ↓ View.readCov_cons_toLoadRect, ↓ View.readCov_fill]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem acV_A (c : Dev nD) (t : Fin cfg0.N) (h0 : t.val % 8 = 0) (h1 : ¬ t.val % 8 = 7) (k : Fin 2048) (u : Fin 4) (e : Fin 128) :
    ((outsAt0 m c t.val t.isLt).2.2.2.2 (ix2 k (ln u e)) : EReal) = ∑ r, hW m c t u r k * hD m c t u r e := by
  rw [outsAt0_A m c t h0 h1]; frame_out
  rw [heads]
  simp (disch := decide) only [↓ View.readCov_skip, ↓ View.readCov_cons_toLoadRect, ↓ View.readCov_fill]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem dq_B (c : Dev nD) (t : Fin cfg0.N) (h0 : ¬ t.val % 8 = 0) (h1 : ¬ t.val % 8 = 7) (r : Fin 256) (u : Fin 4) (e : Fin 128) :
    ((outsAt0 m c t.val t.isLt).1 (ix2 r (ln u e)) : EReal) = (∑ k, hS m c t u r k * hK m c t u k e) * cS := by
  rw [outsAt0_B m c t h0 h1]; frame_out
  rw [heads]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem acK_B (c : Dev nD) (t : Fin cfg0.N) (h0 : ¬ t.val % 8 = 0) (h1 : ¬ t.val % 8 = 7) (k : Fin 2048) (u : Fin 4) (e : Fin 128) :
    ((outsAt0 m c t.val t.isLt).2.2.2.1 (ix2 k (ln u e)) : EReal) = (outsAt0 m c (t.val - 1) (lt_of_le_of_lt (Nat.sub_le _ _) t.isLt)).2.2.2.1 (ix2 k (ln u e)) + ∑ r, hS m c t u r k * hQ m c t u r e := by
  rw [outsAt0_B m c t h0 h1]; frame_out
  rw [heads]
  simp only [read_unread_whole]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem acV_B (c : Dev nD) (t : Fin cfg0.N) (h0 : ¬ t.val % 8 = 0) (h1 : ¬ t.val % 8 = 7) (k : Fin 2048) (u : Fin 4) (e : Fin 128) :
    ((outsAt0 m c t.val t.isLt).2.2.2.2 (ix2 k (ln u e)) : EReal) = (outsAt0 m c (t.val - 1) (lt_of_le_of_lt (Nat.sub_le _ _) t.isLt)).2.2.2.2 (ix2 k (ln u e)) + ∑ r, hW m c t u r k * hD m c t u r e := by
  rw [outsAt0_B m c t h0 h1]; frame_out
  rw [heads]
  simp only [read_unread_whole]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem dq_C (c : Dev nD) (t : Fin cfg0.N) (h0 : ¬ t.val % 8 = 0) (h1 : t.val % 8 = 7) (r : Fin 256) (u : Fin 4) (e : Fin 128) :
    ((outsAt0 m c t.val t.isLt).1 (ix2 r (ln u e)) : EReal) = (∑ k, hS m c t u r k * hK m c t u k e) * cS := by
  rw [outsAt0_C m c t h0 h1]; frame_out
  rw [heads]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem acK_C (c : Dev nD) (t : Fin cfg0.N) (h0 : ¬ t.val % 8 = 0) (h1 : t.val % 8 = 7) (k : Fin 2048) (u : Fin 4) (e : Fin 128) :
    ((outsAt0 m c t.val t.isLt).2.2.2.1 (ix2 k (ln u e)) : EReal) = (outsAt0 m c (t.val - 1) (lt_of_le_of_lt (Nat.sub_le _ _) t.isLt)).2.2.2.1 (ix2 k (ln u e)) + ∑ r, hS m c t u r k * hQ m c t u r e := by
  rw [outsAt0_C m c t h0 h1]; frame_out
  rw [heads]
  simp only [read_unread_whole]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

set_option maxHeartbeats 1000000 in
theorem acV_C (c : Dev nD) (t : Fin cfg0.N) (h0 : ¬ t.val % 8 = 0) (h1 : t.val % 8 = 7) (k : Fin 2048) (u : Fin 4) (e : Fin 128) :
    ((outsAt0 m c t.val t.isLt).2.2.2.2 (ix2 k (ln u e)) : EReal) = (outsAt0 m c (t.val - 1) (lt_of_le_of_lt (Nat.sub_le _ _) t.isLt)).2.2.2.2 (ix2 k (ln u e)) + ∑ r, hW m c t u r k * hD m c t u r e := by
  rw [outsAt0_C m c t h0 h1]; frame_out
  rw [heads]
  simp only [read_unread_whole]
  match u with
  | 0 | 1 | 2 | 3 => pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]; rfl

theorem pay2_at (X : FVec Ideal S2048x512 .f32) (k : Fin 2048) (j : Fin 512) : (k0_pay2 (F := Ideal) X (ix2 k j) : EReal) = X (ix2 k j) * cL := by
  pointwise [k0_pay2]

theorem pay3_at (X : FVec Ideal S2048x512 .f32) (k : Fin 2048) (j : Fin 512) : (k0_pay3 (F := Ideal) X (ix2 k j) : EReal) = X (ix2 k j) := by
  pointwise [k0_pay3]

/-- At the last tile the two outputs are the accumulators, the first times log 2. -/
theorem dk_C (c : Dev nD) (t : Fin cfg0.N) (h0 : ¬ t.val % 8 = 0) (h1 : t.val % 8 = 7) (k : Fin 2048) (j : Fin 512) :
    ((outsAt0 m c t.val t.isLt).2.1 (ix2 k j) : EReal) = (outsAt0 m c t.val t.isLt).2.2.2.1 (ix2 k j) * cL := by
  rw [outsAt0_C m c t h0 h1]; frame_out
  rw [pay2_at, Columns.whole]

theorem dv_C (c : Dev nD) (t : Fin cfg0.N) (h0 : ¬ t.val % 8 = 0) (h1 : t.val % 8 = 7) (k : Fin 2048) (j : Fin 512) :
    ((outsAt0 m c t.val t.isLt).2.2.1 (ix2 k j) : EReal) = (outsAt0 m c t.val t.isLt).2.2.2.2 (ix2 k j) := by
  rw [outsAt0_C m c t h0 h1]; frame_out
  rw [pay3_at, Columns.whole]

end Cert.Kernel3Ideal.Value
-- ==== Proof.MlaFold.lean ====
module

public import proofs.«01_k».proof.Proof.MlaStep

@[expose] public section

set_option maxRecDepth 16384

/-! The result arrays of the latent attention's backward call. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
variable (m : (ℓ : Loc nD τ sig) → Buf (Elt Ideal) ℓ)

/-- The rebuilt softmax weight and the cotangent of a score. -/
def pw (c : Dev nD) (b : Fin 2) (h : Fin 8) (s k : Fin 2048) : EReal := Ideal.exp2 (∑ e, aq m c b h s e * qs * ak m c b h k e - lseV m c b h s)
def dw (c : Dev nD) (b : Fin 2) (h : Fin 8) (s k : Fin 2048) : EReal :=
  pw m c b h s k * (∑ e, ad m c b h s e * av m c b h k e - ∑ e, ad m c b h s e * oV m c b h s e)

theorem hW_eq (c : Dev nD) (t : Fin cfg0.N) (u : Fin 4) (r : Fin 256) (k : Fin 2048) : hW m c t u r k = pw m c (bOf t) (hOf t u) (sOf t r) k := by
  unfold hW bw pw hQ hK hL
  simp only [blk_q, blk_k]
  rw [blk_l m c t r u 0]

theorem hS_eq (c : Dev nD) (t : Fin cfg0.N) (u : Fin 4) (r : Fin 256) (k : Fin 2048) : hS m c t u r k = dw m c (bOf t) (hOf t u) (sOf t r) k := by
  have h := hW_eq m c t u r k
  unfold hW at h
  unfold hS bd dw
  rw [h]
  unfold hD hV hO
  simp only [blk_d, blk_v, blk_o]

/-- The gradients of the query, the key and the value as the kernel computes them. -/
def dqV (c : Dev nD) (b : Fin 2) (h : Fin 8) (s : Fin 2048) (e : Fin 128) : EReal := (∑ k, dw m c b h s k * ak m c b h k e) * cS
def dkV (c : Dev nD) (b : Fin 2) (h : Fin 8) (k : Fin 2048) (e : Fin 128) : EReal := (∑ s, dw m c b h s k * (aq m c b h s e * qs)) * cL
def dvV (c : Dev nD) (b : Fin 2) (h : Fin 8) (k : Fin 2048) (e : Fin 128) : EReal := ∑ s, pw m c b h s k * ad m c b h s e

/-- The function of an index of a result array that a function of batch, head, row and lane is. -/
def flatG (f : Fin 2 → Fin 8 → Fin 2048 → Fin 128 → EReal) (i : S4096x1024.Idx) : EReal :=
  f ⟨(i 0).val / 2048, by have := (i 0).isLt; change _ < 4096 at this; omega⟩ ⟨(i 1).val / 128, by have := (i 1).isLt; change _ < 1024 at this; omega⟩
    ⟨(i 0).val % 2048, by omega⟩ ⟨(i 1).val % 128, by omega⟩

theorem flatG_eq (f : Fin 2 → Fin 8 → Fin 2048 → Fin 128 → EReal) (i : S4096x1024.Idx) (b : Fin 2) (h : Fin 8) (s : Fin 2048) (e : Fin 128)
    (h0 : (i 0).val = 2048 * b.val + s.val) (h1 : (i 1).val = h.val * 128 + e.val) : flatG f i = f b h s e := by
  unfold flatG
  congr 1 <;> (apply Fin.ext; dsimp only; omega)

/-- The sum over the rows of tile `j`. -/
def tileSum (f : Fin 2048 → EReal) (j : ℕ) : EReal := if h : j < 8 then ∑ r : Fin 256, f ⟨256 * j + r.val, by omega⟩ else 0

theorem tileSum_all (f : Fin 2048 → EReal) : ∑ j ∈ Finset.range 8, tileSum f j = ∑ s, f s := by
  rw [Finset.sum_range, Fin.sum_univ_tiles 8 256 rfl f]
  refine Finset.sum_congr rfl fun i _ => ?_
  rw [tileSum, dif_pos i.isLt]
  exact Finset.sum_congr rfl fun r _ => congrArg f (Fin.ext (by simp only []; omega))

theorem tile_rows (t : Fin cfg0.N) (f : Fin 2048 → EReal) : ∑ r : Fin 256, f (sOf t r) = tileSum f (t.val % 8) := by
  rw [tileSum, dif_pos (by omega)]
  rfl

/-- The point before, in the same run of row tiles. -/
def prev (t : Fin cfg0.N) : Fin cfg0.N := ⟨t.val - 1, lt_of_le_of_lt (Nat.sub_le _ _) t.isLt⟩
theorem bOf_prev (t : Fin cfg0.N) (h : ¬ t.val % 8 = 0) : bOf (prev t) = bOf t := Fin.ext (by dsimp only [bOf, prev]; omega)
theorem hOf_prev (t : Fin cfg0.N) (h : ¬ t.val % 8 = 0) (u : Fin 4) : hOf (prev t) u = hOf t u := Fin.ext (by dsimp only [hOf, prev]; omega)

/-- What a tile adds to the accumulators. -/
theorem addK (c : Dev nD) (t : Fin cfg0.N) (k : Fin 2048) (u : Fin 4) (e : Fin 128) : ∑ r, hS m c t u r k * hQ m c t u r e
    = tileSum (fun s => dw m c (bOf t) (hOf t u) s k * (aq m c (bOf t) (hOf t u) s e * qs)) (t.val % 8) := by
  rw [← tile_rows]
  refine Finset.sum_congr rfl fun r _ => ?_
  rw [hS_eq]
  exact congrArg _ (blk_q m c t r u e)
theorem addV (c : Dev nD) (t : Fin cfg0.N) (k : Fin 2048) (u : Fin 4) (e : Fin 128) : ∑ r, hW m c t u r k * hD m c t u r e
    = tileSum (fun s => pw m c (bOf t) (hOf t u) s k * ad m c (bOf t) (hOf t u) s e) (t.val % 8) := by
  rw [← tile_rows]
  refine Finset.sum_congr rfl fun r _ => ?_
  rw [hW_eq]
  exact congrArg _ (blk_d m c t r u e)

/-- The accumulators after a tile: the sum over the tiles so far. -/
theorem acK (c : Dev nD) (k : Fin 2048) (u : Fin 4) (e : Fin 128) : ∀ (n : ℕ) (t : Fin cfg0.N), t.val % 8 = n →
    ((outsAt0 m c t.val t.isLt).2.2.2.1 (ix2 k (ln u e)) : EReal)
      = ∑ j ∈ Finset.range (n + 1), tileSum (fun s => dw m c (bOf t) (hOf t u) s k * (aq m c (bOf t) (hOf t u) s e * qs)) j
  | 0, t, h => by
    rw [acK_A m c t h (by omega), addK, h]
    simp
  | n + 1, t, h => by
    have h0 : ¬ t.val % 8 = 0 := by omega
    have ih := acK c k u e n (prev t) (by dsimp only [prev]; omega)
    rw [bOf_prev t h0, hOf_prev t h0] at ih
    rw [Finset.sum_range_succ, ← ih, ← h, ← addK]
    by_cases h1 : t.val % 8 = 7
    · exact acK_C m c t h0 h1 k u e
    · exact acK_B m c t h0 h1 k u e
theorem acV (c : Dev nD) (k : Fin 2048) (u : Fin 4) (e : Fin 128) : ∀ (n : ℕ) (t : Fin cfg0.N), t.val % 8 = n →
    ((outsAt0 m c t.val t.isLt).2.2.2.2 (ix2 k (ln u e)) : EReal)
      = ∑ j ∈ Finset.range (n + 1), tileSum (fun s => pw m c (bOf t) (hOf t u) s k * ad m c (bOf t) (hOf t u) s e) j
  | 0, t, h => by
    rw [acV_A m c t h (by omega), addV, h]
    simp
  | n + 1, t, h => by
    have h0 : ¬ t.val % 8 = 0 := by omega
    have ih := acV c k u e n (prev t) (by dsimp only [prev]; omega)
    rw [bOf_prev t h0, hOf_prev t h0] at ih
    rw [Finset.sum_range_succ, ← ih, ← h, ← addV]
    by_cases h1 : t.val % 8 = 7
    · exact acV_C m c t h0 h1 k u e
    · exact acV_B m c t h0 h1 k u e

theorem dq_at (c : Dev nD) (t : Fin cfg0.N) (r : Fin 256) (u : Fin 4) (e : Fin 128) :
    ((outsAt0 m c t.val t.isLt).1 (ix2 r (ln u e)) : EReal) = dqV m c (bOf t) (hOf t u) (sOf t r) e := by
  have h : ((outsAt0 m c t.val t.isLt).1 (ix2 r (ln u e)) : EReal) = (∑ k, hS m c t u r k * hK m c t u k e) * cS := by
    by_cases h0 : t.val % 8 = 0
    · exact dq_A m c t h0 (by omega) r u e
    · by_cases h1 : t.val % 8 = 7
      · exact dq_C m c t h0 h1 r u e
      · exact dq_B m c t h0 h1 r u e
  rw [h, dqV]
  simp only [hS_eq]
  unfold hK
  simp only [blk_k]

theorem dk_at (c : Dev nD) (t : Fin cfg0.N) (h : t.val % 8 = 7) (k : Fin 2048) (u : Fin 4) (e : Fin 128) :
    ((outsAt0 m c t.val t.isLt).2.1 (ix2 k (ln u e)) : EReal) = dkV m c (bOf t) (hOf t u) k e := by
  rw [dk_C m c t (by omega) h, acK m c k u e 7 t h, tileSum_all, dkV]

theorem dv_at (c : Dev nD) (t : Fin cfg0.N) (h : t.val % 8 = 7) (k : Fin 2048) (u : Fin 4) (e : Fin 128) :
    ((outsAt0 m c t.val t.isLt).2.2.1 (ix2 k (ln u e)) : EReal) = dvV m c (bOf t) (hOf t u) k e := by
  rw [dv_C m c t (by omega) h, acV m c k u e 7 t h, tileSum_all, dvV]

/-- A column of a block is a lane of one of its four heads. -/
theorem col (j : Fin 512) : ∃ (u : Fin 4) (e : Fin 128), j = ln u e :=
  ⟨⟨j.val / 128, by omega⟩, ⟨j.val % 128, by omega⟩, by rw [ln_eq]; exact Fin.ext (by dsimp only; omega)⟩

theorem dq_arr (c : Dev nD) : (dats m 0 c).arrAt 6 cfg0.N = flatG (dqV m c) := by
  refine (dats m 0 c).arrAt_eq_of_covers 6 _ (by decide +kernel) fun t hf y => ?_
  obtain ⟨k, j, rfl⟩ : ∃ (k : Fin 256) (j : Fin 512), y = ix2 k j := ⟨y 0, y 1, eq_ix2 y⟩
  obtain ⟨u, e, rfl⟩ := col j
  have key := dq_at m c t k u e
  rw [ln_eq] at key ⊢
  have key := key.trans (flatG_eq (dqV m c) ((win0_6.blk t).view.emb (ix2 k ⟨u.val * 128 + e.val, by omega⟩)) _ _ _ _
    (by blk_simp [idx t]; dsimp only [bOf, sOf]; omega) (by blk_simp [idx t]; dsimp only [hOf]; omega)).symm
  blk_simp
  rw [after0_6]
  exact key

theorem dk_arr (c : Dev nD) : (dats m 0 c).arrAt 7 cfg0.N = flatG (dkV m c) := by
  refine (dats m 0 c).arrAt_eq_of_covers 7 _ (by decide +kernel) fun t hf y => ?_
  obtain ⟨k, j, rfl⟩ : ∃ (k : Fin 2048) (j : Fin 512), y = ix2 k j := ⟨y 0, y 1, eq_ix2 y⟩
  obtain ⟨u, e, rfl⟩ := col j
  have key := dk_at m c t ((flush0_7 t).1 hf) k u e
  rw [ln_eq] at key ⊢
  have key := key.trans (flatG_eq (dkV m c) ((win0_7.blk t).view.emb (ix2 k ⟨u.val * 128 + e.val, by omega⟩)) _ _ _ _
    (by blk_simp [idx t]; dsimp only [bOf]; omega) (by blk_simp [idx t]; dsimp only [hOf]; omega)).symm
  blk_simp
  rw [after0_7]
  exact key

theorem dv_arr (c : Dev nD) : (dats m 0 c).arrAt 8 cfg0.N = flatG (dvV m c) := by
  refine (dats m 0 c).arrAt_eq_of_covers 8 _ (by decide +kernel) fun t hf y => ?_
  obtain ⟨k, j, rfl⟩ : ∃ (k : Fin 2048) (j : Fin 512), y = ix2 k j := ⟨y 0, y 1, eq_ix2 y⟩
  obtain ⟨u, e, rfl⟩ := col j
  have key := dv_at m c t ((flush0_8 t).1 hf) k u e
  rw [ln_eq] at key ⊢
  have key := key.trans (flatG_eq (dvV m c) ((win0_8.blk t).view.emb (ix2 k ⟨u.val * 128 + e.val, by omega⟩)) _ _ _ _
    (by blk_simp [idx t]; dsimp only [bOf]; omega) (by blk_simp [idx t]; dsimp only [hOf]; omega)).symm
  blk_simp
  rw [after0_8]
  exact key

end Cert.Kernel3Ideal.Value
-- ==== Proof.MlaReference.lean ====
module

public import proofs.«01_k».proof.Proof.Gen.Reference3Ideal.Run
public import proofs.«01_k».proof.Proof.RowMax
public import Idealize.ShloMosaic.Lib.Pointwise

@[expose] public section

set_option maxRecDepth 16384

/-! The reference's gradients of the latent attention, read at an index. -/

noncomputable section

open Idealize.ShloMosaic Idealize.ShloMosaic.TcCoe Idealize.SL.Sem

namespace Cert.Reference3Ideal.Value
open Cert.Reference3Ideal Cert.Reference3Ideal.Gen

variable (A0 : FVec Ideal S2x2048x8x64 .f32) (A1 : FVec Ideal S2x2048x8x32 .f32) (A2 : FVec Ideal S2x2048x8x64 .f32) (A3 : FVec Ideal S2x2048x8x32 .f32)
  (A4 A5 : FVec Ideal S2x2048x8x64 .f32)

/-! ## The arrays of the derivative, one by one -/

/-- The cotangent, its rows last. -/
def xd : FVec Ideal S2x8x64x2048 .f32 := transpose S2x8x64x2048 [0, 2, 3, 1] A5 transposes_S2x2048x8x64_S2x8x64x2048_0_2_3_1

/-- The root the scores are divided by. -/
def root : FVec Ideal S2x8x2048x2048 .f32 := broadcastInDim S2x8x2048x2048 ![] bcast_S_S2x8x2048x2048 (Host.sqrt (constant S_ .f32 0x42C00000#32))

/-- The scores, their largest of a row, and the numerators and denominators of softmax. -/
def score : FVec Ideal S2x8x2048x2048 .f32 :=
  Host.divf (addf (Host.dotGeneral dot_S2x2048x8x64_S2x2048x8x64_S2x8x2048x2048_3_3_1_1_02_02 none A0 A2)
    (Host.dotGeneral dot_S2x2048x8x32_S2x2048x8x32_S2x8x2048x2048_3_3_1_1_02_02 none A1 A3)) root
def red : FVec Ideal S2x8x2048 .f32 :=
  Host.reduce FloatOps.maximumf (score A0 A1 A2 A3) (constant S_ .f32 0xFF800000#32) reducesTo_S2x8x2048x2048_S2x8x2048_d3 h_S_
def top : FVec Ideal S2x8x2048 .f32 := maximumf (broadcastInDim S2x8x2048 ![] bcast_S_S2x8x2048 (constant S_ .f32 0xFF800000#32)) (red A0 A1 A2 A3)
def ex : FVec Ideal S2x8x2048x2048 .f32 :=
  Host.exp (subf (score A0 A1 A2 A3) (broadcastInDim S2x8x2048x2048 ![0, 1, 2, 3] bcast_S2x8x2048x1_S2x8x2048x2048_0_1_2_3
    (broadcastInDim S2x8x2048x1 ![0, 1, 2] bcast_S2x8x2048_S2x8x2048x1_0_1_2 (top A0 A1 A2 A3))))
def den : FVec Ideal S2x8x2048x1 .f32 :=
  broadcastInDim S2x8x2048x1 ![0, 1, 2] bcast_S2x8x2048_S2x8x2048x1_0_1_2
    (Host.reduceAdd (ex A0 A1 A2 A3) (constant S_ .f32 0x00000000#32) reducesTo_S2x8x2048x2048_S2x8x2048_d3 h_S_)

/-- The products of the cotangent with the values. -/
def dpv : FVec Ideal S2x8x2048x2048 .f32 := Host.dotGeneral dot_S2x8x64x2048_S2x2048x8x64_S2x8x2048x2048_2_3_3_1_01_02 none (xd A5) A4

/-- The scores' cotangent, of the arrays it is made of. -/
def dscOf (P E : FVec Ideal S2x8x2048x2048 .f32) (D : FVec Ideal S2x8x2048x1 .f32) : FVec Ideal S2x8x2048x2048 .f32 :=
  Host.divf (mulf (addf (Host.divf P (broadcastInDim S2x8x2048x2048 ![0, 1, 2, 3] bcast_S2x8x2048x1_S2x8x2048x2048_0_1_2_3 D))
    (broadcastInDim S2x8x2048x2048 ![0, 1, 2] bcast_S2x8x2048_S2x8x2048x2048_0_1_2 (Host.reduceAdd (Host.negf (shapeCast _ (Host.reduceAdd
      (mulf (mulf P (broadcastInDim S2x8x2048x2048 ![0, 1, 2, 3] bcast_S2x8x2048x1_S2x8x2048x2048_0_1_2_3
        (Host.divf (broadcastInDim S2x8x2048x1 ![] bcast_S_S2x8x2048x1 (constant S_ .f32 0x3F800000#32)) (mulf D D)))) E)
        (constant S_ .f32 0x00000000#32) reducesTo_S2x8x2048x2048_S2x8x2048_d3 h_S_) shapeCasts_S2x8x2048_S2x8x2048x1))
      (constant S_ .f32 0x00000000#32) reducesTo_S2x8x2048x1_S2x8x2048_d3 h_S_))) E) root
def dsc : FVec Ideal S2x8x2048x2048 .f32 := dscOf (dpv A4 A5) (ex A0 A1 A2 A3) (den A0 A1 A2 A3)

/-- The lanes of a head: the plain ones, the rotary ones, zeros; or zeros, then the value's. -/
def pack3 (X : FVec Ideal S2x2048x8x64 .f32) (Y : FVec Ideal S2x2048x8x32 .f32) : FVec Ideal S4096x1024 .bf16 :=
  truncf .bf16 (shapeCast _ (concatenate S2x2048x8x128 3 [⟨S2x2048x8x64, X⟩, ⟨S2x2048x8x32, Y⟩, ⟨S2x2048x8x32, broadcastInDim S2x2048x8x32 ![] bcast_S_S2x2048x8x32 (constant S_ .f32 0x00000000#32)⟩]
    concatenates_S2x2048x8x64_S2x2048x8x32_S2x2048x8x32_S2x2048x8x128_d3) shapeCasts_S2x2048x8x128_S4096x1024) bitsLt_bf16_f32
def pack2 (X : FVec Ideal S2x2048x8x64 .f32) : FVec Ideal S4096x1024 .bf16 :=
  truncf .bf16 (shapeCast _ (concatenate S2x2048x8x128 3 [⟨S2x2048x8x64, broadcastInDim S2x2048x8x64 ![] bcast_S_S2x2048x8x64 (constant S_ .f32 0x00000000#32)⟩, ⟨S2x2048x8x64, X⟩]
    concatenates_S2x2048x8x64_S2x2048x8x64_S2x2048x8x128_d3) shapeCasts_S2x2048x8x128_S4096x1024) bitsLt_bf16_f32

/-- A gradient's parts, of the scores' cotangent and the other factor. -/
def dqn (X : FVec Ideal S2x8x2048x2048 .f32) (Y : FVec Ideal S2x2048x8x64 .f32) : FVec Ideal S2x2048x8x64 .f32 :=
  transpose S2x2048x8x64 [0, 2, 1, 3] (Host.dotGeneral dot_S2x8x2048x2048_S2x2048x8x64_S2x8x2048x64_3_1_2_3_01_02 none X Y : FVec Ideal S2x8x2048x64 .f32) transposes_S2x8x2048x64_S2x2048x8x64_0_2_1_3
def dqr (X : FVec Ideal S2x8x2048x2048 .f32) (Y : FVec Ideal S2x2048x8x32 .f32) : FVec Ideal S2x2048x8x32 .f32 :=
  transpose S2x2048x8x32 [0, 2, 1, 3] (Host.dotGeneral dot_S2x8x2048x2048_S2x2048x8x32_S2x8x2048x32_3_1_2_3_01_02 none X Y : FVec Ideal S2x8x2048x32 .f32) transposes_S2x8x2048x32_S2x2048x8x32_0_2_1_3
def dkn (X : FVec Ideal S2x8x2048x2048 .f32) (Y : FVec Ideal S2x2048x8x64 .f32) : FVec Ideal S2x2048x8x64 .f32 :=
  transpose S2x2048x8x64 [0, 2, 1, 3] (Host.dotGeneral dot_S2x8x2048x2048_S2x2048x8x64_S2x8x2048x64_2_1_3_3_01_02 none X Y : FVec Ideal S2x8x2048x64 .f32) transposes_S2x8x2048x64_S2x2048x8x64_0_2_1_3
def dkr (X : FVec Ideal S2x8x2048x2048 .f32) (Y : FVec Ideal S2x2048x8x32 .f32) : FVec Ideal S2x2048x8x32 .f32 :=
  transpose S2x2048x8x32 [0, 2, 1, 3] (Host.dotGeneral dot_S2x8x2048x2048_S2x2048x8x32_S2x8x2048x32_2_1_3_3_01_02 none X Y : FVec Ideal S2x8x2048x32 .f32) transposes_S2x8x2048x32_S2x2048x8x32_0_2_1_3
def dvv (Y : FVec Ideal S2x8x64x2048 .f32) (Z : FVec Ideal S2x8x2048x2048 .f32) (X : FVec Ideal S2x8x2048x1 .f32) : FVec Ideal S2x2048x8x64 .f32 :=
  transpose S2x2048x8x64 [0, 3, 1, 2] (Host.dotGeneral dot_S2x8x64x2048_S2x8x2048x2048_S2x8x64x2048_3_2_2_3_01_01 none
    Y (Host.divf Z (broadcastInDim S2x8x2048x2048 ![0, 1, 2, 3] bcast_S2x8x2048x1_S2x8x2048x2048_0_1_2_3 X)) : FVec Ideal S2x8x64x2048 .f32) transposes_S2x8x64x2048_S2x2048x8x64_0_3_1_2

/-- The three results. -/
def out0 : FVec Ideal S4096x1024 .bf16 := pack3 (dqn (dsc A0 A1 A2 A3 A4 A5) A2) (dqr (dsc A0 A1 A2 A3 A4 A5) A3)
def out1 : FVec Ideal S4096x1024 .bf16 := pack3 (dkn (dsc A0 A1 A2 A3 A4 A5) A0) (dkr (dsc A0 A1 A2 A3 A4 A5) A1)
def out2 : FVec Ideal S4096x1024 .bf16 := pack2 (dvv (xd A5) (ex A0 A1 A2 A3) (den A0 A1 A2 A3))

theorem res0 (m : (ℓ : Loc nD τ sig) → Buf (Elt Ideal) ℓ) (c : Dev nD) : res_main_v66 m c = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v66 out0 pack3 dqn dqr dsc dscOf dpv den ex top red score root xd
  rfl
theorem res1 (m : (ℓ : Loc nD τ sig) → Buf (Elt Ideal) ℓ) (c : Dev nD) : res_main_v69 m c = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold res_main_v69 out1 pack3 dkn dkr dsc dscOf dpv den ex top red score root xd
  rfl

/-! ## At an index -/

/-- The root of 96. -/
def cR : EReal := Ideal.sqrt (Ideal.ofBits .f32 0x42C00000#32)

theorem xd_at (b : Fin 2) (h : Fin 8) (s : Fin 2048) (e : Fin 64) : (xd A5 (ix4 b h e s) : EReal) = A5 (ix4 b s h e) := by
  pointwise [xd]
theorem root_at (b : Fin 2) (h : Fin 8) (s k : Fin 2048) : (root (ix4 b h s k) : EReal) = cR := rfl

def rs (b : Fin 2) (h : Fin 8) (s k : Fin 2048) : EReal :=
  Ideal.div (∑ e, A0 (ix4 b s h e) * A2 (ix4 b k h e) + ∑ e, A1 (ix4 b s h e) * A3 (ix4 b k h e)) cR
theorem score_at (b : Fin 2) (h : Fin 8) (s k : Fin 2048) : (score A0 A1 A2 A3 (ix4 b h s k) : EReal) = rs A0 A1 A2 A3 b h s k := by
  unfold score rs
  rw [← root_at b h s k]
  generalize root = Z
  pointwise

def rt (b : Fin 2) (h : Fin 8) (s : Fin 2048) : EReal := top A0 A1 A2 A3 (ix3 b h s)
theorem top_form (X : FVec Ideal S2x8x2048 .f32) (i : S2x8x2048.Idx) :
    (maximumf (broadcastInDim S2x8x2048 ![] bcast_S_S2x8x2048 (constant S_ .f32 0xFF800000#32)) X i : EReal)
      = max (Ideal.ofBits .f32 0xFF800000#32) (X i : EReal) := rfl
theorem rt_eq (b : Fin 2) (h : Fin 8) (s : Fin 2048) : rt A0 A1 A2 A3 b h s = max ⊥ (red A0 A1 A2 A3 (ix3 b h s)) := by
  rw [← RowMax.cBot]
  exact top_form (red A0 A1 A2 A3) (ix3 b h s)

def rx (b : Fin 2) (h : Fin 8) (s k : Fin 2048) : EReal := Ideal.exp (rs A0 A1 A2 A3 b h s k - rt A0 A1 A2 A3 b h s)
theorem ex_at (b : Fin 2) (h : Fin 8) (s k : Fin 2048) : (ex A0 A1 A2 A3 (ix4 b h s k) : EReal) = rx A0 A1 A2 A3 b h s k := by
  unfold ex rx rt
  rw [← score_at]
  generalize score A0 A1 A2 A3 = X
  generalize top A0 A1 A2 A3 = Y
  pointwise

theorem den_at (b : Fin 2) (h : Fin 8) (s : Fin 2048) (z : Fin 1) : (den A0 A1 A2 A3 (ix4 b h s z) : EReal) = ∑ k, rx A0 A1 A2 A3 b h s k := by
  unfold den
  simp only [← ex_at]
  generalize ex A0 A1 A2 A3 = X
  pointwise

theorem dpv_at (b : Fin 2) (h : Fin 8) (s k : Fin 2048) : (dpv A4 A5 (ix4 b h s k) : EReal) = ∑ e, A5 (ix4 b s h e) * A4 (ix4 b k h e) := by
  unfold dpv
  simp only [← xd_at A5]
  generalize xd A5 = X
  pointwise

theorem dscOf_at (P E : FVec Ideal S2x8x2048x2048 .f32) (D : FVec Ideal S2x8x2048x1 .f32) (b : Fin 2) (h : Fin 8) (s k : Fin 2048) :
    (dscOf P E D (ix4 b h s k) : EReal) = Ideal.div ((Ideal.div (P (ix4 b h s k)) (D (ix4 b h s 0))
      + ∑ _i : Fin 1, -∑ l, P (ix4 b h s l) * Ideal.div 1 (D (ix4 b h s 0) * D (ix4 b h s 0)) * E (ix4 b h s l)) * E (ix4 b h s k)) cR := by
  unfold dscOf
  rw [← root_at b h s k]
  generalize root = Z
  pointwise

def rds (b : Fin 2) (h : Fin 8) (s k : Fin 2048) : EReal :=
  Ideal.div ((Ideal.div (∑ e, A5 (ix4 b s h e) * A4 (ix4 b k h e)) (∑ k, rx A0 A1 A2 A3 b h s k)
    + ∑ _i : Fin 1, -∑ l, (∑ e, A5 (ix4 b s h e) * A4 (ix4 b l h e)) * Ideal.div 1 ((∑ k, rx A0 A1 A2 A3 b h s k) * ∑ k, rx A0 A1 A2 A3 b h s k) * rx A0 A1 A2 A3 b h s l) * rx A0 A1 A2 A3 b h s k) cR
theorem dsc_at (b : Fin 2) (h : Fin 8) (s k : Fin 2048) : (dsc A0 A1 A2 A3 A4 A5 (ix4 b h s k) : EReal) = rds A0 A1 A2 A3 A4 A5 b h s k := by
  unfold dsc
  rw [dscOf_at, den_at]
  simp only [dpv_at, ex_at]
  rfl

/-- The packed lanes at an index. -/
theorem pack3_at (X : FVec Ideal S2x2048x8x64 .f32) (Y : FVec Ideal S2x2048x8x32 .f32) (b : Fin 2) (h : Fin 8) (s : Fin 2048) (e : Fin 128) :
    (pack3 X Y (ix2 ⟨b.val * 2048 + s.val, by omega⟩ ⟨h.val * 128 + e.val, by omega⟩) : EReal)
      = if h0 : e.val < 64 then X (ix4 b s h ⟨e.val, h0⟩) else if h1 : e.val - 64 < 32 then Y (ix4 b s h ⟨e.val - 64, h1⟩) else 0 := by
  unfold pack3
  pointwise
theorem pack2_at (X : FVec Ideal S2x2048x8x64 .f32) (b : Fin 2) (h : Fin 8) (s : Fin 2048) (e : Fin 128) :
    (pack2 X (ix2 ⟨b.val * 2048 + s.val, by omega⟩ ⟨h.val * 128 + e.val, by omega⟩) : EReal)
      = if h0 : e.val < 64 then 0 else X (ix4 b s h ⟨e.val - 64, by omega⟩) := by
  unfold pack2
  pointwise

theorem dqn_at (X : FVec Ideal S2x8x2048x2048 .f32) (Y : FVec Ideal S2x2048x8x64 .f32) (b : Fin 2) (h : Fin 8) (s : Fin 2048) (e : Fin 64) :
    (dqn X Y (ix4 b s h e) : EReal) = ∑ k, X (ix4 b h s k) * Y (ix4 b k h e) := by
  unfold dqn
  pointwise
theorem dqr_at (X : FVec Ideal S2x8x2048x2048 .f32) (Y : FVec Ideal S2x2048x8x32 .f32) (b : Fin 2) (h : Fin 8) (s : Fin 2048) (e : Fin 32) :
    (dqr X Y (ix4 b s h e) : EReal) = ∑ k, X (ix4 b h s k) * Y (ix4 b k h e) := by
  unfold dqr
  pointwise
theorem dkn_at (X : FVec Ideal S2x8x2048x2048 .f32) (Y : FVec Ideal S2x2048x8x64 .f32) (b : Fin 2) (h : Fin 8) (k : Fin 2048) (e : Fin 64) :
    (dkn X Y (ix4 b k h e) : EReal) = ∑ s, X (ix4 b h s k) * Y (ix4 b s h e) := by
  unfold dkn
  pointwise
theorem dkr_at (X : FVec Ideal S2x8x2048x2048 .f32) (Y : FVec Ideal S2x2048x8x32 .f32) (b : Fin 2) (h : Fin 8) (k : Fin 2048) (e : Fin 32) :
    (dkr X Y (ix4 b k h e) : EReal) = ∑ s, X (ix4 b h s k) * Y (ix4 b s h e) := by
  unfold dkr
  pointwise
theorem dvv_at (Y : FVec Ideal S2x8x64x2048 .f32) (Z : FVec Ideal S2x8x2048x2048 .f32) (X : FVec Ideal S2x8x2048x1 .f32) (b : Fin 2) (h : Fin 8) (k : Fin 2048) (e : Fin 64) :
    (dvv Y Z X (ix4 b k h e) : EReal) = ∑ s, Y (ix4 b h e s) * Ideal.div (Z (ix4 b h s k)) (X (ix4 b h s 0)) := by
  unfold dvv
  pointwise

/-- The three results at an index. -/
theorem out0_at (b : Fin 2) (h : Fin 8) (s : Fin 2048) (e : Fin 128) :
    (out0 A0 A1 A2 A3 A4 A5 (ix2 ⟨b.val * 2048 + s.val, by omega⟩ ⟨h.val * 128 + e.val, by omega⟩) : EReal)
      = if h0 : e.val < 64 then ∑ k, rds A0 A1 A2 A3 A4 A5 b h s k * A2 (ix4 b k h ⟨e.val, h0⟩)
        else if h1 : e.val - 64 < 32 then ∑ k, rds A0 A1 A2 A3 A4 A5 b h s k * A3 (ix4 b k h ⟨e.val - 64, h1⟩) else 0 := by
  refine (pack3_at _ _ b h s e).trans ?_
  simp only [dqn_at, dqr_at, dsc_at]
theorem out1_at (b : Fin 2) (h : Fin 8) (k : Fin 2048) (e : Fin 128) :
    (out1 A0 A1 A2 A3 A4 A5 (ix2 ⟨b.val * 2048 + k.val, by omega⟩ ⟨h.val * 128 + e.val, by omega⟩) : EReal)
      = if h0 : e.val < 64 then ∑ s, rds A0 A1 A2 A3 A4 A5 b h s k * A0 (ix4 b s h ⟨e.val, h0⟩)
        else if h1 : e.val - 64 < 32 then ∑ s, rds A0 A1 A2 A3 A4 A5 b h s k * A1 (ix4 b s h ⟨e.val - 64, h1⟩) else 0 := by
  refine (pack3_at _ _ b h k e).trans ?_
  simp only [dkn_at, dkr_at, dsc_at]
theorem out2_at (b : Fin 2) (h : Fin 8) (k : Fin 2048) (e : Fin 128) :
    (out2 A0 A1 A2 A3 A5 (ix2 ⟨b.val * 2048 + k.val, by omega⟩ ⟨h.val * 128 + e.val, by omega⟩) : EReal)
      = if h0 : e.val < 64 then 0
        else ∑ s, A5 (ix4 b s h ⟨e.val - 64, by omega⟩) * Ideal.div (rx A0 A1 A2 A3 b h s k) (∑ l, rx A0 A1 A2 A3 b h s l) := by
  refine (pack2_at _ b h k e).trans ?_
  simp only [dvv_at, den_at, xd_at, ex_at]

end Cert.Reference3Ideal.Value
-- ==== Proof.MlaReal.lean ====
module

public import proofs.«01_k».proof.Proof.MlaFold
public import proofs.«01_k».proof.Proof.MlaReference
public import proofs.«01_k».proof.Proof.AttnMath

@[expose] public section

set_option maxRecDepth 16384

/-! The latent attention's gradients where the arguments are real: the kernel's and the reference's are the same reals. -/

noncomputable section

open Idealize.ShloMosaic Idealize.ShloMosaic.TcCoe Idealize.SL.Sem

namespace Cert.Mla
open Cert.Reals Cert.AttnMath

/-- The root the scores are divided by. -/
def rt : ℝ := Real.sqrt 96
theorem rt_ne : rt ≠ 0 := (Real.sqrt_pos.2 (by norm_num)).ne'

theorem c96 : Ideal.ofBits .f32 0x42C00000#32 = ((96 : ℝ) : EReal) := by
  simp [Ideal.ofBits, Ideal.ieee, -EReal.coe_mul]; norm_num
theorem root_real : Ideal.sqrt (Ideal.ofBits .f32 0x42C00000#32) = ((rt : ℝ) : EReal) := by
  rw [c96, Ideal.sqrt_coe, if_neg (by norm_num)]; rfl

/-- The factor of the queries. -/
theorem qs_real : Kernel3Ideal.Value.qs = ((1 / (rt * Real.log 2) : ℝ) : EReal) := by
  unfold Kernel3Ideal.Value.qs
  rw [root_real, log_two, ← EReal.coe_mul, show (1 : EReal) = ((1 : ℝ) : EReal) from rfl, div_real _ _ (mul_ne_zero rt_ne log2_pos.ne')]

/-- The lanes of a head: 64 plain ones, 32 rotary ones, zeros; and 64 zeros, then 64 of the value. -/
def p3 (x : Fin 64 → ℝ) (y : Fin 32 → ℝ) (e : Fin 128) : ℝ := if h : e.val < 64 then x ⟨e.val, h⟩ else if h' : e.val - 64 < 32 then y ⟨e.val - 64, h'⟩ else 0
def p2 (x : Fin 64 → ℝ) (e : Fin 128) : ℝ := if h : e.val < 64 then 0 else x ⟨e.val - 64, by omega⟩

/-- A product of packed lanes summed is the sum over the plain and the rotary ones, or over the value's. -/
theorem p3_sum (x x' : Fin 64 → ℝ) (y y' : Fin 32 → ℝ) : ∑ e, p3 x y e * p3 x' y' e = ∑ e, x e * x' e + ∑ e, y e * y' e := by
  rw [Fin.sum_univ_two_halves 64 64 rfl fun e : Fin 128 => p3 x y e * p3 x' y' e]
  refine congrArg₂ _ (Finset.sum_congr rfl fun e _ => by simp [p3]) ?_
  rw [Fin.sum_univ_two_halves 32 32 rfl]
  simp [p3]
theorem p2_sum (x x' : Fin 64 → ℝ) : ∑ e, p2 x e * p2 x' e = ∑ e, x e * x' e := by
  rw [Fin.sum_univ_two_halves 64 64 rfl]
  simp [p2]

/-- A sum of packed lanes is packed of the sums. -/
theorem sum_p3 {K : Type} [Fintype K] (w : K → ℝ) (x : K → Fin 64 → ℝ) (y : K → Fin 32 → ℝ) (e : Fin 128) :
    ∑ k, w k * p3 (x k) (y k) e = p3 (fun e => ∑ k, w k * x k e) (fun e => ∑ k, w k * y k e) e := by
  unfold p3
  split_ifs <;> simp
theorem sum_p2 {K : Type} [Fintype K] (w : K → ℝ) (x : K → Fin 64 → ℝ) (e : Fin 128) : ∑ k, w k * p2 (x k) e = p2 (fun e => ∑ k, w k * x k e) e := by
  unfold p2
  split_ifs <;> simp

/-- The same packed in the extended reals. -/
theorem coe_p3 (x : Fin 64 → EReal) (y : Fin 32 → EReal) (x' : Fin 64 → ℝ) (y' : Fin 32 → ℝ) (hx : ∀ e, x e = ((x' e : ℝ) : EReal)) (hy : ∀ e, y e = ((y' e : ℝ) : EReal)) (e : Fin 128) :
    (if h : e.val < 64 then x ⟨e.val, h⟩ else if h' : e.val - 64 < 32 then y ⟨e.val - 64, h'⟩ else 0) = ((p3 x' y' e : ℝ) : EReal) := by
  unfold p3
  split_ifs <;> simp [hx, hy]
theorem coe_p2 (x : Fin 64 → EReal) (x' : Fin 64 → ℝ) (hx : ∀ e, x e = ((x' e : ℝ) : EReal)) (e : Fin 128) :
    (if h : e.val < 64 then 0 else x ⟨e.val - 64, by omega⟩) = ((p2 x' e : ℝ) : EReal) := by
  unfold p2
  split_ifs <;> simp [hx]

variable (q k v d : Fin 2 → Fin 8 → Fin 2048 → Fin 128 → ℝ)

/-- The scores of a row, and the products of its cotangent with the values. -/
def x (b : Fin 2) (h : Fin 8) (s : Fin 2048) (j : Fin 2048) : ℝ := (∑ e, q b h s e * k b h j e) / rt
def dp (b : Fin 2) (h : Fin 8) (s : Fin 2048) (j : Fin 2048) : ℝ := ∑ e, d b h s e * v b h j e

/-! ## The kernel -/
section Kernel
open Cert.Kernel3Ideal Cert.Kernel3Ideal.Value
variable (m : (ℓ : Loc nD τ sig) → Buf (Elt Ideal) ℓ) (c : Dev nD)

theorem qkPk_at (A : FVec Ideal S2x2048x8x64 .f32) (B : FVec Ideal S2x2048x8x32 .f32) (b : Fin 2) (h : Fin 8) (s : Fin 2048) (e : Fin 128) :
    (qkPk A B (ix4 b s h e) : EReal) = if h0 : e.val < 64 then A (ix4 b s h ⟨e.val, h0⟩) else if h1 : e.val - 64 < 32 then B (ix4 b s h ⟨e.val - 64, h1⟩) else 0 := by
  unfold qkPk
  pointwise
theorem vdPk_at (A : FVec Ideal S2x2048x8x64 .f32) (b : Fin 2) (h : Fin 8) (s : Fin 2048) (e : Fin 128) :
    (vdPk A (ix4 b s h e) : EReal) = if h0 : e.val < 64 then 0 else A (ix4 b s h ⟨e.val - 64, by omega⟩) := by
  unfold vdPk
  pointwise

/-- The packed arguments are these reals. -/
structure Args : Prop where
  q : ∀ b h s e, aq m c b h s e = ((q b h s e : ℝ) : EReal)
  k : ∀ b h s e, ak m c b h s e = ((k b h s e : ℝ) : EReal)
  v : ∀ b h s e, av m c b h s e = ((v b h s e : ℝ) : EReal)
  d : ∀ b h s e, ad m c b h s e = ((d b h s e : ℝ) : EReal)

variable {q k v d m c} (A : Args q k v d m c)
include A

theorem sc_real (b : Fin 2) (h : Fin 8) (s j : Fin 2048) : sc m c b h s j = ((x q k b h s j / Real.log 2 : ℝ) : EReal) := by
  unfold sc
  simp only [A.q, A.k, qs_real, ← EReal.coe_mul, coe_sum]
  congr 1
  rw [x, Finset.sum_div, Finset.sum_div]
  refine Finset.sum_congr rfl fun e _ => ?_
  have h1 := rt_ne
  have h2 := log2_pos.ne'
  field_simp

theorem mx_real (b : Fin 2) (h : Fin 8) (s : Fin 2048) : ∃ M : ℝ, mx m c b h s = (M : EReal) := by
  unfold mx
  exact RowMax.real (by norm_num) (scArr m c) _ (fun _ => RowMax.cBot) _ _ b s h fun j => ⟨_, (sc_at m c b h s j).trans (sc_real A b h s j)⟩

theorem pw_real (b : Fin 2) (h : Fin 8) (s j : Fin 2048) : pw m c b h s j = ((soft (x q k b h s) j : ℝ) : EReal) := by
  obtain ⟨M, hM⟩ := mx_real A b h s
  have e : ∑ e, aq m c b h s e * qs * ak m c b h j e = sc m c b h s j := Finset.sum_congr rfl fun e _ => mul_comm _ _
  unfold pw lseV pt
  rw [e, hM]
  exact prob_real (x q k b h s) M (sc m c b h s) (sc_real A b h s) j

theorem o_real (b : Fin 2) (h : Fin 8) (s : Fin 2048) (e : Fin 128) : oV m c b h s e = ((∑ j, soft (x q k b h s) j * v b h j e : ℝ) : EReal) := by
  obtain ⟨M, hM⟩ := mx_real A b h s
  unfold oV pt
  rw [hM]
  simp only [A.v]
  exact out_real (x q k b h s) (fun j => v b h j e) M (sc m c b h s) (sc_real A b h s)

theorem dw_real (b : Fin 2) (h : Fin 8) (s j : Fin 2048) : dw m c b h s j = ((dscore (x q k b h s) (dp v d b h s) j : ℝ) : EReal) := by
  unfold dw
  simp only [pw_real A, o_real A, A.d, A.v, ← EReal.coe_mul, coe_sum, ← EReal.coe_sub]
  rw [delta_eq]
  rfl

theorem dq_real (b : Fin 2) (h : Fin 8) (s : Fin 2048) (e : Fin 128) :
    dqV m c b h s e = ((∑ j, dscore (x q k b h s) (dp v d b h s) j / rt * k b h j e : ℝ) : EReal) := by
  unfold dqV
  rw [show cS = ((rt⁻¹ : ℝ) : EReal) from rfl]
  simp only [dw_real A, A.k, ← EReal.coe_mul, coe_sum]
  rw [scale_after]

theorem dk_real (b : Fin 2) (h : Fin 8) (j : Fin 2048) (e : Fin 128) :
    dkV m c b h j e = ((∑ s, dscore (x q k b h s) (dp v d b h s) j / rt * q b h s e : ℝ) : EReal) := by
  unfold dkV
  rw [show cL = ((Real.log 2 : ℝ) : EReal) from rfl]
  simp only [dw_real A, A.q, qs_real, ← EReal.coe_mul, coe_sum]
  rw [scale_before rt (fun s => dscore (x q k b h s) (dp v d b h s) j) fun s => q b h s e]

theorem dv_real (b : Fin 2) (h : Fin 8) (j : Fin 2048) (e : Fin 128) :
    dvV m c b h j e = ((∑ s, soft (x q k b h s) j * d b h s e : ℝ) : EReal) := by
  unfold dvV
  simp only [pw_real A, A.d, ← EReal.coe_mul, coe_sum]

end Kernel

/-! ## The reference -/
section Reference
open Cert.Reference3Ideal Cert.Reference3Ideal.Value
variable (qn kn vv dd : Fin 2 → Fin 8 → Fin 2048 → Fin 64 → ℝ) (qr kr : Fin 2 → Fin 8 → Fin 2048 → Fin 32 → ℝ)
variable (A0 : FVec Ideal S2x2048x8x64 .f32) (A1 : FVec Ideal S2x2048x8x32 .f32) (A2 : FVec Ideal S2x2048x8x64 .f32) (A3 : FVec Ideal S2x2048x8x32 .f32)
  (A4 A5 : FVec Ideal S2x2048x8x64 .f32)

/-- The arguments are these reals. -/
structure RefArgs : Prop where
  qn : ∀ b h s e, (A0 (ix4 b s h e) : EReal) = ((qn b h s e : ℝ) : EReal)
  qr : ∀ b h s e, (A1 (ix4 b s h e) : EReal) = ((qr b h s e : ℝ) : EReal)
  kn : ∀ b h s e, (A2 (ix4 b s h e) : EReal) = ((kn b h s e : ℝ) : EReal)
  kr : ∀ b h s e, (A3 (ix4 b s h e) : EReal) = ((kr b h s e : ℝ) : EReal)
  v : ∀ b h s e, (A4 (ix4 b s h e) : EReal) = ((vv b h s e : ℝ) : EReal)
  d : ∀ b h s e, (A5 (ix4 b s h e) : EReal) = ((dd b h s e : ℝ) : EReal)

/-- Their packed lanes. -/
abbrev pq (b : Fin 2) (h : Fin 8) (s : Fin 2048) : Fin 128 → ℝ := p3 (qn b h s) (qr b h s)
abbrev pv (b : Fin 2) (h : Fin 8) (s : Fin 2048) : Fin 128 → ℝ := p2 (vv b h s)

variable {qn kn vv dd qr kr A0 A1 A2 A3 A4 A5} (A : RefArgs qn kn vv dd qr kr A0 A1 A2 A3 A4 A5)
include A

theorem rs_real (b : Fin 2) (h : Fin 8) (s j : Fin 2048) : rs A0 A1 A2 A3 b h s j = ((x (pq qn qr) (pq kn kr) b h s j : ℝ) : EReal) := by
  unfold rs cR
  rw [root_real]
  simp only [A.qn, A.kn, A.qr, A.kr, ← EReal.coe_mul, coe_sum, ← EReal.coe_add]
  rw [div_real _ _ rt_ne, x, p3_sum]

theorem rt_real (b : Fin 2) (h : Fin 8) (s : Fin 2048) : ∃ M : ℝ, Value.rt A0 A1 A2 A3 b h s = (M : EReal) := by
  obtain ⟨M, hM⟩ : ∃ M : ℝ, red A0 A1 A2 A3 (ix3 b h s) = (M : EReal) :=
    RowMax.real (by norm_num) (score A0 A1 A2 A3) _ (fun _ => RowMax.cBot) _ _ b h s fun j => ⟨_, (score_at A0 A1 A2 A3 b h s j).trans (rs_real A b h s j)⟩
  exact ⟨M, by rw [rt_eq, hM]; simp⟩

theorem soft_real (b : Fin 2) (h : Fin 8) (s j : Fin 2048) :
    Ideal.div (rx A0 A1 A2 A3 b h s j) (∑ l, rx A0 A1 A2 A3 b h s l) = ((soft (x (pq qn qr) (pq kn kr) b h s) j : ℝ) : EReal) := by
  obtain ⟨M, hM⟩ := rt_real A b h s
  unfold rx
  simp only [rs_real A, hM]
  exact ref_soft (x (pq qn qr) (pq kn kr) b h s) M j

theorem rds_real (b : Fin 2) (h : Fin 8) (s j : Fin 2048) :
    rds A0 A1 A2 A3 A4 A5 b h s j = ((dscore (x (pq qn qr) (pq kn kr) b h s) (dp (pv vv) (pv dd) b h s) j / rt : ℝ) : EReal) := by
  obtain ⟨M, hM⟩ := rt_real A b h s
  unfold rds rx cR
  have hd : ∀ j, ∑ e, A5 (ix4 b s h e) * A4 (ix4 b j h e) = ((dp (pv vv) (pv dd) b h s j : ℝ) : EReal) := fun j => by
    simp only [A.d, A.v, ← EReal.coe_mul, coe_sum]
    rw [dp, p2_sum]
  simp only [hd, rs_real A, hM, root_real]
  exact ref_dscore (x (pq qn qr) (pq kn kr) b h s) (dp (pv vv) (pv dd) b h s) M _ rt_ne j

/-- The three results are packed lanes of the same sums. -/
theorem out0_real (b : Fin 2) (h : Fin 8) (s : Fin 2048) (e : Fin 128) :
    (out0 A0 A1 A2 A3 A4 A5 (ix2 ⟨b.val * 2048 + s.val, by omega⟩ ⟨h.val * 128 + e.val, by omega⟩) : EReal)
      = ((∑ j, dscore (x (pq qn qr) (pq kn kr) b h s) (dp (pv vv) (pv dd) b h s) j / rt * pq kn kr b h j e : ℝ) : EReal) := by
  rw [out0_at, sum_p3]
  refine coe_p3 (fun e => ∑ k, rds A0 A1 A2 A3 A4 A5 b h s k * A2 (ix4 b k h e)) (fun e => ∑ k, rds A0 A1 A2 A3 A4 A5 b h s k * A3 (ix4 b k h e)) _ _ (fun e => ?_) (fun e => ?_) e <;>
    simp only [rds_real A, A.kn, A.kr, ← EReal.coe_mul, coe_sum]
theorem out1_real (b : Fin 2) (h : Fin 8) (j : Fin 2048) (e : Fin 128) :
    (out1 A0 A1 A2 A3 A4 A5 (ix2 ⟨b.val * 2048 + j.val, by omega⟩ ⟨h.val * 128 + e.val, by omega⟩) : EReal)
      = ((∑ s, dscore (x (pq qn qr) (pq kn kr) b h s) (dp (pv vv) (pv dd) b h s) j / rt * pq qn qr b h s e : ℝ) : EReal) := by
  rw [out1_at, sum_p3]
  refine coe_p3 (fun e => ∑ s, rds A0 A1 A2 A3 A4 A5 b h s j * A0 (ix4 b s h e)) (fun e => ∑ s, rds A0 A1 A2 A3 A4 A5 b h s j * A1 (ix4 b s h e)) _ _ (fun e => ?_) (fun e => ?_) e <;>
    simp only [rds_real A, A.qn, A.qr, ← EReal.coe_mul, coe_sum]
theorem out2_real (b : Fin 2) (h : Fin 8) (j : Fin 2048) (e : Fin 128) :
    (out2 A0 A1 A2 A3 A5 (ix2 ⟨b.val * 2048 + j.val, by omega⟩ ⟨h.val * 128 + e.val, by omega⟩) : EReal)
      = ((∑ s, soft (x (pq qn qr) (pq kn kr) b h s) j * pv dd b h s e : ℝ) : EReal) := by
  rw [out2_at, sum_p2]
  refine coe_p2 (fun e => ∑ s, A5 (ix4 b s h e) * Ideal.div (rx A0 A1 A2 A3 b h s j) (∑ l, rx A0 A1 A2 A3 b h s l)) _ (fun e => ?_) e
  simp only [soft_real A, A.d, ← EReal.coe_mul, coe_sum]
  exact congrArg _ (Finset.sum_congr rfl fun s _ => mul_comm _ _)

end Reference

end Cert.Mla
-- ==== Proof.MlaPre.lean ====
module

public import proofs.«01_k».proof.Pre_fin3
public import proofs.«01_k».proof.Proof.Reals

@[expose] public section

/-! The latent attention's precondition read: its argument arrays are arrays of reals. -/

noncomputable section

namespace Cert.Pre_fin3

open Idealize.ShloMosaic Cert.Reals

instance facts : Cert.Pre_fin3.Facts := by constructor <;> decide

/-- Where the precondition holds, every argument is real. -/
theorem reals (a0 : FVec Ideal S2x2048x8x64 .f32) (a1 : FVec Ideal S2x2048x8x32 .f32) (a2 : FVec Ideal S2x2048x8x64 .f32) (a3 : FVec Ideal S2x2048x8x32 .f32)
    (a4 a5 : FVec Ideal S2x2048x8x64 .f32) (h : fn (F := Ideal) a0 a1 a2 a3 a4 a5 = fun _ => 1#1) :
    (∃ y : S2x2048x8x64.Idx → ℝ, a0 = fun i => (y i : EReal)) ∧ (∃ y : S2x2048x8x32.Idx → ℝ, a1 = fun i => (y i : EReal))
    ∧ (∃ y : S2x2048x8x64.Idx → ℝ, a2 = fun i => (y i : EReal)) ∧ (∃ y : S2x2048x8x32.Idx → ℝ, a3 = fun i => (y i : EReal))
    ∧ (∃ y : S2x2048x8x64.Idx → ℝ, a4 = fun i => (y i : EReal)) ∧ (∃ y : S2x2048x8x64.Idx → ℝ, a5 = fun i => (y i : EReal)) := by
  have e := congrFun h fun a => a.elim0
  obtain ⟨e, e5⟩ := both _ _ e
  obtain ⟨e, e4⟩ := both _ _ e
  obtain ⟨e, e3⟩ := both _ _ e
  obtain ⟨e, e2⟩ := both _ _ e
  obtain ⟨e0, e1⟩ := both _ _ e
  haveI : Subsingleton S_.Idx := ⟨fun a b => funext fun i => i.elim0⟩
  have hb : ∀ (s : Shape) (hs : S_.BroadcastsInDim s (![] : Fin 0 → Fin s.rank)) i,
      (broadcastInDim s ![] hs (constant (F := Ideal) S_ .f32 0x7F800000#32) i : EReal) = ⊤ := fun s hs i => cTop
  exact ⟨finite_of_all a0 _ (hb _ _) _ _ _ _ e0, finite_of_all a1 _ (hb _ _) _ _ _ _ e1, finite_of_all a2 _ (hb _ _) _ _ _ _ e2,
    finite_of_all a3 _ (hb _ _) _ _ _ _ e3, finite_of_all a4 _ (hb _ _) _ _ _ _ e4, finite_of_all a5 _ (hb _ _) _ _ _ _ e5⟩

end Cert.Pre_fin3
-- ==== Proof.MlaAlgebraic.lean ====
module

public import proofs.«01_k».proof.Defs
public import proofs.«01_k».proof.Proof.MlaReal
public import proofs.«01_k».proof.Proof.MlaPre
public import Idealize.ShloMosaic.Lib.Claim

@[expose] public section

set_option maxRecDepth 16384

/-! The kernel and the reference of the latent attention's gradients compute one function over the extended reals. -/

noncomputable section

namespace Cert.Mla

open Idealize.ShloMosaic Idealize.ShloMosaic.TcCoe Idealize.SL.Sem

/-- The flat row of a row of a batch is one of the array's. -/
theorem flat_lt (b : Fin 2) (s : Fin 2048) : b.val * 2048 + s.val < 4096 := by omega

/-- An element of the flat arrays is a lane of a head at a row of a batch. -/
theorem elt (i : (⟨2, ![4096, 1024]⟩ : Shape).Idx) : ∃ (b : Fin 2) (h : Fin 8) (s : Fin 2048) (e : Fin 128),
    i = ix2 ⟨b.val * 2048 + s.val, flat_lt b s⟩ ⟨h.val * 128 + e.val, by omega⟩ := by
  obtain ⟨R, q, rfl⟩ : ∃ (R : Fin 4096) (q : Fin 1024), i = ix2 R q := ⟨i 0, i 1, eq_ix2 i⟩
  refine ⟨⟨R.val / 2048, by omega⟩, ⟨q.val / 128, by omega⟩, ⟨R.val % 2048, by omega⟩, ⟨q.val % 128, by omega⟩, ?_⟩
  refine congrArg₂ ix2 (Fin.ext ?_) (Fin.ext ?_) <;> dsimp only <;> omega

/-- Two arrays that are the same function of batch, head, row and lane are equal. -/
theorem arr_eq (X : (⟨2, ![4096, 1024]⟩ : Shape).Idx → EReal) (f : Fin 2 → Fin 8 → Fin 2048 → Fin 128 → EReal) (g : Fin 2 → Fin 8 → Fin 2048 → Fin 128 → ℝ)
    (hX : ∀ (b : Fin 2) (h : Fin 8) (s : Fin 2048) (e : Fin 128), X (ix2 (⟨b.val * 2048 + s.val, flat_lt b s⟩ : Fin 4096) (⟨h.val * 128 + e.val, by omega⟩ : Fin 1024)) = ((g b h s e : ℝ) : EReal))
    (hf : ∀ b h s e, f b h s e = ((g b h s e : ℝ) : EReal)) : X = Kernel3Ideal.Value.flatG f := by
  funext i
  obtain ⟨b, h, s, e, rfl⟩ := elt i
  rw [hX, Kernel3Ideal.Value.flatG_eq f _ b h s e (by show b.val * 2048 + s.val = _; omega) rfl, hf]

set_option maxHeartbeats 2000000 in
/-- The value claim of the latent attention's gradients: of the query, the key and the value. -/
theorem algebraic : algebraic_Kernel3Ideal_Reference3Ideal_pre_fin3 := by
  pair_intro
  · run_from Cert.Kernel3Ideal.Value.run_blocks m g
  · run_from Cert.Reference3Ideal.Value.run m' g'
    all_goals
      obtain ⟨⟨y0, h0⟩, ⟨y1, h1⟩, ⟨y2, h2⟩, ⟨y3, h3⟩, ⟨y4, h4⟩, ⟨y5, h5⟩⟩ := Pre_fin3.reals _ _ _ _ _ _ (hpre c)
      have B : RefArgs (fun b h s e => y0 (ix4 b s h e)) (fun b h s e => y2 (ix4 b s h e)) (fun b h s e => y4 (ix4 b s h e)) (fun b h s e => y5 (ix4 b s h e))
          (fun b h s e => y1 (ix4 b s h e)) (fun b h s e => y3 (ix4 b s h e))
          (m (c.tc.loc Kernel3Ideal.main_arg0)) (m (c.tc.loc Kernel3Ideal.main_arg1)) (m (c.tc.loc Kernel3Ideal.main_arg2))
          (m (c.tc.loc Kernel3Ideal.main_arg3)) (m (c.tc.loc Kernel3Ideal.main_arg4)) (m (c.tc.loc Kernel3Ideal.main_arg5)) :=
        ⟨fun _ _ _ _ => congrFun h0 _, fun _ _ _ _ => congrFun h1 _, fun _ _ _ _ => congrFun h2 _, fun _ _ _ _ => congrFun h3 _,
          fun _ _ _ _ => congrFun h4 _, fun _ _ _ _ => congrFun h5 _⟩
      have A : Args _ _ _ _ m c :=
        ⟨fun b h s e => (qkPk_at _ _ b h s e).trans (coe_p3 _ _ _ _ (B.qn b h s) (B.qr b h s) e),
          fun b h s e => (qkPk_at _ _ b h s e).trans (coe_p3 _ _ _ _ (B.kn b h s) (B.kr b h s) e),
          fun b h s e => (vdPk_at _ b h s e).trans (coe_p2 _ _ (B.v b h s) e),
          fun b h s e => (vdPk_at _ b h s e).trans (coe_p2 _ _ (B.d b h s) e)⟩
    · rw [Reference3Ideal.Value.res0, (hagree c).1, (hagree c).2.1, (hagree c).2.2.1, (hagree c).2.2.2.1, (hagree c).2.2.2.2.1, (hagree c).2.2.2.2.2, Kernel3Ideal.Value.dq_arr]
      exact arr_eq _ _ _ (out0_real B) (dq_real A)
    · rw [Reference3Ideal.Value.res1, (hagree c).1, (hagree c).2.1, (hagree c).2.2.1, (hagree c).2.2.2.1, (hagree c).2.2.2.2.1, (hagree c).2.2.2.2.2, Kernel3Ideal.Value.dk_arr]
      exact arr_eq _ _ _ (out1_real B) (dk_real A)
    · rw [(hagree c).2.2.2.2.2, Kernel3Ideal.Value.dv_arr]
      exact arr_eq _ _ _ (out2_real B) (dv_real A)

end Cert.Mla
-- ==== Proof.LfwBlocks.lean ====
module

public import proofs.«01_k».proof.Proof.Gen.Kernel4Ideal.Value
public import proofs.«01_k».proof.Proof.MlaFold

@[expose] public section

set_option maxRecDepth 16384

/-! What the arrays of the latent attention's forward call hold when its region starts, and the blocks a grid point reads:
    batch `t / 16`, query tile `t / 2 % 8`, heads `4 (t % 2)` and the next three. -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen
open Cert.Kernel3Ideal.Value (qkPk vdPk qs ln ln_eq col flatG flatG_eq)
variable (m : (ℓ : Loc nD τ sig) → Buf (Elt Ideal) ℓ)

/-- The packed queries, keys and values. -/
def qPk (c : Dev nD) : FVec Ideal S2x2048x8x128 .f32 := qkPk (m (c, Proc.tc.devRef main_arg0)) (m (c, Proc.tc.devRef main_arg1))
def kPk (c : Dev nD) : FVec Ideal S2x2048x8x128 .f32 := qkPk (m (c, Proc.tc.devRef main_arg2)) (m (c, Proc.tc.devRef main_arg3))
def vPk (c : Dev nD) : FVec Ideal S2x2048x8x128 .f32 := vdPk (m (c, Proc.tc.devRef main_arg4))

/-- A lane of the query of head `h` at row `s` of batch `b`; of a key and a value. -/
def aq (c : Dev nD) (b : Fin 2) (h : Fin 8) (s : Fin 2048) (e : Fin 128) : EReal := qPk m c (ix4 b s h e)
def ak (c : Dev nD) (b : Fin 2) (h : Fin 8) (k : Fin 2048) (e : Fin 128) : EReal := kPk m c (ix4 b k h e)
def av (c : Dev nD) (b : Fin 2) (h : Fin 8) (k : Fin 2048) (e : Fin 128) : EReal := vPk m c (ix4 b k h e)

/-- The scaled queries, rounded. -/
def qArr (c : Dev nD) : FVec Ideal S2x2048x8x128 .bf16 :=
  truncf .bf16 (mulf (qPk m c) (broadcastInDim S2x2048x8x128 ![] bcast_S_S2x2048x8x128 (Host.divf (constant S_ .f32 0x3F800000#32)
      (mulf (Host.sqrt (constant S_ .f32 0x42C00000#32)) (Host.log (constant S_ .f32 0x40000000#32)))))) bitsLt_bf16_f32

theorem q_arr (c : Dev nD) : V m c main_v14 = shapeCast _ (qArr m c) shapeCasts_S2x2048x8x128_S4096x1024 := by
  dsimp only [V, hostOps0]
  after_results_simp
  rfl

theorem k_arr (c : Dev nD) : V m c main_v15 = shapeCast _ (truncf .bf16 (kPk m c) bitsLt_bf16_f32) shapeCasts_S2x2048x8x128_S4096x1024 := by
  dsimp only [V, hostOps0]
  after_results_simp
  rfl

theorem v_arr (c : Dev nD) : V m c main_v16 = shapeCast _ (truncf .bf16 (vPk m c) bitsLt_bf16_f32) shapeCasts_S2x2048x8x128_S4096x1024 := by
  dsimp only [V, hostOps0]
  after_results_simp
  rfl

theorem q_at (c : Dev nD) (R : Fin 4096) (h : Fin 8) (e : Fin 128) : ((V m c main_v14) (ix2 R ⟨h.val * 128 + e.val, by omega⟩) : EReal)
    = aq m c ⟨R.val / 2048, by omega⟩ h ⟨R.val % 2048, by omega⟩ e * qs := by
  rw [q_arr]
  exact (Kernel3Ideal.Value.flat_at (qArr m c) R h e).trans (Kernel3Ideal.Value.scaled_form (qPk m c) _ _ h e)

theorem k_at (c : Dev nD) (R : Fin 4096) (h : Fin 8) (e : Fin 128) : ((V m c main_v15) (ix2 R ⟨h.val * 128 + e.val, by omega⟩) : EReal)
    = ak m c ⟨R.val / 2048, by omega⟩ h ⟨R.val % 2048, by omega⟩ e := by
  rw [k_arr]
  exact Kernel3Ideal.Value.flat_at (truncf .bf16 (kPk m c) bitsLt_bf16_f32) R h e

theorem v_at (c : Dev nD) (R : Fin 4096) (h : Fin 8) (e : Fin 128) : ((V m c main_v16) (ix2 R ⟨h.val * 128 + e.val, by omega⟩) : EReal)
    = av m c ⟨R.val / 2048, by omega⟩ h ⟨R.val % 2048, by omega⟩ e := by
  rw [v_arr]
  exact Kernel3Ideal.Value.flat_at (truncf .bf16 (vPk m c) bitsLt_bf16_f32) R h e

/-- The block a point's rows of a query-side array are, and the block of its key-side arrays. -/
abbrev qIx (t : Fin cfg0.N) : Fin 2 → ℕ := ![8 * (t.val / 16) + t.val / 2 % 8, t.val % 2]
abbrev kIx (t : Fin cfg0.N) : Fin 2 → ℕ := ![t.val / 16, t.val % 2]

theorem idx : ∀ t : Fin cfg0.N, win0_0.index t = qIx t ∧ win0_1.index t = kIx t ∧ win0_2.index t = kIx t ∧ win0_3.index t = qIx t ∧ win0_4.index t = qIx t :=
  (by decide +kernel : ∀ t : Fin grid0.N, _)

theorem pt_lt (t : Fin cfg0.N) : t.val < 32 := lt_of_lt_of_eq t.isLt N_0

/-- The batch, a head and a row of point `t`. -/
def bOf (t : Fin cfg0.N) : Fin 2 := ⟨t.val / 16, by have := pt_lt t; omega⟩
def hOf (t : Fin cfg0.N) (u : Fin 4) : Fin 8 := ⟨4 * (t.val % 2) + u.val, by omega⟩
def sOf (t : Fin cfg0.N) (r : Fin 256) : Fin 2048 := ⟨256 * (t.val / 2 % 8) + r.val, by omega⟩

/-- The rows of the arrays that a point's rows are. -/
def rowQ (t : Fin cfg0.N) (r : Fin 256) : Fin 4096 := ⟨2048 * (t.val / 16) + (256 * (t.val / 2 % 8) + r.val), by have := pt_lt t; omega⟩
def rowK (t : Fin cfg0.N) (k : Fin 2048) : Fin 4096 := ⟨2048 * (t.val / 16) + k.val, by have := pt_lt t; omega⟩

theorem rowQ_div (t : Fin cfg0.N) (r : Fin 256) : (⟨(rowQ t r).val / 2048, by omega⟩ : Fin 2) = bOf t := by
  apply Fin.ext; dsimp only [rowQ, bOf]; omega
theorem rowQ_mod (t : Fin cfg0.N) (r : Fin 256) : (⟨(rowQ t r).val % 2048, by omega⟩ : Fin 2048) = sOf t r := by
  apply Fin.ext; dsimp only [rowQ, sOf]; omega
theorem rowK_div (t : Fin cfg0.N) (k : Fin 2048) : (⟨(rowK t k).val / 2048, by omega⟩ : Fin 2) = bOf t := by
  apply Fin.ext; dsimp only [rowK, bOf]; omega
theorem rowK_mod (t : Fin cfg0.N) (k : Fin 2048) : (⟨(rowK t k).val % 2048, by omega⟩ : Fin 2048) = k := by
  apply Fin.ext; dsimp only [rowK]; omega

theorem blk_q (c : Dev nD) (t : Fin cfg0.N) (r : Fin 256) (u : Fin 4) (e : Fin 128) :
    (iblk m c 0 t (ix2 r (ln u e)) : EReal) = aq m c (bOf t) (hOf t u) (sOf t r) e * qs := by
  rw [ln_eq]
  refine Eq.trans ?_ ((q_at m c (rowQ t r) (hOf t u) e).trans (by rw [rowQ_div, rowQ_mod]))
  have key : ∀ A : FVec Ideal S4096x1024 .bf16, (View.read (Elt Ideal) ((cfg0.win 0).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v14)

theorem blk_k (c : Dev nD) (t : Fin cfg0.N) (k : Fin 2048) (u : Fin 4) (e : Fin 128) :
    (iblk m c 1 t (ix2 k (ln u e)) : EReal) = ak m c (bOf t) (hOf t u) k e := by
  rw [ln_eq]
  refine Eq.trans ?_ ((k_at m c (rowK t k) (hOf t u) e).trans (by rw [rowK_div, rowK_mod]))
  have key : ∀ A : FVec Ideal S4096x1024 .bf16, (View.read (Elt Ideal) ((cfg0.win 1).blk t).view A (ix2 k ⟨u.val * 128 + e.val, by omega⟩) : EReal)
      = A (ix2 (rowK t k) ⟨(hOf t u).val * 128 + e.val, by omega⟩) := by
    intro A
    unfold hOf rowK
    blk_ext [idx t]
  exact key (V m c main_v15)

theorem blk_v (c : Dev nD) (t : Fin cfg0.N) (k : Fin 2048) (u : Fin 4) (e : Fin 128) :
    (iblk m c 2 t (ix2 k (ln u e)) : EReal) = av m c (bOf t) (hOf t u) k e := by
  rw [ln_eq]
  refine Eq.trans ?_ ((v_at m c (rowK t k) (hOf t u) e).trans (by rw [rowK_div, rowK_mod]))
  have key : ∀ A : FVec Ideal S4096x1024 .bf16, (View.read (Elt Ideal) ((cfg0.win 2).blk t).view A (ix2 k ⟨u.val * 128 + e.val, by omega⟩) : EReal)
      = A (ix2 (rowK t k) ⟨(hOf t u).val * 128 + e.val, by omega⟩) := by
    intro A
    unfold hOf rowK
    blk_ext [idx t]
  exact key (V m c main_v16)

end Cert.Kernel4Ideal.Value
-- ==== Proof.LfwStep.lean ====
module

public import proofs.«01_k».proof.Proof.LfwBlocks
public import Idealize.ShloMosaic.Lib.UnfoldOut

@[expose] public section

set_option maxRecDepth 16384

/-! What a grid point of the latent attention's forward call leaves in its two blocks, and the result arrays. -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen
open Cert.Kernel3Ideal.Value (qkPk vdPk qs ln ln_eq col flatG flatG_eq heads)
variable (m : (ℓ : Loc nD τ sig) → Buf (Elt Ideal) ℓ)

/-- The body's constant. -/
abbrev cE : EReal := (Named.named κ "log2e" (0x3FB8AA3B#32 : BitVec (FTy.bits .f32)) : Ideal .f32)

/-- A score, a row's largest, a numerator, an output and a row log-sum, of a head's blocks of queries, keys and values. -/
def bs (Q : Fin 256 → Fin 128 → EReal) (K : Fin 2048 → Fin 128 → EReal) (r : Fin 256) (k : Fin 2048) : EReal := ∑ e, Q r e * K k e
def bm (Q : Fin 256 → Fin 128 → EReal) (K : Fin 2048 → Fin 128 → EReal) (r : Fin 256) : EReal :=
  Finset.univ.fold max (Ideal.ofBits .f32 0xFF800000#32) (bs Q K r)
def bp (Q : Fin 256 → Fin 128 → EReal) (K : Fin 2048 → Fin 128 → EReal) (r : Fin 256) (k : Fin 2048) : EReal := Ideal.exp2 (bs Q K r k - bm Q K r)
def bo (Q : Fin 256 → Fin 128 → EReal) (K V : Fin 2048 → Fin 128 → EReal) (r : Fin 256) (e : Fin 128) : EReal :=
  Ideal.div (∑ k, bp Q K r k * V k e) (∑ k, bp Q K r k)
def bl (Q : Fin 256 → Fin 128 → EReal) (K : Fin 2048 → Fin 128 → EReal) (r : Fin 256) : EReal := bm Q K r + Ideal.log (∑ k, bp Q K r k) * cE

variable (X : FVec Ideal S256x512 .bf16) (Y Z : FVec Ideal S2048x512 .bf16)

/-- Head `u`'s lanes of a block. -/
def hd {R : ℕ} (X : FVec Ideal ⟨2, ![R, 512]⟩ .bf16) (u : Fin 4) (r : Fin R) (e : Fin 128) : EReal := X (ix2 r (ln u e))

set_option maxHeartbeats 2000000 in
theorem out_o (r : Fin 256) (u : Fin 4) (e : Fin 128) :
    (out0_3 (F := Ideal) X Y Z (ix2 r (ln u e)) : EReal) = bo (hd X u) (hd Y u) (hd Z u) r e := by
  unfold_out out0_3
  rw [heads]
  match u with
  | 0 => pointwise [k0_pay12, k0_pay11, k0_pay10, k0_pay9, k0_pay8]; rfl
  | 1 => pointwise [k0_pay19, k0_pay18, k0_pay17, k0_pay16, k0_pay15, k0_pay14]; rfl
  | 2 => pointwise [k0_pay25, k0_pay24, k0_pay23, k0_pay22, k0_pay21]; rfl
  | 3 => pointwise [k0_pay2, k0_pay3, k0_pay4, k0_pay5, k0_pay6]; rfl

set_option maxHeartbeats 2000000 in
theorem out_l (r : Fin 256) (u : Fin 4) (e : Fin 128) :
    (out0_4 (F := Ideal) X Y Z (ix2 r (ln u e)) : EReal) = bl (hd X u) (hd Y u) r := by
  unfold_out out0_4
  rw [heads]
  match u with
  | 0 => pointwise [k0_pay13, k0_pay11, k0_pay10, k0_pay9, k0_pay8]; rfl
  | 1 => pointwise [k0_pay20, k0_pay18, k0_pay17, k0_pay16, k0_pay15, k0_pay14]; rfl
  | 2 => pointwise [k0_pay1, k0_pay24, k0_pay23, k0_pay22, k0_pay21]; rfl
  | 3 => pointwise [k0_pay2, k0_pay3, k0_pay4, k0_pay5, k0_pay7]; rfl

/-- The scores, the rows' largest, the outputs and the row log-sums as the kernel computes them. -/
def sc (c : Dev nD) (b : Fin 2) (h : Fin 8) (s k : Fin 2048) : EReal := ∑ e, aq m c b h s e * qs * ak m c b h k e
def mx (c : Dev nD) (b : Fin 2) (h : Fin 8) (s : Fin 2048) : EReal := Finset.univ.fold max (Ideal.ofBits .f32 0xFF800000#32) (sc m c b h s)
def oV (c : Dev nD) (b : Fin 2) (h : Fin 8) (s : Fin 2048) (e : Fin 128) : EReal :=
  Ideal.div (∑ k, Ideal.exp2 (sc m c b h s k - mx m c b h s) * av m c b h k e) (∑ k, Ideal.exp2 (sc m c b h s k - mx m c b h s))
def lV (c : Dev nD) (b : Fin 2) (h : Fin 8) (s : Fin 2048) (_e : Fin 128) : EReal :=
  mx m c b h s + Ideal.log (∑ k, Ideal.exp2 (sc m c b h s k - mx m c b h s)) * cE

theorem bs_eq (c : Dev nD) (t : Fin cfg0.N) (u : Fin 4) (r : Fin 256) : bs (hd (iblk m c 0 t) u) (hd (iblk m c 1 t) u) r = sc m c (bOf t) (hOf t u) (sOf t r) := by
  funext k
  unfold bs sc hd
  exact Finset.sum_congr rfl fun e _ => congrArg₂ _ (blk_q m c t r u e) (blk_k m c t k u e)

theorem o_at (c : Dev nD) (t : Fin cfg0.N) (r : Fin 256) (u : Fin 4) (e : Fin 128) :
    (out0_3 (iblk m c 0 t) (iblk m c 1 t) (iblk m c 2 t) (ix2 r (ln u e)) : EReal) = oV m c (bOf t) (hOf t u) (sOf t r) e := by
  refine (out_o _ _ _ r u e).trans ?_
  unfold bo bp bm
  rw [bs_eq]
  have hv : ∀ k, hd (iblk m c 2 t) u k e = av m c (bOf t) (hOf t u) k e := fun k => blk_v m c t k u e
  simp only [hv]
  rfl

theorem l_at (c : Dev nD) (t : Fin cfg0.N) (r : Fin 256) (u : Fin 4) (e : Fin 128) :
    (out0_4 (iblk m c 0 t) (iblk m c 1 t) (iblk m c 2 t) (ix2 r (ln u e)) : EReal) = lV m c (bOf t) (hOf t u) (sOf t r) e := by
  refine (out_l _ _ _ r u e).trans ?_
  unfold bl bp bm
  rw [bs_eq]
  rfl

theorem o_arr (c : Dev nD) : (dats m 0 c).arrAt 3 cfg0.N = flatG (oV m c) := by
  refine (dats m 0 c).arrAt_eq_of_covers 3 _ (by decide +kernel) fun t hf y => ?_
  obtain ⟨k, j, rfl⟩ : ∃ (k : Fin 256) (j : Fin 512), y = ix2 k j := ⟨y 0, y 1, eq_ix2 y⟩
  obtain ⟨u, e, rfl⟩ := col j
  have key := o_at m c t k u e
  rw [ln_eq] at key ⊢
  have key := key.trans (flatG_eq (oV m c) ((win0_3.blk t).view.emb (ix2 k ⟨u.val * 128 + e.val, by omega⟩)) _ _ _ _
    (by blk_simp [idx t]; dsimp only [bOf, sOf]; omega) (by blk_simp [idx t]; dsimp only [hOf]; omega)).symm
  blk_simp
  rw [after0_3]
  exact key

theorem l_arr (c : Dev nD) : (dats m 0 c).arrAt 4 cfg0.N = flatG (lV m c) := by
  refine (dats m 0 c).arrAt_eq_of_covers 4 _ (by decide +kernel) fun t hf y => ?_
  obtain ⟨k, j, rfl⟩ : ∃ (k : Fin 256) (j : Fin 512), y = ix2 k j := ⟨y 0, y 1, eq_ix2 y⟩
  obtain ⟨u, e, rfl⟩ := col j
  have key := l_at m c t k u e
  rw [ln_eq] at key ⊢
  have key := key.trans (flatG_eq (lV m c) ((win0_4.blk t).view.emb (ix2 k ⟨u.val * 128 + e.val, by omega⟩)) _ _ _ _
    (by blk_simp [idx t]; dsimp only [bOf, sOf]; omega) (by blk_simp [idx t]; dsimp only [hOf]; omega)).symm
  blk_simp
  rw [after0_4]
  exact key

end Cert.Kernel4Ideal.Value
-- ==== Proof.LfwReference.lean ====
module

public import proofs.«01_k».proof.Proof.Gen.Reference4Ideal.Run
public import proofs.«01_k».proof.Proof.MlaReference

@[expose] public section

set_option maxRecDepth 16384

/-! The reference of the latent attention's forward call: packed outputs and row log-sums, at an index. -/

noncomputable section

open Idealize.ShloMosaic Idealize.ShloMosaic.TcCoe Idealize.SL.Sem

namespace Cert.Reference4Ideal.Value
open Cert.Reference4Ideal Cert.Reference4Ideal.Gen
open Cert.Reference3Ideal.Value (score ex den rs rx score_at ex_at den_at)

variable (A0 : FVec Ideal S2x2048x8x64 .f32) (A1 : FVec Ideal S2x2048x8x32 .f32) (A2 : FVec Ideal S2x2048x8x64 .f32) (A3 : FVec Ideal S2x2048x8x32 .f32)
  (A4 : FVec Ideal S2x2048x8x64 .f32)

/-- The packed outputs, of the values and the numerators and denominators of softmax. -/
def outOf (Y : FVec Ideal S2x2048x8x64 .f32) (E : FVec Ideal S2x8x2048x2048 .f32) (D : FVec Ideal S2x8x2048x1 .f32) : FVec Ideal S4096x1024 .f32 :=
  shapeCast _ (concatenate S2x2048x8x128 3 [⟨S2x2048x8x64, broadcastInDim S2x2048x8x64 ![] bcast_S_S2x2048x8x64 (constant S_ .f32 0x00000000#32)⟩,
    ⟨S2x2048x8x64, transpose S2x2048x8x64 [0, 3, 1, 2] (Host.dotGeneral dot_S2x2048x8x64_S2x8x2048x2048_S2x8x64x2048_1_3_3_2_02_01 none Y
      (Host.divf E (broadcastInDim S2x8x2048x2048 ![0, 1, 2, 3] bcast_S2x8x2048x1_S2x8x2048x2048_0_1_2_3 D)) : FVec Ideal S2x8x64x2048 .f32)
      transposes_S2x8x64x2048_S2x2048x8x64_0_3_1_2⟩] concatenates_S2x2048x8x64_S2x2048x8x64_S2x2048x8x128_d3) shapeCasts_S2x2048x8x128_S4096x1024

theorem outOf_at (Y : FVec Ideal S2x2048x8x64 .f32) (E : FVec Ideal S2x8x2048x2048 .f32) (D : FVec Ideal S2x8x2048x1 .f32) (b : Fin 2) (h : Fin 8) (s : Fin 2048) (e : Fin 128) :
    (outOf Y E D (ix2 ⟨b.val * 2048 + s.val, by omega⟩ ⟨h.val * 128 + e.val, by omega⟩) : EReal)
      = if h0 : e.val < 64 then 0 else ∑ k, Y (ix4 b k h ⟨e.val - 64, by omega⟩) * Ideal.div (E (ix4 b h s k)) (D (ix4 b h s 0)) := by
  unfold outOf
  pointwise

/-- The row log-sums to the base two, repeated over the lanes, of the scores. -/
def lseOf (S : FVec Ideal S2x8x2048x2048 .f32) : FVec Ideal S4096x1024 .f32 :=
  shapeCast _ (broadcastInDim S2x2048x8x128 ![0, 1, 2, 3] bcast_S2x2048x8x1_S2x2048x8x128_0_1_2_3 (broadcastInDim S2x2048x8x1 ![0, 1, 2] bcast_S2x2048x8_S2x2048x8x1_0_1_2
    (Host.divf (transpose S2x2048x8 [0, 2, 1] (Host.log (Host.reduceAdd (Host.exp S) (constant S_ .f32 0x00000000#32) reducesTo_S2x8x2048x2048_S2x8x2048_d3 h_S_) : FVec Ideal S2x8x2048 .f32)
      transposes_S2x8x2048_S2x2048x8_0_2_1) (broadcastInDim S2x2048x8 ![] bcast_S_S2x2048x8 (Host.log (constant S_ .f32 0x40000000#32)))))) shapeCasts_S2x2048x8x128_S4096x1024

/-- The logarithm of two, of one element and of a whole array. -/
def cTwoLog : FVec Ideal S2x2048x8 .f32 := broadcastInDim S2x2048x8 ![] bcast_S_S2x2048x8 (Host.log (constant S_ .f32 0x40000000#32))
theorem cTwoLog_at (i : S2x2048x8.Idx) : (cTwoLog i : EReal) = Ideal.log (Ideal.ofBits .f32 0x40000000#32) := rfl

theorem lseOf_at (S : FVec Ideal S2x8x2048x2048 .f32) (b : Fin 2) (h : Fin 8) (s : Fin 2048) (e : Fin 128) :
    (lseOf S (ix2 ⟨b.val * 2048 + s.val, by omega⟩ ⟨h.val * 128 + e.val, by omega⟩) : EReal)
      = Ideal.div (Ideal.log (∑ k, Ideal.exp (S (ix4 b h s k)))) (Ideal.log (Ideal.ofBits .f32 0x40000000#32)) := by
  unfold lseOf
  rw [← cTwoLog_at (ix3 b s h), ← cTwoLog]
  generalize cTwoLog = Z
  pointwise

def out0 : FVec Ideal S4096x1024 .f32 := outOf A4 (ex A0 A1 A2 A3) (den A0 A1 A2 A3)
def out1 : FVec Ideal S4096x1024 .f32 := lseOf (score A0 A1 A2 A3)

theorem out0_at (b : Fin 2) (h : Fin 8) (s : Fin 2048) (e : Fin 128) :
    (out0 A0 A1 A2 A3 A4 (ix2 ⟨b.val * 2048 + s.val, by omega⟩ ⟨h.val * 128 + e.val, by omega⟩) : EReal)
      = if h0 : e.val < 64 then 0 else ∑ k, A4 (ix4 b k h ⟨e.val - 64, by omega⟩) * Ideal.div (rx A0 A1 A2 A3 b h s k) (∑ l, rx A0 A1 A2 A3 b h s l) := by
  refine (outOf_at _ _ _ b h s e).trans ?_
  simp only [ex_at, den_at]

theorem out1_at (b : Fin 2) (h : Fin 8) (s : Fin 2048) (e : Fin 128) :
    (out1 A0 A1 A2 A3 (ix2 ⟨b.val * 2048 + s.val, by omega⟩ ⟨h.val * 128 + e.val, by omega⟩) : EReal)
      = Ideal.div (Ideal.log (∑ k, Ideal.exp (rs A0 A1 A2 A3 b h s k))) (Ideal.log (Ideal.ofBits .f32 0x40000000#32)) := by
  refine (lseOf_at _ b h s e).trans ?_
  simp only [score_at]

/-- Every run of the reference ends with these two arrays, its arguments as they were. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = out0 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v31) = out1 (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2⟩) (run m ρ)

end Cert.Reference4Ideal.Value
-- ==== Proof.LfwPre.lean ====
module

public import proofs.«01_k».proof.Pre_fin4
public import proofs.«01_k».proof.Proof.Reals

@[expose] public section

/-! The precondition of the latent attention's forward call read: its argument arrays are arrays of reals. -/

noncomputable section

namespace Cert.Pre_fin4

open Idealize.ShloMosaic Cert.Reals

instance facts : Cert.Pre_fin4.Facts := by constructor <;> decide

/-- Where the precondition holds, every argument is real. -/
theorem reals (a0 : FVec Ideal S2x2048x8x64 .f32) (a1 : FVec Ideal S2x2048x8x32 .f32) (a2 : FVec Ideal S2x2048x8x64 .f32) (a3 : FVec Ideal S2x2048x8x32 .f32)
    (a4 : FVec Ideal S2x2048x8x64 .f32) (h : fn (F := Ideal) a0 a1 a2 a3 a4 = fun _ => 1#1) :
    (∃ y : S2x2048x8x64.Idx → ℝ, a0 = fun i => (y i : EReal)) ∧ (∃ y : S2x2048x8x32.Idx → ℝ, a1 = fun i => (y i : EReal))
    ∧ (∃ y : S2x2048x8x64.Idx → ℝ, a2 = fun i => (y i : EReal)) ∧ (∃ y : S2x2048x8x32.Idx → ℝ, a3 = fun i => (y i : EReal))
    ∧ (∃ y : S2x2048x8x64.Idx → ℝ, a4 = fun i => (y i : EReal)) := by
  have e := congrFun h fun a => a.elim0
  obtain ⟨e, e4⟩ := both _ _ e
  obtain ⟨e, e3⟩ := both _ _ e
  obtain ⟨e, e2⟩ := both _ _ e
  obtain ⟨e0, e1⟩ := both _ _ e
  haveI : Subsingleton S_.Idx := ⟨fun a b => funext fun i => i.elim0⟩
  have hb : ∀ (s : Shape) (hs : S_.BroadcastsInDim s (![] : Fin 0 → Fin s.rank)) i,
      (broadcastInDim s ![] hs (constant (F := Ideal) S_ .f32 0x7F800000#32) i : EReal) = ⊤ := fun s hs i => cTop
  exact ⟨finite_of_all a0 _ (hb _ _) _ _ _ _ e0, finite_of_all a1 _ (hb _ _) _ _ _ _ e1, finite_of_all a2 _ (hb _ _) _ _ _ _ e2,
    finite_of_all a3 _ (hb _ _) _ _ _ _ e3, finite_of_all a4 _ (hb _ _) _ _ _ _ e4⟩

end Cert.Pre_fin4
-- ==== Proof.FwdMath.lean ====
module

public import proofs.«01_k».proof.Proof.AttnMath
public import proofs.«01_k».proof.Proof.RowMax

@[expose] public section

/-! The forward pass of softmax attention over the reals, written to the base two and to the base e. -/

noncomputable section

open Idealize.ShloMosaic

namespace Cert.AttnMath
open Cert.Reals

variable {K : Type} [Fintype K]

/-- The logarithm of the sum of a row's exponentials, to the base two. -/
def lse2 (x : K → ℝ) : ℝ := Real.log (∑ j, Real.exp (x j)) / Real.log 2

/-- The largest score of a row that is not empty is a real. -/
theorem rowmax_real [Nonempty K] (S : K → EReal) (x : K → ℝ) (hS : ∀ k, S k = ((x k : ℝ) : EReal)) :
    ∃ M : ℝ, Finset.univ.fold max (Ideal.ofBits .f32 0xFF800000#32) S = (M : EReal) := by
  rw [RowMax.cBot]
  rcases RowMax.fold_real Finset.univ S (fun k => ⟨_, hS k⟩) with ⟨_, h0⟩ | h0
  · exact absurd h0 Finset.univ_nonempty.ne_empty
  · exact h0

/-- A numerator of the kernel, a power of two. -/
theorem pow_real (x : K → ℝ) (M : ℝ) (S : K → EReal) (hS : ∀ k, S k = ((x k / Real.log 2 : ℝ) : EReal)) (k : K) :
    Ideal.exp2 (S k - (M : EReal)) = ((Real.exp (x k - M * Real.log 2) : ℝ) : EReal) := by
  rw [hS, ← EReal.coe_sub, exp2_real]
  congr 2
  have := log2_pos.ne'
  field_simp

variable [Nonempty K]

/-- The kernel's output of one lane is the softmax average. -/
theorem fwd_out (x v : K → ℝ) (M : ℝ) (S : K → EReal) (hS : ∀ k, S k = ((x k / Real.log 2 : ℝ) : EReal)) :
    Ideal.div (∑ k, Ideal.exp2 (S k - (M : EReal)) * (v k : EReal)) (∑ k, Ideal.exp2 (S k - (M : EReal))) = ((∑ k, soft x k * v k : ℝ) : EReal) := by
  simp only [pow_real x M S hS, ← EReal.coe_mul, coe_sum]
  rw [div_real _ _ (sum_pos _).ne']
  congr 1
  rw [Finset.sum_div]
  refine Finset.sum_congr rfl fun k _ => ?_
  rw [← soft_shift x (M * Real.log 2)]
  ring

/-- The kernel's row log-sum. -/
theorem fwd_lse (x : K → ℝ) (M : ℝ) (S : K → EReal) (hS : ∀ k, S k = ((x k / Real.log 2 : ℝ) : EReal)) :
    (M : EReal) + Ideal.log (∑ k, Ideal.exp2 (S k - (M : EReal))) * (((Real.log 2)⁻¹ : ℝ) : EReal) = ((lse2 x : ℝ) : EReal) := by
  simp only [pow_real x M S hS, coe_sum]
  rw [Ideal.log_coe, if_neg (sum_pos _).not_ge, ← EReal.coe_mul, ← EReal.coe_add]
  congr 1
  have h : ∑ j, Real.exp (x j - M * Real.log 2) = (∑ j, Real.exp (x j)) / Real.exp (M * Real.log 2) := by
    rw [Finset.sum_div]; exact Finset.sum_congr rfl fun j _ => Real.exp_sub _ _
  rw [h, Real.log_div (sum_pos x).ne' (Real.exp_pos _).ne', Real.log_exp, lse2]
  have := log2_pos.ne'
  field_simp
  ring

/-- The reference's row log-sum. -/
theorem ref_lse (x : K → ℝ) (S : K → EReal) (hS : ∀ k, S k = ((x k : ℝ) : EReal)) :
    Ideal.div (Ideal.log (∑ k, Ideal.exp (S k))) (Ideal.log (Ideal.ofBits .f32 0x40000000#32)) = ((lse2 x : ℝ) : EReal) := by
  simp only [hS, Ideal.exp_coe, coe_sum]
  rw [Ideal.log_coe, if_neg (sum_pos _).not_ge, log_two, div_real _ _ log2_pos.ne', lse2]

end Cert.AttnMath
-- ==== Proof.LfwAlgebraic.lean ====
module

public import proofs.«01_k».proof.Defs
public import proofs.«01_k».proof.Proof.LfwStep
public import proofs.«01_k».proof.Proof.LfwReference
public import proofs.«01_k».proof.Proof.LfwPre
public import proofs.«01_k».proof.Proof.FwdMath
public import proofs.«01_k».proof.Proof.MlaAlgebraic

@[expose] public section

set_option maxRecDepth 16384

/-! The kernel and the reference of the latent attention's forward call compute one function over the extended reals. -/

noncomputable section

namespace Cert.Lfw

open Idealize.ShloMosaic Idealize.ShloMosaic.TcCoe Idealize.SL.Sem
open Cert.Reals Cert.AttnMath
open Cert.Mla (x rt rt_ne qs_real p3 p2 pq pv RefArgs coe_p3 coe_p2 sum_p2 qkPk_at vdPk_at arr_eq rs_real soft_real)

/-! ## The kernel -/
section Kernel
open Cert.Kernel4Ideal Cert.Kernel4Ideal.Value
variable (q k v : Fin 2 → Fin 8 → Fin 2048 → Fin 128 → ℝ) (m : (ℓ : Loc nD τ sig) → Buf (Elt Ideal) ℓ) (c : Dev nD)

/-- The packed arguments are these reals. -/
structure Args : Prop where
  q : ∀ b h s e, aq m c b h s e = ((q b h s e : ℝ) : EReal)
  k : ∀ b h s e, ak m c b h s e = ((k b h s e : ℝ) : EReal)
  v : ∀ b h s e, av m c b h s e = ((v b h s e : ℝ) : EReal)

variable {q k v m c} (A : Args q k v m c)
include A

theorem sc_real (b : Fin 2) (h : Fin 8) (s j : Fin 2048) : sc m c b h s j = ((x q k b h s j / Real.log 2 : ℝ) : EReal) := by
  unfold sc
  simp only [A.q, A.k, qs_real, ← EReal.coe_mul, coe_sum]
  congr 1
  rw [x, Finset.sum_div, Finset.sum_div]
  refine Finset.sum_congr rfl fun e _ => ?_
  have h1 := rt_ne
  have h2 := log2_pos.ne'
  field_simp

theorem mx_real (b : Fin 2) (h : Fin 8) (s : Fin 2048) : ∃ M : ℝ, mx m c b h s = (M : EReal) :=
  rowmax_real _ _ (sc_real A b h s)

theorem o_real (b : Fin 2) (h : Fin 8) (s : Fin 2048) (e : Fin 128) : oV m c b h s e = ((∑ j, soft (x q k b h s) j * v b h j e : ℝ) : EReal) := by
  obtain ⟨M, hM⟩ := mx_real A b h s
  unfold oV
  simp only [hM, A.v]
  exact fwd_out (x q k b h s) (fun j => v b h j e) M (sc m c b h s) (sc_real A b h s)

theorem l_real (b : Fin 2) (h : Fin 8) (s : Fin 2048) (e : Fin 128) : lV m c b h s e = ((lse2 (x q k b h s) : ℝ) : EReal) := by
  obtain ⟨M, hM⟩ := mx_real A b h s
  unfold lV
  rw [hM, show cE = (((Real.log 2)⁻¹ : ℝ) : EReal) from rfl]
  exact fwd_lse (x q k b h s) M (sc m c b h s) (sc_real A b h s)

end Kernel

/-! ## The reference -/
section Reference
open Cert.Reference4Ideal Cert.Reference4Ideal.Value
variable {qn kn vv : Fin 2 → Fin 8 → Fin 2048 → Fin 64 → ℝ} {qr kr : Fin 2 → Fin 8 → Fin 2048 → Fin 32 → ℝ}
variable {A0 : FVec Ideal S2x2048x8x64 .f32} {A1 : FVec Ideal S2x2048x8x32 .f32} {A2 : FVec Ideal S2x2048x8x64 .f32} {A3 : FVec Ideal S2x2048x8x32 .f32}
  {A4 : FVec Ideal S2x2048x8x64 .f32} (A : RefArgs qn kn vv vv qr kr A0 A1 A2 A3 A4 A4)
include A

theorem out0_real (b : Fin 2) (h : Fin 8) (s : Fin 2048) (e : Fin 128) :
    (out0 A0 A1 A2 A3 A4 (ix2 ⟨b.val * 2048 + s.val, by omega⟩ ⟨h.val * 128 + e.val, by omega⟩) : EReal)
      = ((∑ j, soft (x (pq qn qr) (pq kn kr) b h s) j * pv vv b h j e : ℝ) : EReal) := by
  rw [out0_at, sum_p2]
  refine coe_p2 (fun e => ∑ j, A4 (ix4 b j h e) * Ideal.div (Cert.Reference3Ideal.Value.rx A0 A1 A2 A3 b h s j) (∑ l, Cert.Reference3Ideal.Value.rx A0 A1 A2 A3 b h s l)) _ (fun e => ?_) e
  simp only [soft_real A, A.v, ← EReal.coe_mul, coe_sum]
  exact congrArg _ (Finset.sum_congr rfl fun s _ => mul_comm _ _)

theorem out1_real (b : Fin 2) (h : Fin 8) (s : Fin 2048) (e : Fin 128) :
    (out1 A0 A1 A2 A3 (ix2 ⟨b.val * 2048 + s.val, by omega⟩ ⟨h.val * 128 + e.val, by omega⟩) : EReal)
      = ((lse2 (x (pq qn qr) (pq kn kr) b h s) : ℝ) : EReal) := by
  rw [out1_at]
  exact ref_lse _ _ (rs_real A b h s)

end Reference

set_option maxHeartbeats 2000000 in
/-- The value claim of the latent attention's forward call: its outputs and its row log-sums. -/
theorem algebraic : algebraic_Kernel4Ideal_Reference4Ideal_pre_fin4 := by
  pair_intro
  · run_from Cert.Kernel4Ideal.Value.run_blocks m g
  · run_from Cert.Reference4Ideal.Value.run_outs m' g'
    all_goals
      obtain ⟨⟨y0, h0⟩, ⟨y1, h1⟩, ⟨y2, h2⟩, ⟨y3, h3⟩, ⟨y4, h4⟩⟩ := Pre_fin4.reals _ _ _ _ _ (hpre c)
      have B : RefArgs (fun b h s e => y0 (ix4 b s h e)) (fun b h s e => y2 (ix4 b s h e)) (fun b h s e => y4 (ix4 b s h e)) (fun b h s e => y4 (ix4 b s h e))
          (fun b h s e => y1 (ix4 b s h e)) (fun b h s e => y3 (ix4 b s h e))
          (m (c.tc.loc Kernel4Ideal.main_arg0)) (m (c.tc.loc Kernel4Ideal.main_arg1)) (m (c.tc.loc Kernel4Ideal.main_arg2))
          (m (c.tc.loc Kernel4Ideal.main_arg3)) (m (c.tc.loc Kernel4Ideal.main_arg4)) (m (c.tc.loc Kernel4Ideal.main_arg4)) :=
        ⟨fun _ _ _ _ => congrFun h0 _, fun _ _ _ _ => congrFun h1 _, fun _ _ _ _ => congrFun h2 _, fun _ _ _ _ => congrFun h3 _,
          fun _ _ _ _ => congrFun h4 _, fun _ _ _ _ => congrFun h4 _⟩
      have A : Args _ _ _ m c :=
        ⟨fun b h s e => (qkPk_at _ _ b h s e).trans (coe_p3 _ _ _ _ (B.qn b h s) (B.qr b h s) e),
          fun b h s e => (qkPk_at _ _ b h s e).trans (coe_p3 _ _ _ _ (B.kn b h s) (B.kr b h s) e),
          fun b h s e => (vdPk_at _ b h s e).trans (coe_p2 _ _ (B.v b h s) e)⟩
    · rw [Kernel4Ideal.Value.o_arr]
      exact arr_eq _ _ _ (out0_real B) (o_real A)
    · rw [Kernel4Ideal.Value.l_arr]
      exact arr_eq _ _ _ (out1_real B) (l_real A)

end Cert.Lfw
-- ==== Proof.MfwBlocks.lean ====
module

public import proofs.«01_k».proof.Proof.Gen.Kernel5Ideal.Value
public import proofs.«01_k».proof.Proof.MemFold

@[expose] public section

set_option maxRecDepth 16384

/-! What the arrays of the memory attention's forward call hold when its region starts, and the blocks a grid point reads:
    batch `t / 4`, query tile `t / 2 % 2`, heads `2 (t % 2)` and the next. -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen
open Cert.Kernel2Ideal.Value (qs)
variable (m : (ℓ : Loc nD τ sig) → Buf (Elt Ideal) ℓ)

/-- The query of head `h` at row `s` of batch `b`; the memory's key and value of slot `k`. -/
def aq (c : Dev nD) (b : Fin 2) (h : Fin 4) (s : Fin 2048) (e : Fin 128) : EReal :=
  m (c, Proc.tc.devRef main_arg0) (ix3 b s ⟨h.val * 128 + e.val, by omega⟩)
def ak (c : Dev nD) (b : Fin 2) (h : Fin 4) (k : Fin 256) (e : Fin 128) : EReal :=
  m (c, Proc.tc.devRef main_arg1) (ix3 b k ⟨h.val * 128 + e.val, by omega⟩)
def av (c : Dev nD) (b : Fin 2) (h : Fin 4) (k : Fin 256) (e : Fin 128) : EReal :=
  m (c, Proc.tc.devRef main_arg1) (ix3 b k ⟨512 + (h.val * 128 + e.val), by omega⟩)

/-- The staged queries, keys and values. -/
theorem q_at (c : Dev nD) (R : Fin 4096) (h : Fin 4) (e : Fin 128) : ((V m c main_v7) (ix2 R ⟨h.val * 128 + e.val, by omega⟩) : EReal)
    = aq m c ⟨R.val / 2048, by omega⟩ h ⟨R.val % 2048, by omega⟩ e * qs := by
  dsimp only [V, hostOps0]
  after_results_simp
  pointwise
  rfl

theorem k_at (c : Dev nD) (J : Fin 512) (h : Fin 4) (e : Fin 128) : ((V m c main_v9) (ix2 J ⟨h.val * 128 + e.val, by omega⟩) : EReal)
    = ak m c ⟨J.val / 256, by omega⟩ h ⟨J.val % 256, by omega⟩ e := by
  dsimp only [V, hostOps0]
  after_results_simp
  pointwise
  rfl

theorem v_at (c : Dev nD) (J : Fin 512) (h : Fin 4) (e : Fin 128) : ((V m c main_v9) (ix2 J ⟨512 + (h.val * 128 + e.val), by omega⟩) : EReal)
    = av m c ⟨J.val / 256, by omega⟩ h ⟨J.val % 256, by omega⟩ e := by
  dsimp only [V, hostOps0]
  after_results_simp
  pointwise
  rfl

/-- The block a point's rows of a query-side array are, and the blocks of its keys and values. -/
abbrev qIx (t : Fin cfg0.N) : Fin 2 → ℕ := ![2 * (t.val / 4) + t.val / 2 % 2, t.val % 2]

theorem idx : ∀ t : Fin cfg0.N, win0_0.index t = qIx t ∧ win0_1.index t = ![t.val / 4, t.val % 2] ∧ win0_2.index t = ![t.val / 4, t.val % 2 + 2]
    ∧ win0_3.index t = qIx t ∧ win0_4.index t = qIx t :=
  (by decide +kernel : ∀ t : Fin grid0.N, _)

theorem pt_lt (t : Fin cfg0.N) : t.val < 8 := lt_of_lt_of_eq t.isLt N_0

/-- The batch, a head and a row of point `t`. -/
def bOf (t : Fin cfg0.N) : Fin 2 := ⟨t.val / 4, by have := pt_lt t; omega⟩
def hOf (t : Fin cfg0.N) (u : Fin 2) : Fin 4 := ⟨2 * (t.val % 2) + u.val, by omega⟩
def sOf (t : Fin cfg0.N) (r : Fin 1024) : Fin 2048 := ⟨1024 * (t.val / 2 % 2) + r.val, by omega⟩

/-- The rows of the arrays that a point's rows are. -/
def rowQ (t : Fin cfg0.N) (r : Fin 1024) : Fin 4096 := ⟨2048 * (t.val / 4) + (1024 * (t.val / 2 % 2) + r.val), by have := pt_lt t; omega⟩
def rowK (t : Fin cfg0.N) (k : Fin 256) : Fin 512 := ⟨256 * (t.val / 4) + k.val, by have := pt_lt t; omega⟩

theorem rowQ_div (t : Fin cfg0.N) (r : Fin 1024) : (⟨(rowQ t r).val / 2048, by omega⟩ : Fin 2) = bOf t := by
  apply Fin.ext; dsimp only [rowQ, bOf]; omega
theorem rowQ_mod (t : Fin cfg0.N) (r : Fin 1024) : (⟨(rowQ t r).val % 2048, by omega⟩ : Fin 2048) = sOf t r := by
  apply Fin.ext; dsimp only [rowQ, sOf]; omega
theorem rowK_div (t : Fin cfg0.N) (k : Fin 256) : (⟨(rowK t k).val / 256, by omega⟩ : Fin 2) = bOf t := by
  apply Fin.ext; dsimp only [rowK, bOf]; omega
theorem rowK_mod (t : Fin cfg0.N) (k : Fin 256) : (⟨(rowK t k).val % 256, by omega⟩ : Fin 256) = k := by
  apply Fin.ext; dsimp only [rowK]; omega

/-- The column of lane `e` of the point's head `u`. -/
def ln (u : Fin 2) (e : Fin 128) : Fin 256 :=
  match u with
  | 0 => ⟨e.val, by omega⟩
  | 1 => ⟨128 + e.val, by omega⟩

theorem ln_eq (u : Fin 2) (e : Fin 128) : ln u e = ⟨u.val * 128 + e.val, by omega⟩ :=
  match u with
  | 0 => Fin.ext (by show e.val = 0 * 128 + e.val; omega)
  | 1 => rfl

theorem blk_q (c : Dev nD) (t : Fin cfg0.N) (r : Fin 1024) (u : Fin 2) (e : Fin 128) :
    (iblk m c 0 t (ix2 r (ln u e)) : EReal) = aq m c (bOf t) (hOf t u) (sOf t r) e * qs := by
  rw [ln_eq]
  refine Eq.trans ?_ ((q_at m c (rowQ t r) (hOf t u) e).trans (by rw [rowQ_div, rowQ_mod]))
  have key : ∀ A : FVec Ideal S4096x512 .bf16, (View.read (Elt Ideal) ((cfg0.win 0).blk t).view A (ix2 r ⟨u.val * 128 + e.val, by omega⟩) : EReal)
      = A (ix2 (rowQ t r) ⟨(hOf t u).val * 128 + e.val, by omega⟩) := by
    intro A
    unfold hOf rowQ
    blk_ext [idx t]
  exact key (V m c main_v7)

theorem blk_k (c : Dev nD) (t : Fin cfg0.N) (k : Fin 256) (u : Fin 2) (e : Fin 128) :
    (iblk m c 1 t (ix2 k (ln u e)) : EReal) = ak m c (bOf t) (hOf t u) k e := by
  rw [ln_eq]
  refine Eq.trans ?_ ((k_at m c (rowK t k) (hOf t u) e).trans (by rw [rowK_div, rowK_mod]))
  have key : ∀ A : FVec Ideal S512x1024 .bf16, (View.read (Elt Ideal) ((cfg0.win 1).blk t).view A (ix2 k ⟨u.val * 128 + e.val, by omega⟩) : EReal)
      = A (ix2 (rowK t k) ⟨(hOf t u).val * 128 + e.val, by omega⟩) := by
    intro A
    unfold hOf rowK
    blk_ext [idx t]
  exact key (V m c main_v9)

theorem blk_v (c : Dev nD) (t : Fin cfg0.N) (k : Fin 256) (u : Fin 2) (e : Fin 128) :
    (iblk m c 2 t (ix2 k (ln u e)) : EReal) = av m c (bOf t) (hOf t u) k e := by
  rw [ln_eq]
  refine Eq.trans ?_ ((v_at m c (rowK t k) (hOf t u) e).trans (by rw [rowK_div, rowK_mod]))
  have key : ∀ A : FVec Ideal S512x1024 .bf16, (View.read (Elt Ideal) ((cfg0.win 2).blk t).view A (ix2 k ⟨u.val * 128 + e.val, by omega⟩) : EReal)
      = A (ix2 (rowK t k) ⟨512 + ((hOf t u).val * 128 + e.val), by omega⟩) := by
    intro A
    unfold hOf rowK
    blk_ext [idx t]
  exact key (V m c main_v9)

end Cert.Kernel5Ideal.Value
-- ==== Proof.MfwStep.lean ====
module

public import proofs.«01_k».proof.Proof.MfwBlocks
public import Idealize.ShloMosaic.Lib.UnfoldOut

@[expose] public section

set_option maxRecDepth 16384

/-! What a grid point of the memory attention's forward call leaves in its two blocks, and the result arrays. -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen
open Cert.Kernel2Ideal.Value (qs)
variable (m : (ℓ : Loc nD τ sig) → Buf (Elt Ideal) ℓ)

/-- The body's constant. -/
abbrev cE : EReal := (Named.named κ "log2e" (0x3FB8AA3B#32 : BitVec (FTy.bits .f32)) : Ideal .f32)

/-- A score, a row's largest, a numerator, an output and a row log-sum, of a head's blocks of queries, keys and values. -/
def bs (Q : Fin 1024 → Fin 128 → EReal) (K : Fin 256 → Fin 128 → EReal) (r : Fin 1024) (k : Fin 256) : EReal := ∑ e, Q r e * K k e
def bm (Q : Fin 1024 → Fin 128 → EReal) (K : Fin 256 → Fin 128 → EReal) (r : Fin 1024) : EReal :=
  Finset.univ.fold max (Ideal.ofBits .f32 0xFF800000#32) (bs Q K r)
def bp (Q : Fin 1024 → Fin 128 → EReal) (K : Fin 256 → Fin 128 → EReal) (r : Fin 1024) (k : Fin 256) : EReal := Ideal.exp2 (bs Q K r k - bm Q K r)
def bo (Q : Fin 1024 → Fin 128 → EReal) (K V : Fin 256 → Fin 128 → EReal) (r : Fin 1024) (e : Fin 128) : EReal :=
  Ideal.div (∑ k, bp Q K r k * V k e) (∑ k, bp Q K r k)
def bl (Q : Fin 1024 → Fin 128 → EReal) (K : Fin 256 → Fin 128 → EReal) (r : Fin 1024) : EReal := bm Q K r + Ideal.log (∑ k, bp Q K r k) * cE

variable (X : FVec Ideal S1024x256 .bf16) (Y Z : FVec Ideal S256x256 .bf16)

/-- Head `u`'s lanes of a block. -/
def hd {R : ℕ} (X : FVec Ideal ⟨2, ![R, 256]⟩ .bf16) (u : Fin 2) (r : Fin R) (e : Fin 128) : EReal := X (ix2 r (ln u e))

/-- A block written head by head, read at a lane of a head. -/
theorem heads {Val : EltTy → Type} [∀ e, Nonempty (Val e)] {R : ℕ} {φ : EltTy}
    (i1 : ∀ a, (![0, 128] : Fin 2 → ℕ) a + (![R, 128] : Fin 2 → ℕ) a ≤ (⟨2, ![R, 256]⟩ : Shape).size a) (P1 : (Rect.unit (s := ⟨2, ![R, 256]⟩) ![0, 128] ![R, 128] i1).shape.Idx → Val φ)
    (i0 : ∀ a, (![0, 0] : Fin 2 → ℕ) a + (![R, 128] : Fin 2 → ℕ) a ≤ (⟨2, ![R, 256]⟩ : Shape).size a) (P0 : (Rect.unit (s := ⟨2, ![R, 256]⟩) ![0, 0] ![R, 128] i0).shape.Idx → Val φ)
    (L : List (View.Piece Val (⟨2, ![R, 256]⟩ : Shape) φ)) (r : Fin R) (u : Fin 2) (e : Fin 128) :
    View.canon (⟨Rect.unit ![0, 128] ![R, 128] i1, P1⟩ :: ⟨Rect.unit ![0, 0] ![R, 128] i0, P0⟩ :: L) (ix2 r (ln u e)) = (match u with | 0 => P0 (ix2 r e) | 1 => P1 (ix2 r e)) := by
  match u with
  | 0 => rw [Columns.miss _ _ _ _ _ (.inl (by simp [ln])), Columns.hit _ _ _ _ _ e (by simp [ln])]
  | 1 => rw [Columns.hit _ _ _ _ _ e (by simp [ln])]

set_option maxHeartbeats 2000000 in
theorem out_o (r : Fin 1024) (u : Fin 2) (e : Fin 128) :
    (out0_3 (F := Ideal) X Y Z (ix2 r (ln u e)) : EReal) = bo (hd X u) (hd Y u) (hd Z u) r e := by
  unfold_out out0_3
  rw [heads]
  match u with
  | 0 => pointwise [k0_pay9, k0_pay8, k0_pay7, k0_pay6, k0_pay5]; rfl
  | 1 => pointwise [k0_pay1, k0_pay2, k0_pay3, k0_pay11, k0_pay12, k0_pay13]; rfl

set_option maxHeartbeats 2000000 in
theorem out_l (r : Fin 1024) (u : Fin 2) (e : Fin 128) :
    (out0_4 (F := Ideal) X Y Z (ix2 r (ln u e)) : EReal) = bl (hd X u) (hd Y u) r := by
  unfold_out out0_4
  rw [heads]
  match u with
  | 0 => pointwise [k0_pay10, k0_pay8, k0_pay7, k0_pay6, k0_pay5]; rfl
  | 1 => pointwise [k0_pay1, k0_pay2, k0_pay4, k0_pay11, k0_pay12, k0_pay13]; rfl

/-- The scores, the rows' largest, the outputs and the row log-sums as the kernel computes them. -/
def sc (c : Dev nD) (b : Fin 2) (h : Fin 4) (s : Fin 2048) (k : Fin 256) : EReal := ∑ e, aq m c b h s e * qs * ak m c b h k e
def mx (c : Dev nD) (b : Fin 2) (h : Fin 4) (s : Fin 2048) : EReal := Finset.univ.fold max (Ideal.ofBits .f32 0xFF800000#32) (sc m c b h s)
def oV (c : Dev nD) (b : Fin 2) (h : Fin 4) (s : Fin 2048) (e : Fin 128) : EReal :=
  Ideal.div (∑ k, Ideal.exp2 (sc m c b h s k - mx m c b h s) * av m c b h k e) (∑ k, Ideal.exp2 (sc m c b h s k - mx m c b h s))
def lV (c : Dev nD) (b : Fin 2) (h : Fin 4) (s : Fin 2048) (_e : Fin 128) : EReal :=
  mx m c b h s + Ideal.log (∑ k, Ideal.exp2 (sc m c b h s k - mx m c b h s)) * cE

theorem bs_eq (c : Dev nD) (t : Fin cfg0.N) (u : Fin 2) (r : Fin 1024) : bs (hd (iblk m c 0 t) u) (hd (iblk m c 1 t) u) r = sc m c (bOf t) (hOf t u) (sOf t r) := by
  funext k
  unfold bs sc hd
  exact Finset.sum_congr rfl fun e _ => congrArg₂ _ (blk_q m c t r u e) (blk_k m c t k u e)

theorem o_at (c : Dev nD) (t : Fin cfg0.N) (r : Fin 1024) (u : Fin 2) (e : Fin 128) :
    (out0_3 (iblk m c 0 t) (iblk m c 1 t) (iblk m c 2 t) (ix2 r (ln u e)) : EReal) = oV m c (bOf t) (hOf t u) (sOf t r) e := by
  refine (out_o _ _ _ r u e).trans ?_
  unfold bo bp bm
  rw [bs_eq]
  have hv : ∀ k, hd (iblk m c 2 t) u k e = av m c (bOf t) (hOf t u) k e := fun k => blk_v m c t k u e
  simp only [hv]
  rfl

theorem l_at (c : Dev nD) (t : Fin cfg0.N) (r : Fin 1024) (u : Fin 2) (e : Fin 128) :
    (out0_4 (iblk m c 0 t) (iblk m c 1 t) (iblk m c 2 t) (ix2 r (ln u e)) : EReal) = lV m c (bOf t) (hOf t u) (sOf t r) e := by
  refine (out_l _ _ _ r u e).trans ?_
  unfold bl bp bm
  rw [bs_eq]
  rfl

/-- The function of an index of a result array that a function of batch, head, row and lane is. -/
def flatG (f : Fin 2 → Fin 4 → Fin 2048 → Fin 128 → EReal) (i : S4096x512.Idx) : EReal :=
  f ⟨(i 0).val / 2048, by have := (i 0).isLt; change _ < 4096 at this; omega⟩ ⟨(i 1).val / 128, by have := (i 1).isLt; change _ < 512 at this; omega⟩
    ⟨(i 0).val % 2048, by omega⟩ ⟨(i 1).val % 128, by omega⟩

theorem flatG_eq (f : Fin 2 → Fin 4 → Fin 2048 → Fin 128 → EReal) (i : S4096x512.Idx) (b : Fin 2) (h : Fin 4) (s : Fin 2048) (e : Fin 128)
    (h0 : (i 0).val = 2048 * b.val + s.val) (h1 : (i 1).val = h.val * 128 + e.val) : flatG f i = f b h s e := by
  unfold flatG
  congr 1 <;> (apply Fin.ext; dsimp only; omega)

theorem o_arr (c : Dev nD) : (dats m 0 c).arrAt 3 cfg0.N = flatG (oV m c) := by
  refine (dats m 0 c).arrAt_eq_of_covers 3 _ (by decide +kernel) fun t hf y => ?_
  obtain ⟨k, j, rfl⟩ : ∃ (k : Fin 1024) (j : Fin 256), y = ix2 k j := ⟨y 0, y 1, eq_ix2 y⟩
  obtain ⟨u, e, rfl⟩ := Kernel2Ideal.Value.col j
  have key := o_at m c t k u e
  rw [ln_eq] at key
  have key := key.trans (flatG_eq (oV m c) ((win0_3.blk t).view.emb (ix2 k ⟨u.val * 128 + e.val, by omega⟩)) _ _ _ _
    (by blk_simp [idx t]; dsimp only [bOf, sOf]; omega) (by blk_simp [idx t]; dsimp only [hOf]; omega)).symm
  blk_simp
  rw [after0_3]
  exact key

theorem l_arr (c : Dev nD) : (dats m 0 c).arrAt 4 cfg0.N = flatG (lV m c) := by
  refine (dats m 0 c).arrAt_eq_of_covers 4 _ (by decide +kernel) fun t hf y => ?_
  obtain ⟨k, j, rfl⟩ : ∃ (k : Fin 1024) (j : Fin 256), y = ix2 k j := ⟨y 0, y 1, eq_ix2 y⟩
  obtain ⟨u, e, rfl⟩ := Kernel2Ideal.Value.col j
  have key := l_at m c t k u e
  rw [ln_eq] at key
  have key := key.trans (flatG_eq (lV m c) ((win0_4.blk t).view.emb (ix2 k ⟨u.val * 128 + e.val, by omega⟩)) _ _ _ _
    (by blk_simp [idx t]; dsimp only [bOf, sOf]; omega) (by blk_simp [idx t]; dsimp only [hOf]; omega)).symm
  blk_simp
  rw [after0_4]
  exact key

end Cert.Kernel5Ideal.Value
-- ==== Proof.MfwReference.lean ====
module

public import proofs.«01_k».proof.Proof.Gen.Reference5Ideal.Run
public import proofs.«01_k».proof.Proof.MemReference

@[expose] public section

set_option maxRecDepth 16384

/-! The reference of the memory attention's forward call: outputs and row log-sums, at an index. -/

noncomputable section

open Idealize.ShloMosaic Idealize.ShloMosaic.TcCoe Idealize.SL.Sem

namespace Cert.Reference5Ideal.Value
open Cert.Reference5Ideal Cert.Reference5Ideal.Gen
open Cert.Reference2Ideal.Value (score ex den xv rv rs rx score_at ex_at den_at xv_at)

variable (A0 : FVec Ideal S2x2048x512 .f32) (A1 : FVec Ideal S2x256x1024 .f32)

/-- The outputs, of the values and the numerators and denominators of softmax. -/
def outOf (Y : FVec Ideal S2x256x4x128 .f32) (E : FVec Ideal S2x4x2048x256 .f32) (D : FVec Ideal S2x4x2048x1 .f32) : FVec Ideal S4096x512 .f32 :=
  shapeCast _ (transpose S2x2048x4x128 [0, 3, 1, 2] (Host.dotGeneral dot_S2x256x4x128_S2x4x2048x256_S2x4x128x2048_1_3_3_2_02_01 none Y
    (Host.divf E (broadcastInDim S2x4x2048x256 ![0, 1, 2, 3] bcast_S2x4x2048x1_S2x4x2048x256_0_1_2_3 D)) : FVec Ideal S2x4x128x2048 .f32)
    transposes_S2x4x128x2048_S2x2048x4x128_0_3_1_2) shapeCasts_S2x2048x4x128_S4096x512

theorem outOf_at (Y : FVec Ideal S2x256x4x128 .f32) (E : FVec Ideal S2x4x2048x256 .f32) (D : FVec Ideal S2x4x2048x1 .f32) (b : Fin 2) (h : Fin 4) (s : Fin 2048) (e : Fin 128) :
    (outOf Y E D (ix2 ⟨b.val * 2048 + s.val, by omega⟩ ⟨h.val * 128 + e.val, by omega⟩) : EReal)
      = ∑ k, Y (ix4 b k h e) * Ideal.div (E (ix4 b h s k)) (D (ix4 b h s 0)) := by
  unfold outOf
  pointwise

/-- The row log-sums to the base two, repeated over the lanes, of the scores. -/
def lseOf (S : FVec Ideal S2x4x2048x256 .f32) : FVec Ideal S4096x512 .f32 :=
  shapeCast _ (broadcastInDim S2x2048x4x128 ![0, 1, 2, 3] bcast_S2x2048x4x1_S2x2048x4x128_0_1_2_3 (broadcastInDim S2x2048x4x1 ![0, 1, 2] bcast_S2x2048x4_S2x2048x4x1_0_1_2
    (Host.divf (transpose S2x2048x4 [0, 2, 1] (Host.log (Host.reduceAdd (Host.exp S) (constant S_ .f32 0x00000000#32) reducesTo_S2x4x2048x256_S2x4x2048_d3 h_S_) : FVec Ideal S2x4x2048 .f32)
      transposes_S2x4x2048_S2x2048x4_0_2_1) (broadcastInDim S2x2048x4 ![] bcast_S_S2x2048x4 (Host.log (constant S_ .f32 0x40000000#32)))))) shapeCasts_S2x2048x4x128_S4096x512

/-- The logarithm of two, of a whole array. -/
def cTwoLog : FVec Ideal S2x2048x4 .f32 := broadcastInDim S2x2048x4 ![] bcast_S_S2x2048x4 (Host.log (constant S_ .f32 0x40000000#32))
theorem cTwoLog_at (i : S2x2048x4.Idx) : (cTwoLog i : EReal) = Ideal.log (Ideal.ofBits .f32 0x40000000#32) := rfl

theorem lseOf_at (S : FVec Ideal S2x4x2048x256 .f32) (b : Fin 2) (h : Fin 4) (s : Fin 2048) (e : Fin 128) :
    (lseOf S (ix2 ⟨b.val * 2048 + s.val, by omega⟩ ⟨h.val * 128 + e.val, by omega⟩) : EReal)
      = Ideal.div (Ideal.log (∑ k, Ideal.exp (S (ix4 b h s k)))) (Ideal.log (Ideal.ofBits .f32 0x40000000#32)) := by
  unfold lseOf
  rw [← cTwoLog_at (ix3 b s h), ← cTwoLog]
  generalize cTwoLog = Z
  pointwise

def out0 : FVec Ideal S4096x512 .f32 := outOf (xv A1) (ex A0 A1) (den A0 A1)
def out1 : FVec Ideal S4096x512 .f32 := lseOf (score A0 A1)

theorem out0_at (b : Fin 2) (h : Fin 4) (s : Fin 2048) (e : Fin 128) :
    (out0 A0 A1 (ix2 ⟨b.val * 2048 + s.val, by omega⟩ ⟨h.val * 128 + e.val, by omega⟩) : EReal)
      = ∑ k, rv A1 b h k e * Ideal.div (rx A0 A1 b h s k) (∑ l, rx A0 A1 b h s l) := by
  refine (outOf_at _ _ _ b h s e).trans ?_
  simp only [ex_at, den_at, xv_at]

theorem out1_at (b : Fin 2) (h : Fin 4) (s : Fin 2048) (e : Fin 128) :
    (out1 A0 A1 (ix2 ⟨b.val * 2048 + s.val, by omega⟩ ⟨h.val * 128 + e.val, by omega⟩) : EReal)
      = Ideal.div (Ideal.log (∑ k, Ideal.exp (rs A0 A1 b h s k))) (Ideal.log (Ideal.ofBits .f32 0x40000000#32)) := by
  refine (lseOf_at _ b h s e).trans ?_
  simp only [score_at]

/-- Every run of the reference ends with these two arrays, its arguments as they were. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = out0 (m ((c.tc : Thread nD τ).loc main_arg0)) (m ((c.tc : Thread nD τ).loc main_arg1))
      ∧ r.2.mem ((c.tc : Thread nD τ).loc main_v32) = out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2⟩) (run m ρ)

end Cert.Reference5Ideal.Value
-- ==== Proof.MfwPre.lean ====
module

public import proofs.«01_k».proof.Pre_fin5
public import proofs.«01_k».proof.Proof.Reals

@[expose] public section

/-! The precondition of the memory attention's forward call read: its argument arrays are arrays of reals. -/

noncomputable section

namespace Cert.Pre_fin5

open Idealize.ShloMosaic Cert.Reals

instance facts : Cert.Pre_fin5.Facts := by constructor <;> decide

/-- Where the precondition holds, every argument is real. -/
theorem reals (q : FVec Ideal S2x2048x512 .f32) (kv : FVec Ideal S2x256x1024 .f32) (h : fn (F := Ideal) q kv = fun _ => 1#1) :
    (∃ y : S2x2048x512.Idx → ℝ, q = fun i => (y i : EReal)) ∧ (∃ y : S2x256x1024.Idx → ℝ, kv = fun i => (y i : EReal)) := by
  have e := congrFun h fun a => a.elim0
  obtain ⟨eq, ek⟩ := both _ _ e
  haveI : Subsingleton S_.Idx := ⟨fun a b => funext fun i => i.elim0⟩
  have hb : ∀ (s : Shape) (hs : S_.BroadcastsInDim s (![] : Fin 0 → Fin s.rank)) i,
      (broadcastInDim s ![] hs (constant (F := Ideal) S_ .f32 0x7F800000#32) i : EReal) = ⊤ := fun s hs i => cTop
  exact ⟨finite_of_all q _ (hb _ _) _ _ _ _ eq, finite_of_all kv _ (hb _ _) _ _ _ _ ek⟩

end Cert.Pre_fin5
-- ==== Proof.MfwAlgebraic.lean ====
module

public import proofs.«01_k».proof.Defs
public import proofs.«01_k».proof.Proof.MfwStep
public import proofs.«01_k».proof.Proof.MfwReference
public import proofs.«01_k».proof.Proof.MfwPre
public import proofs.«01_k».proof.Proof.FwdMath
public import proofs.«01_k».proof.Proof.MemAlgebraic

@[expose] public section

set_option maxRecDepth 16384

/-! The kernel and the reference of the memory attention's forward call compute one function over the extended reals. -/

noncomputable section

namespace Cert.Mfw

open Idealize.ShloMosaic Idealize.ShloMosaic.TcCoe Idealize.SL.Sem
open Cert.Reals Cert.AttnMath
open Cert.Mem (x rt rt_ne qs_real RefArgs elt flat_lt rs_real soft_real)

/-! ## The kernel -/
section Kernel
open Cert.Kernel5Ideal Cert.Kernel5Ideal.Value
variable (q : Fin 2 → Fin 4 → Fin 2048 → Fin 128 → ℝ) (k v : Fin 2 → Fin 4 → Fin 256 → Fin 128 → ℝ) (m : (ℓ : Loc nD τ sig) → Buf (Elt Ideal) ℓ) (c : Dev nD)

/-- The arguments are these reals. -/
structure Args : Prop where
  q : ∀ b h s e, aq m c b h s e = ((q b h s e : ℝ) : EReal)
  k : ∀ b h s e, ak m c b h s e = ((k b h s e : ℝ) : EReal)
  v : ∀ b h s e, av m c b h s e = ((v b h s e : ℝ) : EReal)

variable {q k v m c} (A : Args q k v m c)
include A

theorem sc_real (b : Fin 2) (h : Fin 4) (s : Fin 2048) (j : Fin 256) : sc m c b h s j = ((x q k b h s j / Real.log 2 : ℝ) : EReal) := by
  unfold sc
  simp only [A.q, A.k, qs_real, ← EReal.coe_mul, coe_sum]
  congr 1
  rw [x, Finset.sum_div, Finset.sum_div]
  refine Finset.sum_congr rfl fun e _ => ?_
  have h1 := rt_ne
  have h2 := log2_pos.ne'
  field_simp

theorem mx_real (b : Fin 2) (h : Fin 4) (s : Fin 2048) : ∃ M : ℝ, mx m c b h s = (M : EReal) :=
  rowmax_real _ _ (sc_real A b h s)

theorem o_real (b : Fin 2) (h : Fin 4) (s : Fin 2048) (e : Fin 128) : oV m c b h s e = ((∑ j, soft (x q k b h s) j * v b h j e : ℝ) : EReal) := by
  obtain ⟨M, hM⟩ := mx_real A b h s
  unfold oV
  simp only [hM, A.v]
  exact fwd_out (x q k b h s) (fun j => v b h j e) M (sc m c b h s) (sc_real A b h s)

theorem l_real (b : Fin 2) (h : Fin 4) (s : Fin 2048) (e : Fin 128) : lV m c b h s e = ((lse2 (x q k b h s) : ℝ) : EReal) := by
  obtain ⟨M, hM⟩ := mx_real A b h s
  unfold lV
  rw [hM, show cE = (((Real.log 2)⁻¹ : ℝ) : EReal) from rfl]
  exact fwd_lse (x q k b h s) M (sc m c b h s) (sc_real A b h s)

end Kernel

/-! ## The reference -/
section Reference
open Cert.Reference5Ideal Cert.Reference5Ideal.Value
variable {q : Fin 2 → Fin 4 → Fin 2048 → Fin 128 → ℝ} {k v : Fin 2 → Fin 4 → Fin 256 → Fin 128 → ℝ}
variable {A0 : FVec Ideal S2x2048x512 .f32} {A1 : FVec Ideal S2x256x1024 .f32} (A : RefArgs q q k v A0 A1 A0)
include A

theorem out0_real (b : Fin 2) (h : Fin 4) (s : Fin 2048) (e : Fin 128) :
    (out0 A0 A1 (ix2 ⟨b.val * 2048 + s.val, by omega⟩ ⟨h.val * 128 + e.val, by omega⟩) : EReal) = ((∑ j, soft (x q k b h s) j * v b h j e : ℝ) : EReal) := by
  rw [out0_at]
  simp only [soft_real A, A.v, ← EReal.coe_mul, coe_sum]
  exact congrArg _ (Finset.sum_congr rfl fun s _ => mul_comm _ _)

theorem out1_real (b : Fin 2) (h : Fin 4) (s : Fin 2048) (e : Fin 128) :
    (out1 A0 A1 (ix2 ⟨b.val * 2048 + s.val, by omega⟩ ⟨h.val * 128 + e.val, by omega⟩) : EReal) = ((lse2 (x q k b h s) : ℝ) : EReal) := by
  rw [out1_at]
  exact ref_lse _ _ (rs_real A b h s)

end Reference

/-- Two arrays that are the same function of batch, head, row and lane are equal. -/
theorem arr_eq (X : (⟨2, ![4096, 512]⟩ : Shape).Idx → EReal) (f : Fin 2 → Fin 4 → Fin 2048 → Fin 128 → EReal) (g : Fin 2 → Fin 4 → Fin 2048 → Fin 128 → ℝ)
    (hX : ∀ (b : Fin 2) (h : Fin 4) (s : Fin 2048) (e : Fin 128), X (ix2 (⟨b.val * 2048 + s.val, by omega⟩ : Fin 4096) (⟨h.val * 128 + e.val, by omega⟩ : Fin 512)) = ((g b h s e : ℝ) : EReal))
    (hf : ∀ b h s e, f b h s e = ((g b h s e : ℝ) : EReal)) : X = Kernel5Ideal.Value.flatG f := by
  funext i
  obtain ⟨b, h, s, e, rfl⟩ := elt (n := 2048) rfl i
  refine (hX b h s e).trans ?_
  rw [Kernel5Ideal.Value.flatG_eq f _ b h s e (by show b.val * 2048 + s.val = _; omega) rfl, hf]

/-- The value claim of the memory attention's forward call: its outputs and its row log-sums. -/
theorem algebraic : algebraic_Kernel5Ideal_Reference5Ideal_pre_fin5 := by
  pair_intro
  · run_from Cert.Kernel5Ideal.Value.run_blocks m g
  · run_from Cert.Reference5Ideal.Value.run_outs m' g'
    all_goals
      obtain ⟨⟨yq, hq⟩, ⟨yk, hk⟩⟩ := Pre_fin5.reals _ _ (hpre c)
      have A : Args (fun b h s e => yq (ix3 b s ⟨h.val * 128 + e.val, by omega⟩))
          (fun b h k e => yk (ix3 b k ⟨h.val * 128 + e.val, by omega⟩)) (fun b h k e => yk (ix3 b k ⟨512 + (h.val * 128 + e.val), by omega⟩)) m c :=
        ⟨fun _ _ _ _ => congrFun hq _, fun _ _ _ _ => congrFun hk _, fun _ _ _ _ => congrFun hk _⟩
      have B : RefArgs (fun b h s e => yq (ix3 b s ⟨h.val * 128 + e.val, by omega⟩)) (fun b h s e => yq (ix3 b s ⟨h.val * 128 + e.val, by omega⟩))
          (fun b h k e => yk (ix3 b k ⟨h.val * 128 + e.val, by omega⟩)) (fun b h k e => yk (ix3 b k ⟨512 + (h.val * 128 + e.val), by omega⟩))
          (m (c.tc.loc Kernel5Ideal.main_arg0)) (m (c.tc.loc Kernel5Ideal.main_arg1)) (m (c.tc.loc Kernel5Ideal.main_arg0)) :=
        ⟨fun _ _ _ _ => congrFun hq _, fun _ _ _ _ => congrFun hk _, fun _ _ _ _ => congrFun hk _, fun _ _ _ _ => congrFun hq _⟩
    · rw [Kernel5Ideal.Value.o_arr]
      exact arr_eq _ _ _ (out0_real B) (o_real A)
    · rw [Kernel5Ideal.Value.l_arr]
      exact arr_eq _ _ _ (out1_real B) (l_real A)

end Cert.Mfw
-- ==== Proof.Rotary.lean ====
module

public import Idealize.ShloMosaic.Lib.Pointwise

@[expose] public section

set_option maxRecDepth 16384

/-! The table of a rotary embedding's cosines and sines over 512 lanes: of the lanes a rotation does not reach the cosine is one and
    the sine is zero, which is what an angle of zero gives. -/

noncomputable section

namespace Cert.Rotary

open Idealize.ShloMosaic

/-- The frequency of the pair `j`: the base, raised to minus twice `j` over the lanes rotated `N`. -/
def freq (N : EReal) (j : ℕ) : EReal :=
  Ideal.pow (Ideal.ofBits .f32 0x48F42400#32) (-Ideal.div (Ideal.ofBits .f32 0x40000000#32 * (FloatOps.sitofp .f32 (BitVec.ofNat 32 j) : Ideal .f32)) N)

/-- The two counts of lanes rotated. -/
abbrev n16 : EReal := Ideal.ofBits .f32 0x41800000#32
abbrev n32 : EReal := Ideal.ofBits .f32 0x42000000#32

/-- The frequencies over 128 lanes: twice 64 lanes, of which the first 16 rotate. -/
def laneA (l : ℕ) : EReal := if l % 64 < 8 then freq n16 (l % 64) else if l % 64 < 16 then freq n16 (l % 64 - 8) else 0

/-- The frequencies over 128 lanes, of which 32 rotate, from the 64th on. -/
def laneB (l : ℕ) : EReal := if l < 64 then 0 else if l < 80 then freq n32 (l - 64) else if l < 96 then freq n32 (l - 80) else 0

/-- The table at the position `p` and the lane `q`. -/
def table (p : EReal) (q : ℕ) : EReal :=
  if q < 128 then Ideal.cos (p * laneA q) else if q < 256 then Ideal.sin (p * laneA (q - 128))
  else if q < 384 then Ideal.cos (p * laneB (q - 256)) else Ideal.sin (p * laneB (q - 384))

theorem cos_zero : Ideal.cos 0 = 1 := by
  show ((Real.cos 0 : ℝ) : EReal) = 1
  simp

theorem sin_zero : Ideal.sin 0 = 0 := by
  show ((Real.sin 0 : ℝ) : EReal) = 0
  simp

/-- A value given by cases equals `t` when it does in both. -/
theorem cases_eq {b : Prop} [Decidable b] {x : b → EReal} {y : ¬ b → EReal} {t : EReal} (hx : ∀ h, x h = t) (hy : ∀ h, y h = t) : dite b x y = t := by
  by_cases h : b
  · rw [dif_pos h, hx]
  · rw [dif_neg h, hy]

section
variable (p : EReal) (q : ℕ)

/-- The four quarters of the table. -/
theorem quarter0 (h : q < 128) : table p q = Ideal.cos (p * laneA q) := by rw [table, if_pos h]
theorem quarter1 (h : 128 ≤ q ∧ q < 256) : table p q = Ideal.sin (p * laneA (q - 128)) := by rw [table, if_neg (by omega), if_pos (by omega)]
theorem quarter2 (h : 256 ≤ q ∧ q < 384) : table p q = Ideal.cos (p * laneB (q - 256)) := by
  rw [table, if_neg (by omega), if_neg (by omega), if_pos (by omega)]
theorem quarter3 (h : 384 ≤ q) : table p q = Ideal.sin (p * laneB (q - 384)) := by
  rw [table, if_neg (by omega), if_neg (by omega), if_neg (by omega)]
end

/-- A frequency's lane, and a lane that does not rotate. -/
theorem laneA_of (l j : ℕ) (h : l % 64 = j ∧ j < 8 ∨ l % 64 = j + 8 ∧ j < 8) : laneA l = freq n16 j := by
  rcases h with ⟨h, hj⟩ | ⟨h, hj⟩
  · rw [laneA, if_pos (by omega), h]
  · rw [laneA, if_neg (by omega), if_pos (by omega), h, Nat.add_sub_cancel]
theorem laneA_off (l : ℕ) (h : 16 ≤ l % 64) : laneA l = 0 := by rw [laneA, if_neg (by omega), if_neg (by omega)]
theorem laneB_of (l j : ℕ) (h : l = j + 64 ∧ j < 16 ∨ l = j + 80 ∧ j < 16) : laneB l = freq n32 j := by
  rcases h with ⟨h, hj⟩ | ⟨h, hj⟩
  · rw [laneB, if_neg (by omega), if_pos (by omega), h, Nat.add_sub_cancel]
  · rw [laneB, if_neg (by omega), if_neg (by omega), if_pos (by omega), h, Nat.add_sub_cancel]
theorem laneB_off (l : ℕ) (h : l < 64 ∨ 96 ≤ l) : laneB l = 0 := by
  rcases h with h | h
  · rw [laneB, if_pos h]
  · rw [laneB, if_neg (by omega), if_neg (by omega), if_neg (by omega)]

section
variable (p : EReal) (q j : ℕ)

/-- The table at a lane that rotates, and at one that does not, quarter by quarter. -/
theorem cosA (h : q < 128 ∧ j < 8 ∧ (q % 64 = j ∨ q % 64 = j + 8)) : Ideal.cos (p * freq n16 j) = table p q := by
  rw [quarter0 p q h.1, laneA_of q j (by omega)]
theorem sinA (h : 128 ≤ q ∧ q < 256 ∧ j < 8 ∧ (q % 64 = j ∨ q % 64 = j + 8)) : Ideal.sin (p * freq n16 j) = table p q := by
  rw [quarter1 p q (by omega), laneA_of (q - 128) j (by omega)]
theorem cosB (h : q < 384 ∧ j < 16 ∧ (q = 320 + j ∨ q = 336 + j)) : Ideal.cos (p * freq n32 j) = table p q := by
  rw [quarter2 p q (by omega), laneB_of (q - 256) j (by omega)]
theorem sinB (h : j < 16 ∧ (q = 448 + j ∨ q = 464 + j)) : Ideal.sin (p * freq n32 j) = table p q := by
  rw [quarter3 p q (by omega), laneB_of (q - 384) j (by omega)]
theorem one_of (h : q < 128 ∧ 16 ≤ q % 64 ∨ 256 ≤ q ∧ q < 320 ∨ 352 ≤ q ∧ q < 384) : (1 : EReal) = table p q := by
  rcases h with h | h | h
  · rw [quarter0 p q h.1, laneA_off q h.2, mul_zero, cos_zero]
  · rw [quarter2 p q (by omega), laneB_off _ (by omega), mul_zero, cos_zero]
  · rw [quarter2 p q (by omega), laneB_off _ (by omega), mul_zero, cos_zero]
theorem zero_of (h : 128 ≤ q ∧ q < 256 ∧ 16 ≤ q % 64 ∨ 384 ≤ q ∧ q < 448 ∨ 480 ≤ q) : (0 : EReal) = table p q := by
  rcases h with h | h | h
  · rw [quarter1 p q (by omega), laneA_off _ (by omega), mul_zero, sin_zero]
  · rw [quarter3 p q (by omega), laneB_off _ (by omega), mul_zero, sin_zero]
  · rw [quarter3 p q (by omega), laneB_off _ (by omega), mul_zero, sin_zero]
end

end Cert.Rotary
-- ==== Proof.LnfBlocks.lean ====
module

public import proofs.«01_k».proof.Proof.Gen.Kernel6Ideal.Value
public import proofs.«01_k».proof.Proof.Rotary
public import Idealize.ShloMosaic.Lib.Pipeline.ValueKit

@[expose] public section

set_option maxRecDepth 16384

/-! What the arrays of the input norm's forward call hold when its region starts, and the blocks a grid point reads: 512 rows of
    4096, and the rotary frequencies laid over the lanes. -/

noncomputable section

open Idealize.ShloMosaic Idealize.ShloMosaic.TcCoe Idealize.SL.Sem
open Idealize.ShloMosaic.Pipeline (Dat)

namespace Cert.Kernel6Ideal.Value
open Cert.Kernel6Ideal Cert.Kernel6Ideal.Gen
variable (m : (ℓ : Loc nD τ sig) → Buf (Elt Ideal) ℓ)

/-- Arrays of one word. -/
def of8 (b : BitVec 32) : FVec Ideal S8 .f32 := broadcastInDim S8 ![] bcast_S_S8 (constant S_ .f32 b)
def of16 (b : BitVec 32) : FVec Ideal S16 .f32 := broadcastInDim S16 ![] bcast_S_S16 (constant S_ .f32 b)

/-- The frequencies of the two rotations. -/
def freqA : FVec Ideal S8 .f32 :=
  Host.powf (of8 0x48F42400#32) (Host.negf (Host.divf (addf (of8 0x00000000#32) (mulf (of8 0x40000000#32) (sitofp .f32 (iotaInDim S8 32 0)))) (of8 0x41800000#32)))
def freqB : FVec Ideal S16 .f32 :=
  Host.powf (of16 0x48F42400#32) (Host.negf (Host.divf (addf (of16 0x00000000#32) (mulf (of16 0x40000000#32) (sitofp .f32 (iotaInDim S16 32 0)))) (of16 0x42000000#32)))

/-- A row of lanes from the values on the two halves of the lanes rotated. -/
def halfA (x y : FVec Ideal S8 .f32) : FVec Ideal S64 .f32 := concatenate S64 0 [⟨S0, broadcastInDim S0 ![] bcast_S_S0 (constant S_ .f32 0x00000000#32)⟩, ⟨S8, x⟩, ⟨S8, y⟩,
  ⟨S48, broadcastInDim S48 ![] bcast_S_S48 (constant S_ .f32 0x00000000#32)⟩] concatenates_S0_S8_S8_S48_S64_d0
def rowA (x y : FVec Ideal S8 .f32) : FVec Ideal S1x128 .f32 :=
  shapeCast _ (concatenate S128 0 [⟨S64, halfA x y⟩, ⟨S64, halfA x y⟩] concatenates_S64_S64_S128_d0) shapeCasts_S128_S1x128
def rowB (x y : FVec Ideal S16 .f32) : FVec Ideal S1x128 .f32 :=
  shapeCast _ (concatenate S128 0 [⟨S64, broadcastInDim S64 ![] bcast_S_S64 (constant S_ .f32 0x00000000#32)⟩, ⟨S16, x⟩, ⟨S16, y⟩,
  ⟨S32, broadcastInDim S32 ![] bcast_S_S32 (constant S_ .f32 0x00000000#32)⟩] concatenates_S64_S16_S16_S32_S128_d0) shapeCasts_S128_S1x128

/-- Three rows over five of zeros. -/
def tall (x y z : FVec Ideal S1x128 .f32) : FVec Ideal S8x128 .f32 := concatenate S8x128 0 [⟨S1x128, x⟩, ⟨S1x128, y⟩, ⟨S1x128, z⟩,
  ⟨S5x128, broadcastInDim S5x128 ![] bcast_S_S5x128 (constant S_ .f32 0x00000000#32)⟩] concatenates_S1x128_S1x128_S1x128_S5x128_S8x128_d0

set_option maxHeartbeats 1000000 in
theorem ra_arr (c : Dev nD) : V m c main_v34 =
    tall (rowA freqA freqA) (rowA (of8 0x3F800000#32) (of8 0x00000000#32)) (rowA (of8 0x00000000#32) (of8 0x3F800000#32)) := by
  dsimp only [V, hostOps0]
  after_results_simp
  rfl

set_option maxHeartbeats 1000000 in
theorem rb_arr (c : Dev nD) : V m c main_v61 =
    tall (rowB freqB freqB) (rowB (of16 0x3F800000#32) (of16 0x00000000#32)) (rowB (of16 0x00000000#32) (of16 0x3F800000#32)) := by
  dsimp only [V, hostOps0]
  after_results_simp
  rfl

theorem tall_at (x y z : FVec Ideal S1x128 .f32) (l : Fin 128) : tall x y z (ix2 0 l) = x (ix2 0 l) := by
  pointwise [tall]

theorem ra_at (c : Dev nD) (l : Fin 128) : ((V m c main_v34) (ix2 0 l) : EReal) = Rotary.laneA l.val := by
  rw [ra_arr, tall_at]
  pointwise [rowA, halfA, freqA, of8]
  split_ifs
  all_goals first
    | (exfalso; omega)
    | exact (Rotary.laneA_of _ _ (by omega)).symm
    | exact (Rotary.laneA_off _ (by omega)).symm

theorem rb_at (c : Dev nD) (l : Fin 128) : ((V m c main_v61) (ix2 0 l) : EReal) = Rotary.laneB l.val := by
  rw [rb_arr, tall_at]
  pointwise [rowB, freqB, of16]
  split_ifs
  all_goals first
    | exact (Rotary.laneB_of _ _ (by omega)).symm
    | exact (Rotary.laneB_off _ (by omega)).symm

/-- Row `R` of the norm's argument, its scale and shift, and row `R`'s position. -/
def xrow (c : Dev nD) (R : Fin 4096) (k : Fin 1024) : EReal := m (c, Proc.tc.devRef main_arg0) (ix3 ⟨R.val / 2048, by omega⟩ ⟨R.val % 2048, by omega⟩ k)
def gain (c : Dev nD) (k : Fin 1024) : EReal := m (c, Proc.tc.devRef main_arg1) (ix1 k)
def bias (c : Dev nD) (k : Fin 1024) : EReal := m (c, Proc.tc.devRef main_arg2) (ix1 k)
def pos (c : Dev nD) (R : Fin 4096) : EReal :=
  (FloatOps.sitofp .f32 (m (c, Proc.tc.devRef main_arg3) (ix2 ⟨R.val / 2048, by omega⟩ ⟨R.val % 2048, by omega⟩)) : Ideal .f32)

theorem x_at (c : Dev nD) (R : Fin 4096) (q : Fin 1024) : ((V m c main_v0) (ix2 R q) : EReal) = xrow m c R q := by
  dsimp only [V, hostOps0]
  after_results_simp
  pointwise
  rfl

theorem g_at (c : Dev nD) (r : Fin 1) (q : Fin 1024) : ((V m c main_v1) (ix2 r q) : EReal) = gain m c q := by
  dsimp only [V, hostOps0]
  after_results_simp
  pointwise
  rfl

theorem b_at (c : Dev nD) (r : Fin 1) (q : Fin 1024) : ((V m c main_v2) (ix2 r q) : EReal) = bias m c q := by
  dsimp only [V, hostOps0]
  after_results_simp
  pointwise
  rfl

theorem p_at (c : Dev nD) (R : Fin 4096) (z : Fin 1) : ((V m c main_v4) (ix2 R z) : EReal) = pos m c R := by
  dsimp only [V, hostOps0]
  after_results_simp
  pointwise
  rfl

theorem idx : ∀ t : Fin cfg0.N, win0_0.index t = ![t.val, 0] ∧ win0_1.index t = ![0, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem pt_lt (t : Fin cfg0.N) : t.val < 8 := lt_of_lt_of_eq t.isLt N_0

/-- The row of the arrays that row `r` of point `t` is. -/
def rowOf (t : Fin cfg0.N) (r : Fin 512) : Fin 4096 := ⟨512 * t.val + r.val, by have := pt_lt t; omega⟩

theorem blk_x (c : Dev nD) (t : Fin cfg0.N) (r : Fin 512) (k : Fin 1024) : (iblk m c 0 t (ix2 r k) : EReal) = xrow m c (rowOf t r) k := by
  refine Eq.trans ?_ (x_at m c (rowOf t r) k)
  have key : ∀ A : FVec Ideal S4096x1024 .f32, (View.read (Elt Ideal) ((cfg0.win 0).blk t).view A (ix2 r k) : EReal) = A (ix2 (rowOf t r) k) := by
    intro A
    unfold rowOf
    blk_ext [idx t]
  exact key (V m c main_v0)

theorem blk_g (c : Dev nD) (t : Fin cfg0.N) (r : Fin 1) (k : Fin 1024) : (iblk m c 1 t (ix2 r k) : EReal) = gain m c k := by
  refine Eq.trans ?_ (g_at m c r k)
  have key : ∀ A : FVec Ideal S1x1024 .f32, (View.read (Elt Ideal) ((cfg0.win 1).blk t).view A (ix2 r k) : EReal) = A (ix2 r k) := by
    intro A
    blk_ext [idx t]
  exact key (V m c main_v1)

theorem blk_b (c : Dev nD) (t : Fin cfg0.N) (r : Fin 1) (k : Fin 1024) : (iblk m c 2 t (ix2 r k) : EReal) = bias m c k := by
  refine Eq.trans ?_ (b_at m c r k)
  have key : ∀ A : FVec Ideal S1x1024 .f32, (View.read (Elt Ideal) ((cfg0.win 2).blk t).view A (ix2 r k) : EReal) = A (ix2 r k) := by
    intro A
    blk_ext [idx t]
  exact key (V m c main_v2)

theorem blk_p (c : Dev nD) (t : Fin cfg0.N) (r : Fin 512) (z : Fin 1) : (iblk m c 3 t (ix2 r z) : EReal) = pos m c (rowOf t r) := by
  refine Eq.trans ?_ (p_at m c (rowOf t r) z)
  have key : ∀ A : FVec Ideal S4096x1 .f32, (View.read (Elt Ideal) ((cfg0.win 3).blk t).view A (ix2 r z) : EReal) = A (ix2 (rowOf t r) z) := by
    intro A
    unfold rowOf
    blk_ext [idx t]
  exact key (V m c main_v4)

theorem blk_ra (c : Dev nD) (t : Fin cfg0.N) (l : Fin 128) : (iblk m c 4 t (ix2 0 l) : EReal) = Rotary.laneA l.val := by
  refine Eq.trans ?_ (ra_at m c l)
  have key : ∀ A : FVec Ideal S8x128 .f32, (View.read (Elt Ideal) ((cfg0.win 4).blk t).view A (ix2 0 l) : EReal) = A (ix2 0 l) := by
    intro A
    blk_ext [idx t]
  exact key (V m c main_v34)

theorem blk_rb (c : Dev nD) (t : Fin cfg0.N) (l : Fin 128) : (iblk m c 5 t (ix2 0 l) : EReal) = Rotary.laneB l.val := by
  refine Eq.trans ?_ (rb_at m c l)
  have key : ∀ A : FVec Ideal S8x128 .f32, (View.read (Elt Ideal) ((cfg0.win 5).blk t).view A (ix2 0 l) : EReal) = A (ix2 0 l) := by
    intro A
    blk_ext [idx t]
  exact key (V m c main_v61)

end Cert.Kernel6Ideal.Value
-- ==== Proof.LnfStep.lean ====
module

public import proofs.«01_k».proof.Proof.LnfBlocks
public import proofs.«01_k».proof.Proof.LnMath
public import proofs.«01_k».proof.Proof.MlaFold

@[expose] public section

set_option maxRecDepth 16384

/-! What a grid point of the input norm's forward call leaves in its three blocks, and the result arrays. -/

noncomputable section

open Idealize.ShloMosaic Idealize.ShloMosaic.TcCoe Idealize.SL.Sem
open Idealize.ShloMosaic.Pipeline (Dat)

namespace Cert.Kernel6Ideal.Value
open Cert.Kernel6Ideal Cert.Kernel6Ideal.Gen
open Cert.Kernel3Ideal.Value (ln ln_eq col heads)
variable (m : (ℓ : Loc nD τ sig) → Buf (Elt Ideal) ℓ)

/-- The body's 1024 and epsilon. -/
abbrev cN : EReal := Ideal.ofBits .f32 0x44800000#32
abbrev cE : EReal := Ideal.ofBits .f32 0x3727C5AC#32

/-- The norm's result at row `R` and column `q`. -/
def hV (c : Dev nD) (R : Fin 4096) (q : Fin 1024) : EReal := LnMath.hat cN cE (xrow m c R) q * gain m c q + bias m c q

/-- Arrays of the result and of the table. -/
def hG (c : Dev nD) : S4096x1024.Idx → EReal := fun i => hV m c (i 0) (i 1)
def tG (c : Dev nD) : S4096x512.Idx → EReal := fun i => Rotary.table (pos m c (i 0)) (i 1).val

section
variable (X : FVec Ideal S512x1024 .f32) (G B : FVec Ideal S1x1024 .f32) (P : FVec Ideal S512x1 .f32) (A C : FVec Ideal S8x128 .f32)

theorem out_h (r : Fin 512) (q : Fin 1024) :
    (out0_7 (F := Ideal) X G B P A C (ix2 r q) : EReal) = LnMath.hat cN cE (fun k => X (ix2 r k)) q * G (ix2 0 q) + B (ix2 0 q) := by
  unfold out0_7
  rw [View.canon_cons_unit_lit, View.ld_unit_lit, View.ld_unit_lit, View.ld_unit_lit]
  any_goals try decide
  pointwise [k0_pay5]

theorem out_hb (r : Fin 512) (q : Fin 1024) :
    (out0_6 (F := Ideal) X G B P A C (ix2 r q) : EReal) = LnMath.hat cN cE (fun k => X (ix2 r k)) q * G (ix2 0 q) + B (ix2 0 q) := by
  unfold out0_6
  rw [View.canon_cons_unit_lit, View.ld_unit_lit, View.ld_unit_lit, View.ld_unit_lit]
  any_goals try decide
  pointwise [k0_pay6, k0_pay5]

theorem out_t (r : Fin 512) (u : Fin 4) (e : Fin 128) :
    (out0_8 (F := Ideal) X G B P A C (ix2 r (ln u e)) : EReal) = (match u with
      | 0 => Ideal.cos (P (ix2 r 0) * A (ix2 0 e)) | 1 => Ideal.sin (P (ix2 r 0) * A (ix2 0 e))
      | 2 => Ideal.cos (P (ix2 r 0) * C (ix2 0 e)) | 3 => Ideal.sin (P (ix2 r 0) * C (ix2 0 e))) := by
  unfold out0_8
  rw [heads]
  match u with
  | 0 | 1 | 2 | 3 => pointwise [k0_pay1, k0_pay2, k0_pay3, k0_pay4, k0_pay7, k0_pay8]

end

theorem h_at (c : Dev nD) (t : Fin cfg0.N) (r : Fin 512) (q : Fin 1024) :
    LnMath.hat cN cE (fun k => iblk m c 0 t (ix2 r k)) q * iblk m c 1 t (ix2 0 q) + iblk m c 2 t (ix2 0 q) = hV m c (rowOf t r) q := by
  have hx : (fun k => (iblk m c 0 t (ix2 r k) : EReal)) = xrow m c (rowOf t r) := funext fun k => blk_x m c t r k
  rw [hx, blk_g m c t 0 q, blk_b m c t 0 q, hV]

theorem t_at (c : Dev nD) (t : Fin cfg0.N) (r : Fin 512) (u : Fin 4) (e : Fin 128) :
    (out0_8 (iblk m c 0 t) (iblk m c 1 t) (iblk m c 2 t) (iblk m c 3 t) (iblk m c 4 t) (iblk m c 5 t) (ix2 r (ln u e)) : EReal)
      = Rotary.table (pos m c (rowOf t r)) (ln u e).val := by
  refine (out_t _ _ _ _ _ _ r u e).trans ?_
  rw [blk_p m c t r 0, blk_ra m c t e, blk_rb m c t e, ln_eq]
  match u with
  | 0 => rw [Rotary.quarter0 _ _ (by simp)]; simp
  | 1 => rw [Rotary.quarter1 _ _ (by simp; omega)]; simp
  | 2 => rw [Rotary.quarter2 _ _ (by simp; omega)]; simp
  | 3 => rw [Rotary.quarter3 _ _ (by simp)]; simp

theorem h_arr (c : Dev nD) : (dats m 0 c).arrAt 7 cfg0.N = hG m c := by
  refine (dats m 0 c).arrAt_eq_of_covers 7 _ (by decide +kernel) fun t hf y => ?_
  obtain ⟨r, q, rfl⟩ : ∃ (r : Fin 512) (q : Fin 1024), y = ix2 r q := ⟨y 0, y 1, eq_ix2 y⟩
  have key := (out_h (iblk m c 0 t) (iblk m c 1 t) (iblk m c 2 t) (iblk m c 3 t) (iblk m c 4 t) (iblk m c 5 t) r q).trans (h_at m c t r q)
  have e : hG m c ((win0_7.blk t).view.emb (ix2 r q)) = hV m c (rowOf t r) q :=
    congrArg₂ (hV m c) (Fin.ext (by blk_simp [idx t]; dsimp only [rowOf]; omega)) (Fin.ext (by blk_simp [idx t]))
  have key := key.trans e.symm
  blk_simp
  rw [after0_7]
  exact key

theorem hb_arr (c : Dev nD) : (dats m 0 c).arrAt 6 cfg0.N = hG m c := by
  refine (dats m 0 c).arrAt_eq_of_covers 6 _ (by decide +kernel) fun t hf y => ?_
  obtain ⟨r, q, rfl⟩ : ∃ (r : Fin 512) (q : Fin 1024), y = ix2 r q := ⟨y 0, y 1, eq_ix2 y⟩
  have key := (out_hb (iblk m c 0 t) (iblk m c 1 t) (iblk m c 2 t) (iblk m c 3 t) (iblk m c 4 t) (iblk m c 5 t) r q).trans (h_at m c t r q)
  have e : hG m c ((win0_6.blk t).view.emb (ix2 r q)) = hV m c (rowOf t r) q :=
    congrArg₂ (hV m c) (Fin.ext (by blk_simp [idx t]; dsimp only [rowOf]; omega)) (Fin.ext (by blk_simp [idx t]))
  have key := key.trans e.symm
  blk_simp
  rw [after0_6]
  exact key

theorem t_arr (c : Dev nD) : (dats m 0 c).arrAt 8 cfg0.N = tG m c := by
  refine (dats m 0 c).arrAt_eq_of_covers 8 _ (by decide +kernel) fun t hf y => ?_
  obtain ⟨r, j, rfl⟩ : ∃ (r : Fin 512) (j : Fin 512), y = ix2 r j := ⟨y 0, y 1, eq_ix2 y⟩
  obtain ⟨u, l, rfl⟩ := col j
  have key := t_at m c t r u l
  have e : tG m c ((win0_8.blk t).view.emb (ix2 r (ln u l))) = Rotary.table (pos m c (rowOf t r)) (ln u l).val :=
    congrArg₂ (fun R : Fin 4096 => Rotary.table (pos m c R)) (Fin.ext (by blk_simp [idx t]; dsimp only [rowOf]; omega)) (by blk_simp [idx t])
  have key := key.trans e.symm
  blk_simp
  rw [after0_8]
  exact key

end Cert.Kernel6Ideal.Value
-- ==== Proof.LnfReference.lean ====
module

public import proofs.«01_k».proof.Proof.LnMath
public import proofs.«01_k».proof.Proof.Rotary
public import proofs.«01_k».proof.Proof.Gen.Reference6Ideal.Run

@[expose] public section

set_option maxRecDepth 16384

/-! The reference of the input norm's forward call, read at an index: the norm, and the table of cosines and sines. -/

noncomputable section

namespace Cert.Reference6Ideal.Value

open Idealize.ShloMosaic Idealize.ShloMosaic.TcCoe Idealize.SL.Sem
open Cert.Reference6Ideal Cert.Reference6Ideal.Gen

section
variable (X : FVec Ideal S2x2048x1024 .f32) (G B : FVec Ideal S1024 .f32)

/-- A row's mean, as the reference takes it over the last axis. -/
def meanA : FVec Ideal S2x2048x1 .f32 :=
  Host.divf (broadcastInDim S2x2048x1 ![0, 1] bcast_S2x2048_S2x2048x1_0_1 (Host.reduceAdd X (constant S_ .f32 0#32) reducesTo_S2x2048x1024_S2x2048_d2 h_S_))
    (broadcastInDim S2x2048x1 ![] bcast_S_S2x2048x1 (constant S_ .f32 1149239296#32))

/-- A row less its mean. -/
def cenA : FVec Ideal S2x2048x1024 .f32 := subf X (broadcastInDim S2x2048x1024 ![0, 1, 2] bcast_S2x2048x1_S2x2048x1024_0_1_2 (meanA X))

/-- The norm's result in the reference. -/
def normA : FVec Ideal S2x2048x1024 .f32 :=
  addf (mulf (mulf (cenA X) (broadcastInDim S2x2048x1024 ![0, 1, 2] bcast_S2x2048x1_S2x2048x1024_0_1_2
        (Host.rsqrt (addf (meanA (mulf (cenA X) (cenA X))) (broadcastInDim S2x2048x1 ![] bcast_S_S2x2048x1 (constant S_ .f32 925353388#32))))))
      (broadcastInDim S2x2048x1024 ![0, 1, 2] bcast_S1x1x1024_S2x2048x1024_0_1_2 (broadcastInDim S1x1x1024 ![2] bcast_S1024_S1x1x1024_2 G)))
    (broadcastInDim S2x2048x1024 ![0, 1, 2] bcast_S1x1x1024_S2x2048x1024_0_1_2 (broadcastInDim S1x1x1024 ![2] bcast_S1024_S1x1x1024_2 B))

/-- The words of 1024 and of epsilon. -/
abbrev wN : EReal := Ideal.ofBits .f32 0x44800000#32
abbrev wE : EReal := Ideal.ofBits .f32 0x3727C5AC#32

theorem mean_at (b : Fin 2) (s : Fin 2048) : (meanA X (ix3 b s 0) : EReal) = LnMath.mean wN (fun k => X (ix3 b s k)) := by
  pointwise [meanA]

theorem cen_at (b : Fin 2) (s : Fin 2048) (k : Fin 1024) : (cenA X (ix3 b s k) : EReal) = LnMath.cen wN (fun k => X (ix3 b s k)) k := by
  have h := mean_at X b s
  generalize e : meanA X = M at h
  pointwise [cenA]
  rw [e, h]

theorem var_at (b : Fin 2) (s : Fin 2048) :
    (meanA (mulf (cenA X) (cenA X)) (ix3 b s 0) : EReal) = LnMath.mean wN (fun k => LnMath.cen wN (fun k => X (ix3 b s k)) k * LnMath.cen wN (fun k => X (ix3 b s k)) k) := by
  rw [mean_at]
  refine congrArg (LnMath.mean wN) (funext fun k => ?_)
  exact congrArg₂ (fun a b : EReal => a * b) (cen_at X b s k) (cen_at X b s k)

theorem norm_at (b : Fin 2) (s : Fin 2048) (q : Fin 1024) :
    (normA X G B (ix3 b s q) : EReal) = LnMath.hat wN wE (fun k => X (ix3 b s k)) q * G (ix1 q) + B (ix1 q) := by
  have hv := var_at X b s
  have hc := cen_at X b s q
  unfold normA
  generalize meanA (mulf (cenA X) (cenA X)) = M at hv ⊢
  generalize cenA X = C at hc ⊢
  pointwise
  rw [hv, hc]
end

set_option maxHeartbeats 2000000 in
/-- The reference's table at an index. -/
theorem table_at (m' : (ℓ : Loc nD τ sig) → Buf (Elt Ideal) ℓ) (c : Dev nD) (R : Fin 4096) (q : Fin 512) :
    ((res_main_v107 m' c) (ix2 R q) : EReal) = Rotary.table
      (FloatOps.sitofp .f32 (m' (c.tc.loc main_arg3) (ix2 ⟨R.val / 2048, by omega⟩ ⟨R.val % 2048, by omega⟩)) : Ideal .f32) q.val := by
  pointwise [res_main_v107]
  repeat' with_reducible refine Rotary.cases_eq (fun _ => ?_) (fun _ => ?_)
  all_goals first
    | exact Rotary.cosA _ _ _ (by omega)
    | exact Rotary.sinA _ _ _ (by omega)
    | exact Rotary.cosB _ _ _ (by omega)
    | exact Rotary.sinB _ _ _ (by omega)
    | exact Rotary.one_of _ _ (by omega)
    | exact Rotary.zero_of _ _ (by omega)

end Cert.Reference6Ideal.Value
-- ==== Proof.LnfAlgebraic.lean ====
module

public import proofs.«01_k».proof.Defs
public import proofs.«01_k».proof.Proof.LnfStep
public import proofs.«01_k».proof.Proof.LnfReference
public import Idealize.ShloMosaic.Lib.Claim

@[expose] public section

set_option maxRecDepth 16384

/-! The kernel and the reference of the input norm's forward call compute one function over the extended reals. -/

noncomputable section

namespace Cert.Lnf

open Idealize.ShloMosaic Idealize.ShloMosaic.TcCoe Idealize.SL.Sem

/-- The kernel's norm at an index, of its argument, scale and shift. -/
theorem hV_eq (m : (ℓ : Loc Kernel6Ideal.nD Kernel6Ideal.τ Kernel6Ideal.sig) → Buf (Elt Ideal) ℓ) (c : Dev Kernel6Ideal.nD) (R : Fin 4096) (q : Fin 1024) :
    Kernel6Ideal.Value.hG m c (ix2 R q) = (LnMath.hat (Ideal.ofBits .f32 0x44800000#32) (Ideal.ofBits .f32 0x3727C5AC#32)
        (fun k => (m (c.tc.loc Kernel6Ideal.main_arg0) : FVec Ideal Kernel6Ideal.S2x2048x1024 .f32) (ix3 ⟨R.val / 2048, by omega⟩ ⟨R.val % 2048, by omega⟩ k)) q
      * (m (c.tc.loc Kernel6Ideal.main_arg1) : FVec Ideal Kernel6Ideal.S1024 .f32) (ix1 q)
      + (m (c.tc.loc Kernel6Ideal.main_arg2) : FVec Ideal Kernel6Ideal.S1024 .f32) (ix1 q) : EReal) := rfl

/-- The reference's rows in one axis are the kernel's. -/
theorem flat_at (m : (ℓ : Loc Kernel6Ideal.nD Kernel6Ideal.τ Kernel6Ideal.sig) → Buf (Elt Ideal) ℓ) (c : Dev Kernel6Ideal.nD) (R : Fin 4096) (q : Fin 1024) :
    (shapeCast Reference6Ideal.S4096x1024 (Reference6Ideal.Value.normA (m (c.tc.loc Kernel6Ideal.main_arg0)) (m (c.tc.loc Kernel6Ideal.main_arg1)) (m (c.tc.loc Kernel6Ideal.main_arg2)))
      Reference6Ideal.Gen.shapeCasts_S2x2048x1024_S4096x1024 (ix2 R q) : EReal) = Kernel6Ideal.Value.hG m c (ix2 R q) := by
  rw [hV_eq]
  refine Eq.trans ?_ (Reference6Ideal.Value.norm_at _ _ _ ⟨R.val / 2048, by omega⟩ ⟨R.val % 2048, by omega⟩ q)
  generalize Reference6Ideal.Value.normA (m (c.tc.loc Kernel6Ideal.main_arg0)) (m (c.tc.loc Kernel6Ideal.main_arg1)) (m (c.tc.loc Kernel6Ideal.main_arg2)) = A
  pointwise

/-- The value claim of the input norm's forward call: its result in two types, and the table of cosines and sines. -/
theorem algebraic : algebraic_Kernel6Ideal_Reference6Ideal := by
  pair_intro
  · run_from Cert.Kernel6Ideal.Value.run_blocks m g
  · run_from Cert.Reference6Ideal.Value.run m' g'
    · rw [Kernel6Ideal.Value.hb_arr]
      funext i
      obtain ⟨R, q, rfl⟩ : ∃ (R : Fin 4096) (q : Fin 1024), i = ix2 R q := ⟨i 0, i 1, eq_ix2 i⟩
      exact flat_at m c R q
    · rw [Kernel6Ideal.Value.h_arr]
      funext i
      obtain ⟨R, q, rfl⟩ : ∃ (R : Fin 4096) (q : Fin 1024), i = ix2 R q := ⟨i 0, i 1, eq_ix2 i⟩
      exact flat_at m c R q
    · rw [Kernel6Ideal.Value.t_arr]
      funext i
      obtain ⟨R, q, rfl⟩ : ∃ (R : Fin 4096) (q : Fin 512), i = ix2 R q := ⟨i 0, i 1, eq_ix2 i⟩
      refine (Reference6Ideal.Value.table_at m' c R q).trans ?_
      rw [(hagree c).2.2.2]
      rfl

end Cert.Lnf
-- ==== Proof.ProjStep.lean ====
module

public import proofs.«01_k».proof.Proof.Gen.Kernel7Ideal.Value
public import proofs.«01_k».proof.Proof.Lanes
public import Idealize.ShloMosaic.Lib.Pipeline.ValueKit
public import Idealize.ShloMosaic.Lib.Pipeline.ReadBack

@[expose] public section

set_option maxRecDepth 16384

/-! The input projection's call: what its arrays hold when the region starts, what a grid point leaves in its block, and the result. -/

noncomputable section

open Idealize.ShloMosaic Idealize.ShloMosaic.TcCoe Idealize.SL.Sem
open Idealize.ShloMosaic.Pipeline (Dat)

namespace Cert.Kernel7Ideal.Value
open Cert.Kernel7Ideal Cert.Kernel7Ideal.Gen
variable (m : (ℓ : Loc nD τ sig) → Buf (Elt Ideal) ℓ)

/-- A row times the weight's columns over the lanes is the product's columns over the lanes. -/
theorem pick_sum (h : Fin 1024 → EReal) (w : Fin 1024 → Fin 6048 → EReal) (q : Fin 6144) :
    ∑ k, h k * Lanes.pick (w k) q = Lanes.pick (fun l => ∑ k, h k * w k l) q := by
  by_cases hq : q ∈ Set.range Lanes.lane
  · obtain ⟨l, rfl⟩ := hq
    rw [Lanes.pick_lane]
    exact Finset.sum_congr rfl fun k _ => by rw [Lanes.pick_lane]
  · rw [Lanes.pick_off _ q hq]
    exact Finset.sum_eq_zero fun k _ => by rw [Lanes.pick_off _ q hq, mul_zero]

/-- Row `R` of the left factor, and the weight. -/
def hrow (c : Dev nD) (R : Fin 4096) (k : Fin 1024) : EReal := m (c, Proc.tc.devRef main_arg0) (ix3 ⟨R.val / 2048, by omega⟩ ⟨R.val % 2048, by omega⟩ k)
def wgt (c : Dev nD) (k : Fin 1024) (l : Fin 6048) : EReal := m (c, Proc.tc.devRef main_arg1) (ix2 k l)

/-- The transposed weight, cut in four and padded. -/
def gin (c : Dev nD) : FVec Ideal S4x1536x1024 .bf16 :=
  truncf FTy.bf16 (pad S4x1536x1024 ![0, 0, 0] ![0, 24, 0] ![0, 0, 0]
    (shapeCast S4x1512x1024 (transpose S6048x1024 [1, 0] (m (c, Proc.tc.devRef main_arg1) : FVec Ideal S1024x6048 .f32) transposes_S1024x6048_S6048x1024_1_0) shapeCasts_S6048x1024_S4x1512x1024)
    (constant S_ FTy.f32 0#32) pads_S4x1512x1024_S4x1536x1024_000_0240_000 h_S_) bitsLt_bf16_f32

/-- `n` rows of one of the four. -/
abbrev cut (n : ℕ) (off : Fin 3 → ℕ) (G : FVec Ideal S4x1536x1024 .bf16) (h : S4x1536x1024.Slices off ⟨3, ![1, n, 1024]⟩)
    (h' : Shape.ShapeCasts ⟨3, ![1, n, 1024]⟩ ⟨2, ![n, 1024]⟩) : FVec Ideal ⟨2, ![n, 1024]⟩ .bf16 :=
  shapeCast ⟨2, ![n, 1024]⟩ (extractStridedSlice ⟨3, ![1, n, 1024]⟩ off G h) h'

set_option maxHeartbeats 1000000 in
/-- The arranged weight when the region starts. -/
theorem w_arr (c : Dev nD) : V m c main_v20 = concatenate S6144x1024 0
    [⟨S1512x1024, cut 1512 ![0, 0, 0] (gin m c) slices_S4x1536x1024_S1x1512x1024_0_0_0 shapeCasts_S1x1512x1024_S1512x1024⟩,
     ⟨S1512x1024, cut 1512 ![1, 0, 0] (gin m c) slices_S4x1536x1024_S1x1512x1024_1_0_0 shapeCasts_S1x1512x1024_S1512x1024⟩,
     ⟨S1456x1024, cut 1456 ![2, 0, 0] (gin m c) slices_S4x1536x1024_S1x1456x1024_2_0_0 shapeCasts_S1x1456x1024_S1456x1024⟩,
     ⟨S64x1024, broadcastInDim S64x1024 ![] bcast_S_S64x1024 (constant S_ FTy.bf16 0#16)⟩,
     ⟨S32x1024, cut 32 ![2, 1456, 0] (gin m c) slices_S4x1536x1024_S1x32x1024_2_1456_0 shapeCasts_S1x32x1024_S32x1024⟩,
     ⟨S32x1024, broadcastInDim S32x1024 ![] bcast_S_S32x1024 (constant S_ FTy.bf16 0#16)⟩,
     ⟨S24x1024, cut 24 ![2, 1488, 0] (gin m c) slices_S4x1536x1024_S1x24x1024_2_1488_0 shapeCasts_S1x24x1024_S24x1024⟩,
     ⟨S1512x1024, cut 1512 ![3, 0, 0] (gin m c) slices_S4x1536x1024_S1x1512x1024_3_0_0 shapeCasts_S1x1512x1024_S1512x1024⟩]
    concatenates_S1512x1024_S1512x1024_S1456x1024_S64x1024_S32x1024_S32x1024_S24x1024_S1512x1024_S6144x1024_d0 := by
  dsimp only [V, hostOps0]
  after_results_simp
  rfl

theorem w_at (c : Dev nD) (k : Fin 1024) (q : Fin 6144) : ((V m c main_v20) (ix2 q k) : EReal) = Lanes.pick (wgt m c k) q := by
  rw [w_arr]
  unfold gin
  pointwise
  exact Lanes.shards_eq (wgt m c k) q

theorem h_at (c : Dev nD) (R : Fin 4096) (k : Fin 1024) : ((V m c main_v5) (ix2 R k) : EReal) = hrow m c R k := by
  dsimp only [V, hostOps0]
  after_results_simp
  pointwise
  rfl

theorem idx : ∀ t : Fin cfg0.N, win0_0.index t = ![t.val % 4, 0] ∧ win0_1.index t = ![t.val / 4, 0] ∧ win0_2.index t = ![t.val % 4, t.val / 4] :=
  (by decide +kernel : ∀ t : Fin grid0.N, _)

theorem pt_lt (t : Fin cfg0.N) : t.val < 12 := lt_of_lt_of_eq t.isLt N_0

/-- The row and the column of the result that a row and a column of point `t`'s block are. -/
def rowOf (t : Fin cfg0.N) (r : Fin 1024) : Fin 4096 := ⟨1024 * (t.val % 4) + r.val, by omega⟩
def colOf (t : Fin cfg0.N) (q : Fin 2048) : Fin 6144 := ⟨2048 * (t.val / 4) + q.val, by have := pt_lt t; omega⟩

theorem blk_h (c : Dev nD) (t : Fin cfg0.N) (r k : Fin 1024) : (iblk m c 0 t (ix2 r k) : EReal) = hrow m c (rowOf t r) k := by
  refine Eq.trans ?_ (h_at m c (rowOf t r) k)
  have key : ∀ A : FVec Ideal S4096x1024 .bf16, (View.read (Elt Ideal) ((cfg0.win 0).blk t).view A (ix2 r k) : EReal) = A (ix2 (rowOf t r) k) := by
    intro A
    unfold rowOf
    blk_ext [idx t]
  exact key (V m c main_v5)

theorem blk_w (c : Dev nD) (t : Fin cfg0.N) (q : Fin 2048) (k : Fin 1024) : (iblk m c 1 t (ix2 q k) : EReal) = Lanes.pick (wgt m c k) (colOf t q) := by
  refine Eq.trans ?_ (w_at m c k (colOf t q))
  have key : ∀ A : FVec Ideal S6144x1024 .bf16, (View.read (Elt Ideal) ((cfg0.win 1).blk t).view A (ix2 q k) : EReal) = A (ix2 (colOf t q) k) := by
    intro A
    unfold colOf
    blk_ext [idx t]
  exact key (V m c main_v20)

/-- The product over the lanes. -/
def pG (c : Dev nD) : S4096x6144.Idx → EReal := fun i => Lanes.pick (fun l => ∑ k, hrow m c (i 0) k * wgt m c k l) (i 1)

/-- The entries of point `t`'s two blocks. -/
abbrev hb (c : Dev nD) (t : Fin cfg0.N) (r k : Fin 1024) : EReal := iblk m c 0 t (ix2 r k)
abbrev wb (c : Dev nD) (t : Fin cfg0.N) (q : Fin 2048) (k : Fin 1024) : EReal := iblk m c 1 t (ix2 q k)

theorem out_p (c : Dev nD) (t : Fin cfg0.N) (r : Fin 1024) (q : Fin 2048) :
    ((outsAt0 m c t) (ix2 r q) : EReal) = ∑ k, hb m c t r k * wb m c t q k := by
  unfold outsAt0
  frame_out
  pointwise [k0_pay1]

theorem p_arr (c : Dev nD) : (dats m 0 c).arrAt 2 cfg0.N = pG m c := by
  refine (dats m 0 c).arrAt_eq_of_covers 2 _ (by decide +kernel) fun t hf y => ?_
  obtain ⟨r, q, rfl⟩ : ∃ (r : Fin 1024) (q : Fin 2048), y = ix2 r q := ⟨y 0, y 1, eq_ix2 y⟩
  have e : ((win0_2.blk t).view.emb (ix2 r q)) = ix2 (rowOf t r) (colOf t q) := by unfold rowOf colOf; blk_ext [idx t]
  have s : ∑ k, hb m c t r k * wb m c t q k = pG m c (ix2 (rowOf t r) (colOf t q)) :=
    (Finset.sum_congr rfl fun k _ => congrArg₂ (fun a b : EReal => a * b) (blk_h m c t r k) (blk_w m c t q k)).trans (pick_sum (hrow m c (rowOf t r)) (wgt m c) (colOf t q))
  have key := ((out_p m c t r q).trans s).trans (congrArg (pG m c) e).symm
  blk_simp
  rw [after0_2]
  exact key

end Cert.Kernel7Ideal.Value
-- ==== Proof.ProjAlgebraic.lean ====
module

public import proofs.«01_k».proof.Defs
public import proofs.«01_k».proof.Proof.ProjStep
public import proofs.«01_k».proof.Proof.Gen.Reference7Ideal.Run
public import Idealize.ShloMosaic.Lib.Claim

@[expose] public section

set_option maxRecDepth 16384

/-! The kernel and the reference of the input projection's call compute one function over the extended reals. -/

noncomputable section

namespace Cert.Proj

open Idealize.ShloMosaic Idealize.ShloMosaic.TcCoe Idealize.SL.Sem

/-- The value claim of the input projection's call. -/
theorem algebraic : algebraic_Kernel7Ideal_Reference7Ideal := by
  pair_intro
  · run_from Cert.Kernel7Ideal.Value.run_blocks m g
  · run_from Cert.Reference7Ideal.Value.run m' g'
    rw [Kernel7Ideal.Value.p_arr]
    funext i
    obtain ⟨R, q, rfl⟩ : ∃ (R : Fin 4096) (q : Fin 6144), i = ix2 R q := ⟨i 0, i 1, eq_ix2 i⟩
    pointwise
    exact Lanes.columns_eq (fun l => ∑ k, Kernel7Ideal.Value.hrow m c R k * Kernel7Ideal.Value.wgt m c k l) q

end Cert.Proj
-- ==== Proof.AdamStep.lean ====
module

public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

/-! The optimiser's call on the input projection: what its arrays hold when the region starts, what a grid point leaves in its four
    blocks, and the four result arrays. -/

noncomputable section

open Idealize.ShloMosaic Idealize.ShloMosaic.TcCoe Idealize.SL.Sem
open Idealize.ShloMosaic.Pipeline (Dat)

namespace Cert.Kernel8Ideal.Value
open Cert.Kernel8Ideal Cert.Kernel8Ideal.Gen
variable (m : (ℓ : Loc nD τ sig) → Buf (Elt Ideal) ℓ)

/-- A float word's value. -/
abbrev wd (b : BitVec 32) : EReal := Ideal.ofBits .f32 b

/-- The new first and second moment and the step, of a gradient, a weight and the two moments. -/
def mom (g u : EReal) : EReal := wd 0x3F666666#32 * u + wd 0x3DCCCCCD#32 * g
def var (g u : EReal) : EReal := wd 0x3F7FBE77#32 * u + wd 0x3A83126F#32 * (g * g)
def step (g w u v : EReal) : EReal := wd 0xBA83126F#32 *
  (Ideal.div (Ideal.div (mom g u) (wd 0x3F26BD02#32)) (Ideal.sqrt (Ideal.div (var g v) (wd 0x3C231ACC#32)) + wd 0x322BCC77#32) + wd 0x3C23D70A#32 * w)

/-- The weight, the gradient and the two moments, at row `R` and column `q` of the call's layout. -/
def aw (c : Dev nD) (R : Fin 1512) (q : Fin 1024) : EReal := m (c, Proc.tc.devRef main_arg0) (ix3 0 q R)
def ag (c : Dev nD) (R : Fin 1512) (q : Fin 1024) : EReal := m (c, Proc.tc.devRef main_arg1) (ix3 0 q R)
def am (c : Dev nD) (R : Fin 1512) (q : Fin 1024) : EReal := m (c, Proc.tc.devRef main_arg2) (ix3 0 q R)
def av (c : Dev nD) (R : Fin 1512) (q : Fin 1024) : EReal := m (c, Proc.tc.devRef main_arg3) (ix3 0 q R)

theorem g_at (c : Dev nD) (R : Fin 1536) (h : R.val < 1512) (q : Fin 1024) : ((V m c main_v2) (ix2 R q) : EReal) = ag m c ⟨R.val, h⟩ q := by
  dsimp only [V, hostOps0]
  after_results_simp
  pointwise
  rw [dif_pos h]
  rfl

theorem w_at (c : Dev nD) (R : Fin 1512) (q : Fin 1024) : ((V m c main_v4) (ix2 R q) : EReal) = aw m c R q := by
  dsimp only [V, hostOps0]
  after_results_simp
  pointwise
  rfl

theorem m_at (c : Dev nD) (R : Fin 1512) (q : Fin 1024) : ((V m c main_v6) (ix2 R q) : EReal) = am m c R q := by
  dsimp only [V, hostOps0]
  after_results_simp
  pointwise
  rfl

theorem v_at (c : Dev nD) (R : Fin 1512) (q : Fin 1024) : ((V m c main_v8) (ix2 R q) : EReal) = av m c R q := by
  dsimp only [V, hostOps0]
  after_results_simp
  pointwise
  rfl

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem pt_lt (t : Fin cfg0.N) : t.val < 3 := lt_of_lt_of_eq t.isLt N_0

/-- The row of the arrays that row `r` of point `t` is. -/
def rowOf (t : Fin cfg0.N) (r : Fin 504) : Fin 1512 := ⟨504 * t.val + r.val, by have := pt_lt t; omega⟩

theorem blk_g (c : Dev nD) (t : Fin cfg0.N) (r : Fin 504) (q : Fin 1024) : (X0_0 m c t (ix2 r q) : EReal) = ag m c (rowOf t r) q := by
  refine Eq.trans ?_ (g_at m c ⟨(rowOf t r).val, by omega⟩ (rowOf t r).isLt q)
  unfold X0_0 Pipeline.Window.fill
  rw [dif_pos (moved0_0 t _)]
  have key : ∀ A : FVec Ideal S1536x1024 .f32, (View.read (Elt Ideal) ((cfg0.win 0).blk t).view A (fun a => ⟨(ix2 r q a).val,
      ((cfg0.win 0).moved_iff _ (ix2 r q)).mp (moved0_0 t (ix2 r q)) a⟩) : EReal) = A (ix2 ⟨(rowOf t r).val, by omega⟩ q) := by
    intro A
    unfold rowOf
    blk_ext [idx t]
  exact key (V m c main_v2)

/-- A block of 504 rows of an array of 1512, read at a row and a column. -/
theorem blk_w (c : Dev nD) (t : Fin cfg0.N) (r : Fin 504) (q : Fin 1024) : (iblk m c 1 t (ix2 r q) : EReal) = aw m c (rowOf t r) q := by
  refine Eq.trans ?_ (w_at m c (rowOf t r) q)
  have key : ∀ A : FVec Ideal S1512x1024 .f32, (View.read (Elt Ideal) ((cfg0.win 1).blk t).view A (ix2 r q) : EReal) = A (ix2 (rowOf t r) q) := by
    intro A
    unfold rowOf
    blk_ext [idx t]
  exact key (V m c main_v4)

theorem blk_m (c : Dev nD) (t : Fin cfg0.N) (r : Fin 504) (q : Fin 1024) : (iblk m c 2 t (ix2 r q) : EReal) = am m c (rowOf t r) q := by
  refine Eq.trans ?_ (m_at m c (rowOf t r) q)
  have key : ∀ A : FVec Ideal S1512x1024 .f32, (View.read (Elt Ideal) ((cfg0.win 2).blk t).view A (ix2 r q) : EReal) = A (ix2 (rowOf t r) q) := by
    intro A
    unfold rowOf
    blk_ext [idx t]
  exact key (V m c main_v6)

theorem blk_v (c : Dev nD) (t : Fin cfg0.N) (r : Fin 504) (q : Fin 1024) : (iblk m c 3 t (ix2 r q) : EReal) = av m c (rowOf t r) q := by
  refine Eq.trans ?_ (v_at m c (rowOf t r) q)
  have key : ∀ A : FVec Ideal S1512x1024 .f32, (View.read (Elt Ideal) ((cfg0.win 3).blk t).view A (ix2 r q) : EReal) = A (ix2 (rowOf t r) q) := by
    intro A
    unfold rowOf
    blk_ext [idx t]
  exact key (V m c main_v8)

/-- The four results, as arrays. -/
def gG (c : Dev nD) : S1512x1024.Idx → EReal := fun i => ag m c (i 0) (i 1)
def dG (c : Dev nD) : S1512x1024.Idx → EReal := fun i => step (ag m c (i 0) (i 1)) (aw m c (i 0) (i 1)) (am m c (i 0) (i 1)) (av m c (i 0) (i 1))
def mG (c : Dev nD) : S1512x1024.Idx → EReal := fun i => mom (ag m c (i 0) (i 1)) (am m c (i 0) (i 1))
def vG (c : Dev nD) : S1512x1024.Idx → EReal := fun i => var (ag m c (i 0) (i 1)) (av m c (i 0) (i 1))

theorem out_g (c : Dev nD) (t : Fin cfg0.N) (r : Fin 504) (q : Fin 1024) : ((outsAt0 m c t).1 (ix2 r q) : EReal) = ag m c (rowOf t r) q := by
  refine Eq.trans ?_ (blk_g m c t r q)
  unfold outsAt0
  frame_out
  pointwise [k0_pay1]

theorem out_m (c : Dev nD) (t : Fin cfg0.N) (r : Fin 504) (q : Fin 1024) :
    ((outsAt0 m c t).2.2.1 (ix2 r q) : EReal) = mom (ag m c (rowOf t r) q) (am m c (rowOf t r) q) := by
  rw [← blk_g m c t r q, ← blk_m m c t r q]
  unfold outsAt0
  frame_out
  pointwise [k0_pay2, k0_pay1]
  rfl

theorem out_v (c : Dev nD) (t : Fin cfg0.N) (r : Fin 504) (q : Fin 1024) :
    ((outsAt0 m c t).2.2.2 (ix2 r q) : EReal) = var (ag m c (rowOf t r) q) (av m c (rowOf t r) q) := by
  rw [← blk_g m c t r q, ← blk_v m c t r q]
  unfold outsAt0
  frame_out
  pointwise [k0_pay3, k0_pay1]
  rfl

theorem out_d (c : Dev nD) (t : Fin cfg0.N) (r : Fin 504) (q : Fin 1024) :
    ((outsAt0 m c t).2.1 (ix2 r q) : EReal) = step (ag m c (rowOf t r) q) (aw m c (rowOf t r) q) (am m c (rowOf t r) q) (av m c (rowOf t r) q) := by
  rw [← blk_g m c t r q, ← blk_w m c t r q, ← blk_m m c t r q, ← blk_v m c t r q]
  unfold outsAt0
  frame_out
  pointwise [k0_pay4, k0_pay3, k0_pay2, k0_pay1]
  rfl

theorem g_arr (c : Dev nD) : (dats m 0 c).arrAt 4 cfg0.N = gG m c := by
  refine (dats m 0 c).arrAt_eq_of_covers 4 _ (by decide +kernel) fun t hf y => ?_
  obtain ⟨r, q, rfl⟩ : ∃ (r : Fin 504) (q : Fin 1024), y = ix2 r q := ⟨y 0, y 1, eq_ix2 y⟩
  have e : ((win0_4.blk t).view.emb (ix2 r q)) = ix2 (rowOf t r) q := by unfold rowOf; blk_ext [idx t]
  have key := (out_g m c t r q).trans (congrArg (gG m c) e).symm
  blk_simp
  rw [after0_4]
  exact key

theorem d_arr (c : Dev nD) : (dats m 0 c).arrAt 5 cfg0.N = dG m c := by
  refine (dats m 0 c).arrAt_eq_of_covers 5 _ (by decide +kernel) fun t hf y => ?_
  obtain ⟨r, q, rfl⟩ : ∃ (r : Fin 504) (q : Fin 1024), y = ix2 r q := ⟨y 0, y 1, eq_ix2 y⟩
  have e : ((win0_5.blk t).view.emb (ix2 r q)) = ix2 (rowOf t r) q := by unfold rowOf; blk_ext [idx t]
  have key := (out_d m c t r q).trans (congrArg (dG m c) e).symm
  blk_simp
  rw [after0_5]
  exact key

theorem m_arr (c : Dev nD) : (dats m 0 c).arrAt 6 cfg0.N = mG m c := by
  refine (dats m 0 c).arrAt_eq_of_covers 6 _ (by decide +kernel) fun t hf y => ?_
  obtain ⟨r, q, rfl⟩ : ∃ (r : Fin 504) (q : Fin 1024), y = ix2 r q := ⟨y 0, y 1, eq_ix2 y⟩
  have e : ((win0_6.blk t).view.emb (ix2 r q)) = ix2 (rowOf t r) q := by unfold rowOf; blk_ext [idx t]
  have key := (out_m m c t r q).trans (congrArg (mG m c) e).symm
  blk_simp
  rw [after0_6]
  exact key

theorem v_arr (c : Dev nD) : (dats m 0 c).arrAt 7 cfg0.N = vG m c := by
  refine (dats m 0 c).arrAt_eq_of_covers 7 _ (by decide +kernel) fun t hf y => ?_
  obtain ⟨r, q, rfl⟩ : ∃ (r : Fin 504) (q : Fin 1024), y = ix2 r q := ⟨y 0, y 1, eq_ix2 y⟩
  have e : ((win0_7.blk t).view.emb (ix2 r q)) = ix2 (rowOf t r) q := by unfold rowOf; blk_ext [idx t]
  have key := (out_v m c t r q).trans (congrArg (vG m c) e).symm
  blk_simp
  rw [after0_7]
  exact key

end Cert.Kernel8Ideal.Value
-- ==== Proof.AdamAlgebraic.lean ====
module

public import proofs.«01_k».proof.Defs
public import proofs.«01_k».proof.Proof.AdamStep
public import proofs.«01_k».proof.Proof.Gen.Reference8Ideal.Run
public import Idealize.ShloMosaic.Lib.Claim

@[expose] public section

set_option maxRecDepth 16384

/-! The kernel and the reference of the optimiser's call compute one function over the extended reals. -/

noncomputable section

namespace Cert.Adam

open Idealize.ShloMosaic Idealize.ShloMosaic.TcCoe Idealize.SL.Sem
open Cert.Kernel8Ideal.Value (g_arr d_arr m_arr v_arr)

/-- An array of the reference, brought to the call's layout. -/
theorem flip_at (A : FVec Ideal Reference8Ideal.S1x1024x1512 .f32) (R : Fin 1512) (q : Fin 1024) :
    (transpose Reference8Ideal.S1512x1024 [1, 0] (shapeCast Reference8Ideal.S1024x1512 A Reference8Ideal.Gen.shapeCasts_S1x1024x1512_S1024x1512)
      Reference8Ideal.Gen.transposes_S1024x1512_S1512x1024_1_0 (ix2 R q) : EReal) = A (ix3 0 q R) := by
  pointwise

/-- The value claim of the optimiser's call: the gradient passed on, the step, and the two moments. -/
theorem algebraic : algebraic_Kernel8Ideal_Reference8Ideal := by
  pair_intro
  · run_from Cert.Kernel8Ideal.Value.run_blocks m g
  · run_from Cert.Reference8Ideal.Value.run m' g'
    · rw [g_arr]
      funext i
      obtain ⟨R, q, rfl⟩ : ∃ (R : Fin 1512) (q : Fin 1024), i = ix2 R q := ⟨i 0, i 1, eq_ix2 i⟩
      exact (flip_at _ R q).trans rfl
    · rw [d_arr]
      funext i
      obtain ⟨R, q, rfl⟩ : ∃ (R : Fin 1512) (q : Fin 1024), i = ix2 R q := ⟨i 0, i 1, eq_ix2 i⟩
      exact (flip_at _ R q).trans rfl
    · rw [m_arr]
      funext i
      obtain ⟨R, q, rfl⟩ : ∃ (R : Fin 1512) (q : Fin 1024), i = ix2 R q := ⟨i 0, i 1, eq_ix2 i⟩
      exact (flip_at _ R q).trans rfl
    · rw [v_arr]
      funext i
      obtain ⟨R, q, rfl⟩ : ∃ (R : Fin 1512) (q : Fin 1024), i = ix2 R q := ⟨i 0, i 1, eq_ix2 i⟩
      exact (flip_at _ R q).trans rfl

end Cert.Adam
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.DhAlgebraic
public import proofs.«01_k».proof.Proof.MemAlgebraic
public import proofs.«01_k».proof.Proof.MlaAlgebraic
public import proofs.«01_k».proof.Proof.LfwAlgebraic
public import proofs.«01_k».proof.Proof.MfwAlgebraic
public import proofs.«01_k».proof.Proof.LnfAlgebraic
public import proofs.«01_k».proof.Proof.ProjAlgebraic
public import proofs.«01_k».proof.Proof.AdamAlgebraic

@[expose] public section

noncomputable section

namespace Cert.Proof

open Idealize.ShloMosaic Idealize.SL.Sem

/-- The reference of the input norm's gradient terminates, leaves its arguments and ends with every semaphore at zero. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

/-- The reference of the memory attention's gradients terminates, leaves its arguments and ends with every semaphore at zero. -/
theorem frame_reference2 : Cert.quiescent_Reference2Ideal := fun m ρ _ =>
  (θ_run Cert.Reference2Ideal.defs _ _).mono (fun r h => ⟨fun c => (h c).2.2.2, sem_eq_zero_of_no_sems (by decide) r.2⟩) (Cert.Reference2Ideal.Value.run m ρ)

/-- The reference of the latent attention's gradients terminates, leaves its arguments and ends with every semaphore at zero. -/
theorem frame_reference3 : Cert.quiescent_Reference3Ideal := fun m ρ _ =>
  (θ_run Cert.Reference3Ideal.defs _ _).mono (fun r h => ⟨fun c => (h c).2.2.2, sem_eq_zero_of_no_sems (by decide) r.2⟩) (Cert.Reference3Ideal.Value.run m ρ)

/-- The reference of the latent attention terminates, leaves its arguments and ends with every semaphore at zero. -/
theorem frame_reference4 : Cert.quiescent_Reference4Ideal := fun m ρ _ =>
  (θ_run Cert.Reference4Ideal.defs _ _).mono (fun r h => ⟨fun c => (h c).2.2, sem_eq_zero_of_no_sems (by decide) r.2⟩) (Cert.Reference4Ideal.Value.run m ρ)

/-- The reference of the memory attention terminates, leaves its arguments and ends with every semaphore at zero. -/
theorem frame_reference5 : Cert.quiescent_Reference5Ideal := fun m ρ _ =>
  (θ_run Cert.Reference5Ideal.defs _ _).mono (fun r h => ⟨fun c => (h c).2.2, sem_eq_zero_of_no_sems (by decide) r.2⟩) (Cert.Reference5Ideal.Value.run m ρ)

/-- The reference of the input norm and the rotary table terminates, leaves its arguments and ends with every semaphore at zero. -/
theorem frame_reference6 : Cert.quiescent_Reference6Ideal := fun m ρ _ =>
  (θ_run Cert.Reference6Ideal.defs _ _).mono (fun r h => ⟨fun c => (h c).2.2.2, sem_eq_zero_of_no_sems (by decide) r.2⟩) (Cert.Reference6Ideal.Value.run m ρ)

/-- The reference of the input projection terminates, leaves its arguments and ends with every semaphore at zero. -/
theorem frame_reference7 : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The reference of the optimiser's call terminates, leaves its arguments and ends with every semaphore at zero. -/
theorem frame_reference8 : Cert.quiescent_Reference8Ideal := fun m ρ _ =>
  (θ_run Cert.Reference8Ideal.defs _ _).mono (fun r h => ⟨fun c => (h c).2.2.2.2, sem_eq_zero_of_no_sems (by decide) r.2⟩) (Cert.Reference8Ideal.Value.run m ρ)

/-- The named constants of the memory attention's gradients are the values of their words. -/
theorem preserves2 : Cert.preserves_Kernel2_Kernel2Ideal :=
  ⟨IdealRules.named_const.statement Cert.Kernel2Ideal.κ "scale" .f32 0x3DB504F3#32 (((Real.sqrt 128)⁻¹ : ℝ) : EReal) rfl,
    IdealRules.named_const.statement Cert.Kernel2Ideal.κ "ln2" .f32 0x3F317218#32 ((Real.log 2 : ℝ) : EReal) rfl⟩

/-- The named constants of the latent attention's gradients are the values of their words. -/
theorem preserves3 : Cert.preserves_Kernel3_Kernel3Ideal :=
  ⟨IdealRules.named_const.statement Cert.Kernel3Ideal.κ "scale" .f32 0x3DD105EC#32 (((Real.sqrt 96)⁻¹ : ℝ) : EReal) rfl,
    IdealRules.named_const.statement Cert.Kernel3Ideal.κ "ln2" .f32 0x3F317218#32 ((Real.log 2 : ℝ) : EReal) rfl⟩

/-- The named constant of the latent attention is the value of its word. -/
theorem preserves4 : Cert.preserves_Kernel4_Kernel4Ideal :=
  IdealRules.named_const.statement Cert.Kernel4Ideal.κ "log2e" .f32 0x3FB8AA3B#32 (((Real.log 2)⁻¹ : ℝ) : EReal) rfl

/-- The named constant of the memory attention is the value of its word. -/
theorem preserves5 : Cert.preserves_Kernel5_Kernel5Ideal :=
  IdealRules.named_const.statement Cert.Kernel5Ideal.κ "log2e" .f32 0x3FB8AA3B#32 (((Real.log 2)⁻¹ : ℝ) : EReal) rfl

/-- The named constant of the dilated attention's gradients is the value of its word. -/
theorem preserves9 : Cert.preserves_Kernel9_Kernel9Ideal :=
  IdealRules.named_const.statement Cert.Kernel9Ideal.κ "ln2" .f32 0x3F317218#32 ((Real.log 2 : ℝ) : EReal) rfl

/-- The named constant of the dilated attention is the value of its word. -/
theorem preserves10 : Cert.preserves_Kernel10_Kernel10Ideal :=
  IdealRules.named_const.statement Cert.Kernel10Ideal.κ "log2e" .f32 0x3FB8AA3B#32 (((Real.log 2)⁻¹ : ℝ) : EReal) rfl

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Kernel10.Gen.facts, Cert.Kernel10Ideal.Gen.facts,
    Cert.Pre_fin.facts, Cert.Pre_fin2.facts, Cert.Pre_fin3.facts, Cert.Pre_fin4.facts, Cert.Pre_fin5.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, fun m ρ _ => Cert.Kernel3Ideal.Gen.frame m ρ,
    frame_reference3, fun m ρ _ => frame_reference3 m ρ trivial,
    fun m ρ _ => Cert.Kernel4.Gen.frame m ρ, fun m ρ _ => Cert.Kernel4Ideal.Gen.frame m ρ, fun m ρ _ => Cert.Kernel4Ideal.Gen.frame m ρ,
    frame_reference4, fun m ρ _ => frame_reference4 m ρ trivial,
    fun m ρ _ => Cert.Kernel5.Gen.frame m ρ, fun m ρ _ => Cert.Kernel5Ideal.Gen.frame m ρ, fun m ρ _ => Cert.Kernel5Ideal.Gen.frame m ρ,
    frame_reference5, fun m ρ _ => frame_reference5 m ρ trivial,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ,
    fun m ρ _ => Cert.Kernel10.Gen.frame m ρ, fun m ρ _ => Cert.Kernel10Ideal.Gen.frame m ρ,
    trivial, Cert.Dh.algebraic, preserves2, Cert.Mem.algebraic, preserves3, Cert.Mla.algebraic,
    preserves4, Cert.Lfw.algebraic, preserves5, Cert.Mfw.algebraic,
    trivial, Cert.Lnf.algebraic, trivial, Cert.Proj.algebraic, trivial, Cert.Adam.algebraic, preserves9, preserves10⟩

end Cert.Proof

end
